-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_6144" .f32 0x392AAAAB#32 ((6144⁻¹ : ℝ) : EReal)

def algebraic_KernelIdeal_ReferenceIdeal [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_v229) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal (hKernelIdeal := hKernelIdeal) (hReferenceIdeal := hReferenceIdeal) (hPre_edges_in_range := hPre_edges_in_range)
-- ==== Pre_edges_in_range.lean ====
abbrev S2048x128 : Shape := ⟨2, ![2048, 128]⟩
abbrev S2048x3 : Shape := ⟨2, ![2048, 3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x3 : Shape := ⟨2, ![128, 3]⟩
abbrev S3 : Shape := ⟨1, ![3]⟩
abbrev S2x32768 : Shape := ⟨2, ![2, 32768]⟩
abbrev S2048 : Shape := ⟨1, ![2048]⟩
abbrev S_ : Shape := ⟨0, ![]⟩

class Facts : Prop where
  bcast_S_S2x32768 : S_.BroadcastsInDim S2x32768 (![] : Fin 0 → Fin S2x32768.rank)
  reducesTo_S2x32768_S_d0_1 : S2x32768.ReducesTo [0, 1] S_
  h_S_ : 0 < S_.numel

variable [Facts]

def fn {F : FTy → Type} [FloatOps F] (main_arg0 : FVec F S2048x128 .f32) (main_arg1 : FVec F S2048x3 .f32) (main_arg2 : FVec F S3x128x128 .f32) (main_arg3 : FVec F S3x128 .f32) (main_arg4 : FVec F S128x128 .f32) (main_arg5 : FVec F S128 .f32) (main_arg6 : FVec F S128x3 .f32) (main_arg7 : FVec F S3 .f32) (main_arg8 : IVec S2x32768 32) (main_arg9 : IVec S2048 32) : IVec S_ 1 :=
  let main_c : IVec S_ 32 := constantI S_ 32 0#32
  let main_v0 : IVec S2x32768 32 := broadcastInDim S2x32768 ![] bcast_S_S2x32768 main_c
  let main_v1 : IVec S2x32768 1 := cmpi .sge main_arg8 main_v0
  let main_c_0 : IVec S_ 32 := constantI S_ 32 2048#32
  let main_v2 : IVec S2x32768 32 := broadcastInDim S2x32768 ![] bcast_S_S2x32768 main_c_0
  let main_v3 : IVec S2x32768 1 := cmpi .slt main_arg8 main_v2
  let main_v4 : IVec S2x32768 1 := andi main_v1 main_v3
  let main_c_1 : IVec S_ 1 := constantI S_ 1 1#1
  let main_v5 : IVec S_ 1 := (fun x v => Host.reduce IntOp.andi x v reducesTo_S2x32768_S_d0_1 h_S_) main_v4 main_c_1
  main_v5
-- ==== Kernel.lean ====
abbrev S2048x128 : Shape := ⟨2, ![2048, 128]⟩
abbrev S2048x3 : Shape := ⟨2, ![2048, 3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x3 : Shape := ⟨2, ![128, 3]⟩
abbrev S3 : Shape := ⟨1, ![3]⟩
abbrev S2x32768 : Shape := ⟨2, ![2, 32768]⟩
abbrev S2048 : Shape := ⟨1, ![2048]⟩
abbrev S4194304 : Shape := ⟨1, ![4194304]⟩
abbrev S8192 : Shape := ⟨1, ![8192]⟩
abbrev S65536 : Shape := ⟨1, ![65536]⟩
abbrev S16 : Shape := ⟨1, ![16]⟩
abbrev S_ : Shape := ⟨0, ![]⟩
abbrev S1x8192 : Shape := ⟨2, ![1, 8192]⟩
abbrev S2048x2048 : Shape := ⟨2, ![2048, 2048]⟩
abbrev S1x128 : Shape := ⟨2, ![1, 128]⟩
abbrev S1x3 : Shape := ⟨2, ![1, 3]⟩
abbrev S1x2048 : Shape := ⟨2, ![1, 2048]⟩
abbrev S16x128 : Shape := ⟨2, ![16, 128]⟩
abbrev S1x1 : Shape := ⟨2, ![1, 1]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S16x2048 : Shape := ⟨2, ![16, 2048]⟩
abbrev S16x1 : Shape := ⟨2, ![16, 1]⟩
abbrev S1x2048x3 : Shape := ⟨3, ![1, 2048, 3]⟩
abbrev S1 : Shape := ⟨1, ![1]⟩
abbrev S1x1x1 : Shape := ⟨3, ![1, 1, 1]⟩
abbrev S3x2048 : Shape := ⟨2, ![3, 2048]⟩
abbrev S2048x256 : Shape := ⟨2, ![2048, 256]⟩
abbrev S1x256x2048 : Shape := ⟨3, ![1, 256, 2048]⟩

abbrev nBuf : Table → Nat
  | .hbm => 21
  | .local .tc .vmem => 17
  | .local .scVector .vmem => 3
  | _ => 0

abbrev bufTy : (tb : Table) → Fin (nBuf tb) → BufTy
  | .hbm, ⟨0, _⟩ => ⟨S2048x128, .f32⟩
  | .hbm, ⟨1, _⟩ => ⟨S2048x3, .f32⟩
  | .hbm, ⟨2, _⟩ => ⟨S3x128x128, .f32⟩
  | .hbm, ⟨3, _⟩ => ⟨S3x128, .f32⟩
  | .hbm, ⟨4, _⟩ => ⟨S128x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S2x32768, .i32⟩
  | .hbm, ⟨9, _⟩ => ⟨S2048, .i32⟩
  | .hbm, ⟨10, _⟩ => ⟨S4194304, .f32⟩
  | .hbm, ⟨11, _⟩ => ⟨S2048x2048, .f32⟩
  | .hbm, ⟨12, _⟩ => ⟨S1x128, .f32⟩
  | .hbm, ⟨13, _⟩ => ⟨S1x3, .f32⟩
  | .hbm, ⟨14, _⟩ => ⟨S1x2048, .i32⟩
  | .hbm, ⟨15, _⟩ => ⟨S2048x3, .f32⟩
  | .hbm, ⟨16, _⟩ => ⟨S16x128, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S_, .f32⟩
  | .local .tc .vmem, ⟨0, _⟩ => ⟨S2048x2048, .f32⟩
  | .local .tc .vmem, ⟨1, _⟩ => ⟨S2048x128, .f32⟩
  | .local .tc .vmem, ⟨2, _⟩ => ⟨S3x128x128, .f32⟩
  | .local .tc .vmem, ⟨3, _⟩ => ⟨S3x128, .f32⟩
  | .local .tc .vmem, ⟨4, _⟩ => ⟨S128x128, .f32⟩
  | .local .tc .vmem, ⟨5, _⟩ => ⟨S1x128, .f32⟩
  | .local .tc .vmem, ⟨6, _⟩ => ⟨S128x3, .f32⟩
  | .local .tc .vmem, ⟨7, _⟩ => ⟨S1x3, .f32⟩
  | .local .tc .vmem, ⟨8, _⟩ => ⟨S1x2048, .i32⟩
  | .local .tc .vmem, ⟨9, _⟩ => ⟨S2048x3, .f32⟩
  | .local .tc .vmem, ⟨10, _⟩ => ⟨S2048x3, .f32⟩
  | .local .tc .vmem, ⟨11, _⟩ => ⟨S16x128, .f32⟩
  | .local .tc .vmem, ⟨12, _⟩ => ⟨S1x1, .f32⟩
  | .local .tc .vmem, ⟨13, _⟩ => ⟨S1x1, .f32⟩
  | .local .tc .vmem, ⟨14, _⟩ => ⟨S2048x128, .f32⟩
  | .local .tc .vmem, ⟨15, _⟩ => ⟨S2048x128, .f32⟩
  | .local .tc .vmem, ⟨16, _⟩ => ⟨S2048x2048, .bf16⟩
  | .local .scVector .vmem, ⟨0, _⟩ => ⟨S8192, .i32⟩
  | .local .scVector .vmem, ⟨1, _⟩ => ⟨S8192, .i32⟩
  | .local .scVector .vmem, ⟨2, _⟩ => ⟨S65536, .f32⟩
  | _, _ => ⟨S2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v6 : Ref sig .tc := ⟨.hbm, 19, rfl⟩
abbrev main_v7 : Ref sig .tc := ⟨.hbm, 20, rfl⟩
abbrev main_arg8_scv : Ref sig .scVector := ⟨.hbm, 8, rfl⟩
abbrev main_v0_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c512_i32 : BitVec 32 := 512#32
  let v6 : BitVec 32 := Scalar.addi c0_i32_2 c512_i32
  let c1_i32 : BitVec 32 := 1#32
  ⟨c0_i32_2, v6, c1_i32⟩
def k0_off1 (k0_t1 : Fin k0_t1_loop.trips) (c0_i32_67 : BitVec 32) : Fin 1 → Nat :=
  let c0_i32_2 : BitVec 32 := 0#32
  let c1_i32 : BitVec 32 := 1#32
  let arg7 : BitVec 32 := Scf.iv c0_i32_2 c1_i32 k0_t1
  let c128_i32_66 : BitVec 32 := 128#32
  let v20 : BitVec 32 := Scalar.muli arg7 c128_i32_66
  let v21 : BitVec 32 := Scalar.addi v20 c0_i32_67
  let v22 : Index := Scalar.indexCast v21
  ![v22.toNat]
@[reducible] def k0_t2_loop : Scf.Loop 32 :=
  let c0_i32_7 : BitVec 32 := 0#32
  let c128_i32 : BitVec 32 := 128#32
  let v7 : BitVec 32 := Scalar.addi c0_i32_7 c128_i32
  let c1_i32_8 : BitVec 32 := 1#32
  ⟨c0_i32_7, v7, c1_i32_8⟩
def k0_off2 (k0_t2 : Fin k0_t2_loop.trips) : Fin 1 → Nat :=
  let c0_i32_7 : BitVec 32 := 0#32
  let c1_i32_8 : BitVec 32 := 1#32
  let arg7 : BitVec 32 := Scf.iv c0_i32_7 c1_i32_8 k0_t2
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk1 (v38 : IVec S16 32) : Prop :=
  (∀ a x, ((![v38] : Fin 1 → IVec S16 32) a x).toNat < S65536.size a)
theorem k0_idx1_inb : ∀ (v38 : IVec S16 32) (k0_hw1 : k0_chk1 v38), ∀ a x, ((![v38] : Fin 1 → IVec S16 32) a x).toNat < S65536.size a := fun v38 k0_hw1 => k0_hw1
def k0_off3 (k0_t2 : Fin k0_t2_loop.trips) : Fin 1 → Nat :=
  let c0_i32_7 : BitVec 32 := 0#32
  let c1_i32_8 : BitVec 32 := 1#32
  let arg7 : BitVec 32 := Scf.iv c0_i32_7 c1_i32_8 k0_t2
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk2 (v57 : IVec S16 32) : Prop :=
  (∀ a x, ((![v57] : Fin 1 → IVec S16 32) a x).toNat < S65536.size a)
theorem k0_idx2_inb : ∀ (v57 : IVec S16 32) (k0_hw2 : k0_chk2 v57), ∀ a x, ((![v57] : Fin 1 → IVec S16 32) a x).toNat < S65536.size a := fun v57 k0_hw2 => k0_hw2
def k0_off4 (k0_t2 : Fin k0_t2_loop.trips) : Fin 1 → Nat :=
  let c0_i32_7 : BitVec 32 := 0#32
  let c1_i32_8 : BitVec 32 := 1#32
  let arg7 : BitVec 32 := Scf.iv c0_i32_7 c1_i32_8 k0_t2
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk3 (v76 : IVec S16 32) : Prop :=
  (∀ a x, ((![v76] : Fin 1 → IVec S16 32) a x).toNat < S65536.size a)
theorem k0_idx3_inb : ∀ (v76 : IVec S16 32) (k0_hw3 : k0_chk3 v76), ∀ a x, ((![v76] : Fin 1 → IVec S16 32) a x).toNat < S65536.size a := fun v76 k0_hw3 => k0_hw3
def k0_off5 (k0_t2 : Fin k0_t2_loop.trips) : Fin 1 → Nat :=
  let c0_i32_7 : BitVec 32 := 0#32
  let c1_i32_8 : BitVec 32 := 1#32
  let arg7 : BitVec 32 := Scf.iv c0_i32_7 c1_i32_8 k0_t2
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk4 (v95 : IVec S16 32) : Prop :=
  (∀ a x, ((![v95] : Fin 1 → IVec S16 32) a x).toNat < S65536.size a)
theorem k0_idx4_inb : ∀ (v95 : IVec S16 32) (k0_hw4 : k0_chk4 v95), ∀ a x, ((![v95] : Fin 1 → IVec S16 32) a x).toNat < S65536.size a := fun v95 k0_hw4 => k0_hw4
@[reducible] def k0_t3_loop : Scf.Loop 32 :=
  let c0_i32_13 : BitVec 32 := 0#32
  let c128_i32_14 : BitVec 32 := 128#32
  let v8 : BitVec 32 := Scalar.addi c0_i32_13 c128_i32_14
  let c1_i32_15 : BitVec 32 := 1#32
  ⟨c0_i32_13, v8, c1_i32_15⟩
def k0_off6 (k0_t3 : Fin k0_t3_loop.trips) : Fin 1 → Nat :=
  let c0_i32_13 : BitVec 32 := 0#32
  let c1_i32_15 : BitVec 32 := 1#32
  let arg7 : BitVec 32 := Scf.iv c0_i32_13 c1_i32_15 k0_t3
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk5 (v38 : IVec S16 32) : Prop :=
  (∀ a x, ((![v38] : Fin 1 → IVec S16 32) a x).toNat < S65536.size a)
theorem k0_idx5_inb : ∀ (v38 : IVec S16 32) (k0_hw5 : k0_chk5 v38), ∀ a x, ((![v38] : Fin 1 → IVec S16 32) a x).toNat < S65536.size a := fun v38 k0_hw5 => k0_hw5
def k0_off7 (k0_t3 : Fin k0_t3_loop.trips) : Fin 1 → Nat :=
  let c0_i32_13 : BitVec 32 := 0#32
  let c1_i32_15 : BitVec 32 := 1#32
  let arg7 : BitVec 32 := Scf.iv c0_i32_13 c1_i32_15 k0_t3
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk6 (v57 : IVec S16 32) : Prop :=
  (∀ a x, ((![v57] : Fin 1 → IVec S16 32) a x).toNat < S65536.size a)
theorem k0_idx6_inb : ∀ (v57 : IVec S16 32) (k0_hw6 : k0_chk6 v57), ∀ a x, ((![v57] : Fin 1 → IVec S16 32) a x).toNat < S65536.size a := fun v57 k0_hw6 => k0_hw6
def k0_off8 (k0_t3 : Fin k0_t3_loop.trips) : Fin 1 → Nat :=
  let c0_i32_13 : BitVec 32 := 0#32
  let c1_i32_15 : BitVec 32 := 1#32
  let arg7 : BitVec 32 := Scf.iv c0_i32_13 c1_i32_15 k0_t3
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk7 (v76 : IVec S16 32) : Prop :=
  (∀ a x, ((![v76] : Fin 1 → IVec S16 32) a x).toNat < S65536.size a)
theorem k0_idx7_inb : ∀ (v76 : IVec S16 32) (k0_hw7 : k0_chk7 v76), ∀ a x, ((![v76] : Fin 1 → IVec S16 32) a x).toNat < S65536.size a := fun v76 k0_hw7 => k0_hw7
def k0_off9 (k0_t3 : Fin k0_t3_loop.trips) : Fin 1 → Nat :=
  let c0_i32_13 : BitVec 32 := 0#32
  let c1_i32_15 : BitVec 32 := 1#32
  let arg7 : BitVec 32 := Scf.iv c0_i32_13 c1_i32_15 k0_t3
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk8 (v95 : IVec S16 32) : Prop :=
  (∀ a x, ((![v95] : Fin 1 → IVec S16 32) a x).toNat < S65536.size a)
theorem k0_idx8_inb : ∀ (v95 : IVec S16 32) (k0_hw8 : k0_chk8 v95), ∀ a x, ((![v95] : Fin 1 → IVec S16 32) a x).toNat < S65536.size a := fun v95 k0_hw8 => k0_hw8
@[reducible] def k0_t4_loop : Scf.Loop 32 :=
  let c0_i32_20 : BitVec 32 := 0#32
  let c128_i32_21 : BitVec 32 := 128#32
  let v9 : BitVec 32 := Scalar.addi c0_i32_20 c128_i32_21
  let c1_i32_22 : BitVec 32 := 1#32
  ⟨c0_i32_20, v9, c1_i32_22⟩
def k0_off10 (k0_t4 : Fin k0_t4_loop.trips) : Fin 1 → Nat :=
  let c0_i32_20 : BitVec 32 := 0#32
  let c1_i32_22 : BitVec 32 := 1#32
  let arg7 : BitVec 32 := Scf.iv c0_i32_20 c1_i32_22 k0_t4
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk9 (v38 : IVec S16 32) : Prop :=
  (∀ a x, ((![v38] : Fin 1 → IVec S16 32) a x).toNat < S65536.size a)
theorem k0_idx9_inb : ∀ (v38 : IVec S16 32) (k0_hw9 : k0_chk9 v38), ∀ a x, ((![v38] : Fin 1 → IVec S16 32) a x).toNat < S65536.size a := fun v38 k0_hw9 => k0_hw9
def k0_off11 (k0_t4 : Fin k0_t4_loop.trips) : Fin 1 → Nat :=
  let c0_i32_20 : BitVec 32 := 0#32
  let c1_i32_22 : BitVec 32 := 1#32
  let arg7 : BitVec 32 := Scf.iv c0_i32_20 c1_i32_22 k0_t4
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk10 (v57 : IVec S16 32) : Prop :=
  (∀ a x, ((![v57] : Fin 1 → IVec S16 32) a x).toNat < S65536.size a)
theorem k0_idx10_inb : ∀ (v57 : IVec S16 32) (k0_hw10 : k0_chk10 v57), ∀ a x, ((![v57] : Fin 1 → IVec S16 32) a x).toNat < S65536.size a := fun v57 k0_hw10 => k0_hw10
def k0_off12 (k0_t4 : Fin k0_t4_loop.trips) : Fin 1 → Nat :=
  let c0_i32_20 : BitVec 32 := 0#32
  let c1_i32_22 : BitVec 32 := 1#32
  let arg7 : BitVec 32 := Scf.iv c0_i32_20 c1_i32_22 k0_t4
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk11 (v76 : IVec S16 32) : Prop :=
  (∀ a x, ((![v76] : Fin 1 → IVec S16 32) a x).toNat < S65536.size a)
theorem k0_idx11_inb : ∀ (v76 : IVec S16 32) (k0_hw11 : k0_chk11 v76), ∀ a x, ((![v76] : Fin 1 → IVec S16 32) a x).toNat < S65536.size a := fun v76 k0_hw11 => k0_hw11
def k0_off13 (k0_t4 : Fin k0_t4_loop.trips) : Fin 1 → Nat :=
  let c0_i32_20 : BitVec 32 := 0#32
  let c1_i32_22 : BitVec 32 := 1#32
  let arg7 : BitVec 32 := Scf.iv c0_i32_20 c1_i32_22 k0_t4
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk12 (v95 : IVec S16 32) : Prop :=
  (∀ a x, ((![v95] : Fin 1 → IVec S16 32) a x).toNat < S65536.size a)
theorem k0_idx12_inb : ∀ (v95 : IVec S16 32) (k0_hw12 : k0_chk12 v95), ∀ a x, ((![v95] : Fin 1 → IVec S16 32) a x).toNat < S65536.size a := fun v95 k0_hw12 => k0_hw12
@[reducible] def k0_t5_loop : Scf.Loop 32 :=
  let c0_i32_27 : BitVec 32 := 0#32
  let c128_i32_28 : BitVec 32 := 128#32
  let v10 : BitVec 32 := Scalar.addi c0_i32_27 c128_i32_28
  let c1_i32_29 : BitVec 32 := 1#32
  ⟨c0_i32_27, v10, c1_i32_29⟩
def k0_off14 (k0_t5 : Fin k0_t5_loop.trips) : Fin 1 → Nat :=
  let c0_i32_27 : BitVec 32 := 0#32
  let c1_i32_29 : BitVec 32 := 1#32
  let arg7 : BitVec 32 := Scf.iv c0_i32_27 c1_i32_29 k0_t5
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk13 (v38 : IVec S16 32) : Prop :=
  (∀ a x, ((![v38] : Fin 1 → IVec S16 32) a x).toNat < S65536.size a)
theorem k0_idx13_inb : ∀ (v38 : IVec S16 32) (k0_hw13 : k0_chk13 v38), ∀ a x, ((![v38] : Fin 1 → IVec S16 32) a x).toNat < S65536.size a := fun v38 k0_hw13 => k0_hw13
def k0_off15 (k0_t5 : Fin k0_t5_loop.trips) : Fin 1 → Nat :=
  let c0_i32_27 : BitVec 32 := 0#32
  let c1_i32_29 : BitVec 32 := 1#32
  let arg7 : BitVec 32 := Scf.iv c0_i32_27 c1_i32_29 k0_t5
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk14 (v57 : IVec S16 32) : Prop :=
  (∀ a x, ((![v57] : Fin 1 → IVec S16 32) a x).toNat < S65536.size a)
theorem k0_idx14_inb : ∀ (v57 : IVec S16 32) (k0_hw14 : k0_chk14 v57), ∀ a x, ((![v57] : Fin 1 → IVec S16 32) a x).toNat < S65536.size a := fun v57 k0_hw14 => k0_hw14
def k0_off16 (k0_t5 : Fin k0_t5_loop.trips) : Fin 1 → Nat :=
  let c0_i32_27 : BitVec 32 := 0#32
  let c1_i32_29 : BitVec 32 := 1#32
  let arg7 : BitVec 32 := Scf.iv c0_i32_27 c1_i32_29 k0_t5
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk15 (v76 : IVec S16 32) : Prop :=
  (∀ a x, ((![v76] : Fin 1 → IVec S16 32) a x).toNat < S65536.size a)
theorem k0_idx15_inb : ∀ (v76 : IVec S16 32) (k0_hw15 : k0_chk15 v76), ∀ a x, ((![v76] : Fin 1 → IVec S16 32) a x).toNat < S65536.size a := fun v76 k0_hw15 => k0_hw15
def k0_off17 (k0_t5 : Fin k0_t5_loop.trips) : Fin 1 → Nat :=
  let c0_i32_27 : BitVec 32 := 0#32
  let c1_i32_29 : BitVec 32 := 1#32
  let arg7 : BitVec 32 := Scf.iv c0_i32_27 c1_i32_29 k0_t5
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk16 (v95 : IVec S16 32) : Prop :=
  (∀ a x, ((![v95] : Fin 1 → IVec S16 32) a x).toNat < S65536.size a)
theorem k0_idx16_inb : ∀ (v95 : IVec S16 32) (k0_hw16 : k0_chk16 v95), ∀ a x, ((![v95] : Fin 1 → IVec S16 32) a x).toNat < S65536.size a := fun v95 k0_hw16 => k0_hw16
def k0_off18 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v4 : BitVec 32 := Scalar.muli v1 c64_i32
  let v5 : BitVec 32 := Scalar.addi v4 c0_i32
  let c2048_i32 : BitVec 32 := 2048#32
  let v11 : BitVec 32 := Scalar.muli v5 c2048_i32
  ![v11.toNat]
@[reducible] def k0_t6_loop : Scf.Loop 32 :=
  let c0_i32_33 : BitVec 32 := 0#32
  let c512_i32_34 : BitVec 32 := 512#32
  let v14 : BitVec 32 := Scalar.addi c0_i32_33 c512_i32_34
  let c1_i32_35 : BitVec 32 := 1#32
  ⟨c0_i32_33, v14, c1_i32_35⟩
def k0_off19 (k0_t6 : Fin k0_t6_loop.trips) (c0_i32_67 : BitVec 32) : Fin 1 → Nat :=
  let c0_i32_33 : BitVec 32 := 0#32
  let c1_i32_35 : BitVec 32 := 1#32
  let arg7 : BitVec 32 := Scf.iv c0_i32_33 c1_i32_35 k0_t6
  let c128_i32_66 : BitVec 32 := 128#32
  let v20 : BitVec 32 := Scalar.muli arg7 c128_i32_66
  let v21 : BitVec 32 := Scalar.addi v20 c0_i32_67
  let v22 : Index := Scalar.indexCast v21
  ![v22.toNat]
@[reducible] def k0_t7_loop : Scf.Loop 32 :=
  let c0_i32_40 : BitVec 32 := 0#32
  let c128_i32_41 : BitVec 32 := 128#32
  let v15 : BitVec 32 := Scalar.addi c0_i32_40 c128_i32_41
  let c1_i32_42 : BitVec 32 := 1#32
  ⟨c0_i32_40, v15, c1_i32_42⟩
def k0_off20 (k0_t7 : Fin k0_t7_loop.trips) : Fin 1 → Nat :=
  let c0_i32_40 : BitVec 32 := 0#32
  let c1_i32_42 : BitVec 32 := 1#32
  let arg7 : BitVec 32 := Scf.iv c0_i32_40 c1_i32_42 k0_t7
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk17 (v38 : IVec S16 32) : Prop :=
  (∀ a x, ((![v38] : Fin 1 → IVec S16 32) a x).toNat < S65536.size a)
theorem k0_idx17_inb : ∀ (v38 : IVec S16 32) (k0_hw17 : k0_chk17 v38), ∀ a x, ((![v38] : Fin 1 → IVec S16 32) a x).toNat < S65536.size a := fun v38 k0_hw17 => k0_hw17
def k0_off21 (k0_t7 : Fin k0_t7_loop.trips) : Fin 1 → Nat :=
  let c0_i32_40 : BitVec 32 := 0#32
  let c1_i32_42 : BitVec 32 := 1#32
  let arg7 : BitVec 32 := Scf.iv c0_i32_40 c1_i32_42 k0_t7
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk18 (v57 : IVec S16 32) : Prop :=
  (∀ a x, ((![v57] : Fin 1 → IVec S16 32) a x).toNat < S65536.size a)
theorem k0_idx18_inb : ∀ (v57 : IVec S16 32) (k0_hw18 : k0_chk18 v57), ∀ a x, ((![v57] : Fin 1 → IVec S16 32) a x).toNat < S65536.size a := fun v57 k0_hw18 => k0_hw18
def k0_off22 (k0_t7 : Fin k0_t7_loop.trips) : Fin 1 → Nat :=
  let c0_i32_40 : BitVec 32 := 0#32
  let c1_i32_42 : BitVec 32 := 1#32
  let arg7 : BitVec 32 := Scf.iv c0_i32_40 c1_i32_42 k0_t7
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk19 (v76 : IVec S16 32) : Prop :=
  (∀ a x, ((![v76] : Fin 1 → IVec S16 32) a x).toNat < S65536.size a)
theorem k0_idx19_inb : ∀ (v76 : IVec S16 32) (k0_hw19 : k0_chk19 v76), ∀ a x, ((![v76] : Fin 1 → IVec S16 32) a x).toNat < S65536.size a := fun v76 k0_hw19 => k0_hw19
def k0_off23 (k0_t7 : Fin k0_t7_loop.trips) : Fin 1 → Nat :=
  let c0_i32_40 : BitVec 32 := 0#32
  let c1_i32_42 : BitVec 32 := 1#32
  let arg7 : BitVec 32 := Scf.iv c0_i32_40 c1_i32_42 k0_t7
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk20 (v95 : IVec S16 32) : Prop :=
  (∀ a x, ((![v95] : Fin 1 → IVec S16 32) a x).toNat < S65536.size a)
theorem k0_idx20_inb : ∀ (v95 : IVec S16 32) (k0_hw20 : k0_chk20 v95), ∀ a x, ((![v95] : Fin 1 → IVec S16 32) a x).toNat < S65536.size a := fun v95 k0_hw20 => k0_hw20
@[reducible] def k0_t8_loop : Scf.Loop 32 :=
  let c0_i32_47 : BitVec 32 := 0#32
  let c128_i32_48 : BitVec 32 := 128#32
  let v16 : BitVec 32 := Scalar.addi c0_i32_47 c128_i32_48
  let c1_i32_49 : BitVec 32 := 1#32
  ⟨c0_i32_47, v16, c1_i32_49⟩
def k0_off24 (k0_t8 : Fin k0_t8_loop.trips) : Fin 1 → Nat :=
  let c0_i32_47 : BitVec 32 := 0#32
  let c1_i32_49 : BitVec 32 := 1#32
  let arg7 : BitVec 32 := Scf.iv c0_i32_47 c1_i32_49 k0_t8
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk21 (v38 : IVec S16 32) : Prop :=
  (∀ a x, ((![v38] : Fin 1 → IVec S16 32) a x).toNat < S65536.size a)
theorem k0_idx21_inb : ∀ (v38 : IVec S16 32) (k0_hw21 : k0_chk21 v38), ∀ a x, ((![v38] : Fin 1 → IVec S16 32) a x).toNat < S65536.size a := fun v38 k0_hw21 => k0_hw21
def k0_off25 (k0_t8 : Fin k0_t8_loop.trips) : Fin 1 → Nat :=
  let c0_i32_47 : BitVec 32 := 0#32
  let c1_i32_49 : BitVec 32 := 1#32
  let arg7 : BitVec 32 := Scf.iv c0_i32_47 c1_i32_49 k0_t8
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk22 (v57 : IVec S16 32) : Prop :=
  (∀ a x, ((![v57] : Fin 1 → IVec S16 32) a x).toNat < S65536.size a)
theorem k0_idx22_inb : ∀ (v57 : IVec S16 32) (k0_hw22 : k0_chk22 v57), ∀ a x, ((![v57] : Fin 1 → IVec S16 32) a x).toNat < S65536.size a := fun v57 k0_hw22 => k0_hw22
def k0_off26 (k0_t8 : Fin k0_t8_loop.trips) : Fin 1 → Nat :=
  let c0_i32_47 : BitVec 32 := 0#32
  let c1_i32_49 : BitVec 32 := 1#32
  let arg7 : BitVec 32 := Scf.iv c0_i32_47 c1_i32_49 k0_t8
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk23 (v76 : IVec S16 32) : Prop :=
  (∀ a x, ((![v76] : Fin 1 → IVec S16 32) a x).toNat < S65536.size a)
theorem k0_idx23_inb : ∀ (v76 : IVec S16 32) (k0_hw23 : k0_chk23 v76), ∀ a x, ((![v76] : Fin 1 → IVec S16 32) a x).toNat < S65536.size a := fun v76 k0_hw23 => k0_hw23
def k0_off27 (k0_t8 : Fin k0_t8_loop.trips) : Fin 1 → Nat :=
  let c0_i32_47 : BitVec 32 := 0#32
  let c1_i32_49 : BitVec 32 := 1#32
  let arg7 : BitVec 32 := Scf.iv c0_i32_47 c1_i32_49 k0_t8
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk24 (v95 : IVec S16 32) : Prop :=
  (∀ a x, ((![v95] : Fin 1 → IVec S16 32) a x).toNat < S65536.size a)
theorem k0_idx24_inb : ∀ (v95 : IVec S16 32) (k0_hw24 : k0_chk24 v95), ∀ a x, ((![v95] : Fin 1 → IVec S16 32) a x).toNat < S65536.size a := fun v95 k0_hw24 => k0_hw24
@[reducible] def k0_t9_loop : Scf.Loop 32 :=
  let c0_i32_54 : BitVec 32 := 0#32
  let c128_i32_55 : BitVec 32 := 128#32
  let v17 : BitVec 32 := Scalar.addi c0_i32_54 c128_i32_55
  let c1_i32_56 : BitVec 32 := 1#32
  ⟨c0_i32_54, v17, c1_i32_56⟩
def k0_off28 (k0_t9 : Fin k0_t9_loop.trips) : Fin 1 → Nat :=
  let c0_i32_54 : BitVec 32 := 0#32
  let c1_i32_56 : BitVec 32 := 1#32
  let arg7 : BitVec 32 := Scf.iv c0_i32_54 c1_i32_56 k0_t9
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk25 (v38 : IVec S16 32) : Prop :=
  (∀ a x, ((![v38] : Fin 1 → IVec S16 32) a x).toNat < S65536.size a)
theorem k0_idx25_inb : ∀ (v38 : IVec S16 32) (k0_hw25 : k0_chk25 v38), ∀ a x, ((![v38] : Fin 1 → IVec S16 32) a x).toNat < S65536.size a := fun v38 k0_hw25 => k0_hw25
def k0_off29 (k0_t9 : Fin k0_t9_loop.trips) : Fin 1 → Nat :=
  let c0_i32_54 : BitVec 32 := 0#32
  let c1_i32_56 : BitVec 32 := 1#32
  let arg7 : BitVec 32 := Scf.iv c0_i32_54 c1_i32_56 k0_t9
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk26 (v57 : IVec S16 32) : Prop :=
  (∀ a x, ((![v57] : Fin 1 → IVec S16 32) a x).toNat < S65536.size a)
theorem k0_idx26_inb : ∀ (v57 : IVec S16 32) (k0_hw26 : k0_chk26 v57), ∀ a x, ((![v57] : Fin 1 → IVec S16 32) a x).toNat < S65536.size a := fun v57 k0_hw26 => k0_hw26
def k0_off30 (k0_t9 : Fin k0_t9_loop.trips) : Fin 1 → Nat :=
  let c0_i32_54 : BitVec 32 := 0#32
  let c1_i32_56 : BitVec 32 := 1#32
  let arg7 : BitVec 32 := Scf.iv c0_i32_54 c1_i32_56 k0_t9
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk27 (v76 : IVec S16 32) : Prop :=
  (∀ a x, ((![v76] : Fin 1 → IVec S16 32) a x).toNat < S65536.size a)
theorem k0_idx27_inb : ∀ (v76 : IVec S16 32) (k0_hw27 : k0_chk27 v76), ∀ a x, ((![v76] : Fin 1 → IVec S16 32) a x).toNat < S65536.size a := fun v76 k0_hw27 => k0_hw27
def k0_off31 (k0_t9 : Fin k0_t9_loop.trips) : Fin 1 → Nat :=
  let c0_i32_54 : BitVec 32 := 0#32
  let c1_i32_56 : BitVec 32 := 1#32
  let arg7 : BitVec 32 := Scf.iv c0_i32_54 c1_i32_56 k0_t9
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk28 (v95 : IVec S16 32) : Prop :=
  (∀ a x, ((![v95] : Fin 1 → IVec S16 32) a x).toNat < S65536.size a)
theorem k0_idx28_inb : ∀ (v95 : IVec S16 32) (k0_hw28 : k0_chk28 v95), ∀ a x, ((![v95] : Fin 1 → IVec S16 32) a x).toNat < S65536.size a := fun v95 k0_hw28 => k0_hw28
@[reducible] def k0_t10_loop : Scf.Loop 32 :=
  let c0_i32_61 : BitVec 32 := 0#32
  let c128_i32_62 : BitVec 32 := 128#32
  let v18 : BitVec 32 := Scalar.addi c0_i32_61 c128_i32_62
  let c1_i32_63 : BitVec 32 := 1#32
  ⟨c0_i32_61, v18, c1_i32_63⟩
def k0_off32 (k0_t10 : Fin k0_t10_loop.trips) : Fin 1 → Nat :=
  let c0_i32_61 : BitVec 32 := 0#32
  let c1_i32_63 : BitVec 32 := 1#32
  let arg7 : BitVec 32 := Scf.iv c0_i32_61 c1_i32_63 k0_t10
  let c64_i32_66 : BitVec 32 := 64#32
  let v20 : BitVec 32 := Scalar.muli arg7 c64_i32_66
  let c0_i32_67 : BitVec 32 := 0#32
  let v21 : BitVec 32 := Scalar.addi v20 c0_i32_67
  let v22 : Index := Scalar.indexCast v21
  ![v22.toNat]

def k0_chk29 (v38 : IVec S16 32) : Prop :=
  (∀ a x, ((![v38] : Fin 1 → IVec S16 32) a x).toNat < S65536.size a)
theorem k0_idx29_inb : ∀ (v38 : IVec S16 32) (k0_hw29 : k0_chk29 v38), ∀ a x, ((![v38] : Fin 1 → IVec S16 32) a x).toNat < S65536.size a := fun v38 k0_hw29 => k0_hw29
def k0_off33 (k0_t10 : Fin k0_t10_loop.trips) : Fin 1 → Nat :=
  let c0_i32_61 : BitVec 32 := 0#32
  let c1_i32_63 : BitVec 32 := 1#32
  let arg7 : BitVec 32 := Scf.iv c0_i32_61 c1_i32_63 k0_t10
  let c64_i32_71 : BitVec 32 := 64#32
  let v39 : BitVec 32 := Scalar.muli arg7 c64_i32_71
  let c16_i32 : BitVec 32 := 16#32
  let v40 : BitVec 32 := Scalar.addi v39 c16_i32
  let v41 : Index := Scalar.indexCast v40
  ![v41.toNat]

def k0_chk30 (v57 : IVec S16 32) : Prop :=
  (∀ a x, ((![v57] : Fin 1 → IVec S16 32) a x).toNat < S65536.size a)
theorem k0_idx30_inb : ∀ (v57 : IVec S16 32) (k0_hw30 : k0_chk30 v57), ∀ a x, ((![v57] : Fin 1 → IVec S16 32) a x).toNat < S65536.size a := fun v57 k0_hw30 => k0_hw30
def k0_off34 (k0_t10 : Fin k0_t10_loop.trips) : Fin 1 → Nat :=
  let c0_i32_61 : BitVec 32 := 0#32
  let c1_i32_63 : BitVec 32 := 1#32
  let arg7 : BitVec 32 := Scf.iv c0_i32_61 c1_i32_63 k0_t10
  let c64_i32_75 : BitVec 32 := 64#32
  let v58 : BitVec 32 := Scalar.muli arg7 c64_i32_75
  let c32_i32_76 : BitVec 32 := 32#32
  let v59 : BitVec 32 := Scalar.addi v58 c32_i32_76
  let v60 : Index := Scalar.indexCast v59
  ![v60.toNat]

def k0_chk31 (v76 : IVec S16 32) : Prop :=
  (∀ a x, ((![v76] : Fin 1 → IVec S16 32) a x).toNat < S65536.size a)
theorem k0_idx31_inb : ∀ (v76 : IVec S16 32) (k0_hw31 : k0_chk31 v76), ∀ a x, ((![v76] : Fin 1 → IVec S16 32) a x).toNat < S65536.size a := fun v76 k0_hw31 => k0_hw31
def k0_off35 (k0_t10 : Fin k0_t10_loop.trips) : Fin 1 → Nat :=
  let c0_i32_61 : BitVec 32 := 0#32
  let c1_i32_63 : BitVec 32 := 1#32
  let arg7 : BitVec 32 := Scf.iv c0_i32_61 c1_i32_63 k0_t10
  let c64_i32_80 : BitVec 32 := 64#32
  let v77 : BitVec 32 := Scalar.muli arg7 c64_i32_80
  let c48_i32 : BitVec 32 := 48#32
  let v78 : BitVec 32 := Scalar.addi v77 c48_i32
  let v79 : Index := Scalar.indexCast v78
  ![v79.toNat]

def k0_chk32 (v95 : IVec S16 32) : Prop :=
  (∀ a x, ((![v95] : Fin 1 → IVec S16 32) a x).toNat < S65536.size a)
theorem k0_idx32_inb : ∀ (v95 : IVec S16 32) (k0_hw32 : k0_chk32 v95), ∀ a x, ((![v95] : Fin 1 → IVec S16 32) a x).toNat < S65536.size a := fun v95 k0_hw32 => k0_hw32
abbrev grid1 : Pipeline.Grid := .none

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_off1 (k1_t1 : Fin k1_t1_loop.trips) : Fin 2 → Nat :=
  let c0_i32 : BitVec 32 := 0#32
  let c1_i32 : BitVec 32 := 1#32
  let arg17 : BitVec 32 := Scf.iv c0_i32 c1_i32 k1_t1
  let c256_i32 : BitVec 32 := 256#32
  let v90 : BitVec 32 := Scalar.muli arg17 c256_i32
  let v91 : Index := Scalar.indexCast v90
  let c0_84 : Index := 0#32
  ![v91.toNat, 0]
def k1_off2 (k1_t1 : Fin k1_t1_loop.trips) : Fin 2 → Nat :=
  let c0_i32 : BitVec 32 := 0#32
  let c1_i32 : BitVec 32 := 1#32
  let arg17 : BitVec 32 := Scf.iv c0_i32 c1_i32 k1_t1
  let c256_i32 : BitVec 32 := 256#32
  let v90 : BitVec 32 := Scalar.muli arg17 c256_i32
  let v109 : Index := Scalar.indexCast v90
  let c0_92 : Index := 0#32
  ![v109.toNat, 0]
@[reducible] def k1_t2_loop : Scf.Loop 32 :=
  let c0_i32_14 : BitVec 32 := 0#32
  let c8_i32_15 : BitVec 32 := 8#32
  let v17 : BitVec 32 := Scalar.addi c0_i32_14 c8_i32_15
  let c1_i32_16 : BitVec 32 := 1#32
  ⟨c0_i32_14, v17, c1_i32_16⟩
def k1_off3 (k1_t2 : Fin k1_t2_loop.trips) : Fin 2 → Nat :=
  let c0_i32_14 : BitVec 32 := 0#32
  let c1_i32_16 : BitVec 32 := 1#32
  let arg17 : BitVec 32 := Scf.iv c0_i32_14 c1_i32_16 k1_t2
  let c256_i32 : BitVec 32 := 256#32
  let v90 : BitVec 32 := Scalar.muli arg17 c256_i32
  let v91 : Index := Scalar.indexCast v90
  let c0_84 : Index := 0#32
  ![v91.toNat, 0]
def k1_off4 (k1_t2 : Fin k1_t2_loop.trips) : Fin 2 → Nat :=
  let c0_i32_14 : BitVec 32 := 0#32
  let c1_i32_16 : BitVec 32 := 1#32
  let arg17 : BitVec 32 := Scf.iv c0_i32_14 c1_i32_16 k1_t2
  let c256_i32 : BitVec 32 := 256#32
  let v90 : BitVec 32 := Scalar.muli arg17 c256_i32
  let v100 : Index := Scalar.indexCast v90
  let c0_90 : Index := 0#32
  ![v100.toNat, 0]
@[reducible] def k1_t3_loop : Scf.Loop 32 :=
  let c0_i32_28 : BitVec 32 := 0#32
  let c8_i32_29 : BitVec 32 := 8#32
  let v30 : BitVec 32 := Scalar.addi c0_i32_28 c8_i32_29
  let c1_i32_30 : BitVec 32 := 1#32
  ⟨c0_i32_28, v30, c1_i32_30⟩
def k1_off5 (k1_t3 : Fin k1_t3_loop.trips) : Fin 2 → Nat :=
  let c0_i32_28 : BitVec 32 := 0#32
  let c1_i32_30 : BitVec 32 := 1#32
  let arg17 : BitVec 32 := Scf.iv c0_i32_28 c1_i32_30 k1_t3
  let c256_i32 : BitVec 32 := 256#32
  let v90 : BitVec 32 := Scalar.muli arg17 c256_i32
  let v91 : Index := Scalar.indexCast v90
  let c0_84 : Index := 0#32
  ![v91.toNat, 0]
def k1_off6 (k1_t3 : Fin k1_t3_loop.trips) : Fin 2 → Nat :=
  let c0_i32_28 : BitVec 32 := 0#32
  let c1_i32_30 : BitVec 32 := 1#32
  let arg17 : BitVec 32 := Scf.iv c0_i32_28 c1_i32_30 k1_t3
  let c256_i32 : BitVec 32 := 256#32
  let v90 : BitVec 32 := Scalar.muli arg17 c256_i32
  let v100 : Index := Scalar.indexCast v90
  let c0_90 : Index := 0#32
  ![v100.toNat, 0]
@[reducible] def k1_t4_loop : Scf.Loop 32 :=
  let c0_i32_69 : BitVec 32 := 0#32
  let c8_i32_70 : BitVec 32 := 8#32
  let v84 : BitVec 32 := Scalar.addi c0_i32_69 c8_i32_70
  let c1_i32_71 : BitVec 32 := 1#32
  ⟨c0_i32_69, v84, c1_i32_71⟩
def k1_off7 (k1_t4 : Fin k1_t4_loop.trips) : Fin 2 → Nat :=
  let c0_84 : Index := 0#32
  let c0_i32_69 : BitVec 32 := 0#32
  let c1_i32_71 : BitVec 32 := 1#32
  let arg17 : BitVec 32 := Scf.iv c0_i32_69 c1_i32_71 k1_t4
  let c256_i32 : BitVec 32 := 256#32
  let v90 : BitVec 32 := Scalar.muli arg17 c256_i32
  let v91 : Index := Scalar.indexCast v90
  ![0, v91.toNat]
def k1_off8 (k1_t4 : Fin k1_t4_loop.trips) : Fin 2 → Nat :=
  let c0_i32_69 : BitVec 32 := 0#32
  let c1_i32_71 : BitVec 32 := 1#32
  let arg17 : BitVec 32 := Scf.iv c0_i32_69 c1_i32_71 k1_t4
  let c256_i32 : BitVec 32 := 256#32
  let v90 : BitVec 32 := Scalar.muli arg17 c256_i32
  let v94 : Index := Scalar.indexCast v90
  let c0_85 : Index := 0#32
  ![v94.toNat, 0]
@[reducible] def k1_t5_loop : Scf.Loop 32 :=
  let c0_i32_78 : BitVec 32 := 0#32
  let c8_i32_79 : BitVec 32 := 8#32
  let v86 : BitVec 32 := Scalar.addi c0_i32_78 c8_i32_79
  let c1_i32_80 : BitVec 32 := 1#32
  ⟨c0_i32_78, v86, c1_i32_80⟩
def k1_off9 (k1_t5 : Fin k1_t5_loop.trips) : Fin 2 → Nat :=
  let c0_i32_78 : BitVec 32 := 0#32
  let c1_i32_80 : BitVec 32 := 1#32
  let arg17 : BitVec 32 := Scf.iv c0_i32_78 c1_i32_80 k1_t5
  let c256_i32 : BitVec 32 := 256#32
  let v90 : BitVec 32 := Scalar.muli arg17 c256_i32
  let v96 : Index := Scalar.indexCast v90
  let c0_84 : Index := 0#32
  ![v96.toNat, 0]
def k1_off10 (k1_t5 : Fin k1_t5_loop.trips) : Fin 2 → Nat :=
  let c0_i32_78 : BitVec 32 := 0#32
  let c1_i32_80 : BitVec 32 := 1#32
  let arg17 : BitVec 32 := Scf.iv c0_i32_78 c1_i32_80 k1_t5
  let c256_i32 : BitVec 32 := 256#32
  let v90 : BitVec 32 := Scalar.muli arg17 c256_i32
  let v171 : Index := Scalar.indexCast v90
  let c0_108 : Index := 0#32
  ![v171.toNat, 0]
def k1_off11 (k1_t5 : Fin k1_t5_loop.trips) : Fin 2 → Nat :=
  let c0_i32_78 : BitVec 32 := 0#32
  let c1_i32_80 : BitVec 32 := 1#32
  let arg17 : BitVec 32 := Scf.iv c0_i32_78 c1_i32_80 k1_t5
  let c256_i32 : BitVec 32 := 256#32
  let v90 : BitVec 32 := Scalar.muli arg17 c256_i32
  let v178 : Index := Scalar.indexCast v90
  let c1_109 : Index := 1#32
  ![v178.toNat, 1]
def k1_off12 (k1_t5 : Fin k1_t5_loop.trips) : Fin 2 → Nat :=
  let c0_i32_78 : BitVec 32 := 0#32
  let c1_i32_80 : BitVec 32 := 1#32
  let arg17 : BitVec 32 := Scf.iv c0_i32_78 c1_i32_80 k1_t5
  let c256_i32 : BitVec 32 := 256#32
  let v90 : BitVec 32 := Scalar.muli arg17 c256_i32
  let v185 : Index := Scalar.indexCast v90
  let c2_110 : Index := 2#32
  ![v185.toNat, 2]
abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x2048 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2048x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2048x3 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S16x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_6144" => some ((6144⁻¹ : ℝ) : EReal)
  | _ => none
-- ==== ReferenceIdeal.lean ====
abbrev S2048x128 : Shape := ⟨2, ![2048, 128]⟩
abbrev S2048x3 : Shape := ⟨2, ![2048, 3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x3 : Shape := ⟨2, ![128, 3]⟩
abbrev S3 : Shape := ⟨1, ![3]⟩
abbrev S2x32768 : Shape := ⟨2, ![2, 32768]⟩
abbrev S2048 : Shape := ⟨1, ![2048]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S2048x1 : Shape := ⟨2, ![2048, 1]⟩
abbrev S1x128x128 : Shape := ⟨3, ![1, 128, 128]⟩
abbrev S1x128 : Shape := ⟨2, ![1, 128]⟩
abbrev S16 : Shape := ⟨1, ![16]⟩
abbrev S16x128 : Shape := ⟨2, ![16, 128]⟩
abbrev S16x1 : Shape := ⟨2, ![16, 1]⟩
abbrev S2048x2048 : Shape := ⟨2, ![2048, 2048]⟩
abbrev S32768x2 : Shape := ⟨2, ![32768, 2]⟩
abbrev S1x3 : Shape := ⟨2, ![1, 3]⟩
abbrev S2048x1x3 : Shape := ⟨3, ![2048, 1, 3]⟩
abbrev S1x2048x3 : Shape := ⟨3, ![1, 2048, 3]⟩
abbrev S2048x2048x3 : Shape := ⟨3, ![2048, 2048, 3]⟩

abbrev nBuf : Space → Nat
  | .hbm => 327
  | .vmem => 0
  | .smem => 0
  | _ => 0

abbrev hbmTy0_0 (i : Nat) : BufTy := match i % 128 with
  | 0 => ⟨S2048x128, .f32⟩
  | 1 => ⟨S2048x3, .f32⟩
  | 2 => ⟨S3x128x128, .f32⟩
  | 3 => ⟨S3x128, .f32⟩
  | 4 => ⟨S128x128, .f32⟩
  | 5 => ⟨S128, .f32⟩
  | 6 => ⟨S128x3, .f32⟩
  | 7 => ⟨S3, .f32⟩
  | 8 => ⟨S2x32768, .i32⟩
  | 9 => ⟨S2048, .i32⟩
  | 10 => ⟨S1x32768, .i32⟩
  | 11 => ⟨S32768, .i32⟩
  | 12 => ⟨S1x32768, .i32⟩
  | 13 => ⟨S32768, .i32⟩
  | 14 => ⟨S_, .f32⟩
  | 15 => ⟨S2048, .f32⟩
  | 16 => ⟨S_, .i32⟩
  | 17 => ⟨S32768, .i32⟩
  | 18 => ⟨S32768, .i1⟩
  | 19 => ⟨S_, .i32⟩
  | 20 => ⟨S32768, .i32⟩
  | 21 => ⟨S32768, .i32⟩
  | 22 => ⟨S32768, .i32⟩
  | 23 => ⟨S32768x1, .i32⟩
  | 24 => ⟨S_, .f32⟩
  | 25 => ⟨S32768, .f32⟩
  | 26 => ⟨S2048, .f32⟩
  | 27 => ⟨S_, .f32⟩
  | 28 => ⟨S2048, .f32⟩
  | 29 => ⟨S2048, .f32⟩
  | 30 => ⟨S_, .f32⟩
  | 31 => ⟨S2048x128, .f32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S32768x128, .f32⟩
  | 41 => ⟨S_, .i32⟩
  | 42 => ⟨S32768, .i32⟩
  | 43 => ⟨S32768, .i1⟩
  | 44 => ⟨S_, .i32⟩
  | 45 => ⟨S32768, .i32⟩
  | 46 => ⟨S32768, .i32⟩
  | 47 => ⟨S32768, .i32⟩
  | 48 => ⟨S32768x1, .i32⟩
  | 49 => ⟨S2048x128, .f32⟩
  | 50 => ⟨S2048x128, .f32⟩
  | 51 => ⟨S2048x1, .f32⟩
  | 52 => ⟨S2048x128, .f32⟩
  | 53 => ⟨S2048x128, .f32⟩
  | 54 => ⟨S1x128x128, .f32⟩
  | 55 => ⟨S128x128, .f32⟩
  | 56 => ⟨S2048x128, .f32⟩
  | 57 => ⟨S1x128, .f32⟩
  | 58 => ⟨S128, .f32⟩
  | 59 => ⟨S1x128, .f32⟩
  | 60 => ⟨S2048x128, .f32⟩
  | 61 => ⟨S2048x128, .f32⟩
  | 62 => ⟨S_, .f32⟩
  | 63 => ⟨S2048x128, .f32⟩
  | 64 => ⟨S2048x128, .f32⟩
  | 65 => ⟨S_, .f32⟩
  | 66 => ⟨S2048x128, .f32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S32768x128, .f32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S32768x1, .i32⟩
  | 84 => ⟨S2048x128, .f32⟩
  | 85 => ⟨S2048x128, .f32⟩
  | 86 => ⟨S2048x1, .f32⟩
  | 87 => ⟨S2048x128, .f32⟩
  | 88 => ⟨S2048x128, .f32⟩
  | 89 => ⟨S1x128x128, .f32⟩
  | 90 => ⟨S128x128, .f32⟩
  | 91 => ⟨S2048x128, .f32⟩
  | 92 => ⟨S1x128, .f32⟩
  | 93 => ⟨S128, .f32⟩
  | 94 => ⟨S1x128, .f32⟩
  | 95 => ⟨S2048x128, .f32⟩
  | 96 => ⟨S2048x128, .f32⟩
  | 97 => ⟨S_, .f32⟩
  | 98 => ⟨S2048x128, .f32⟩
  | 99 => ⟨S2048x128, .f32⟩
  | 100 => ⟨S_, .f32⟩
  | 101 => ⟨S2048x128, .f32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S32768x1, .i32⟩
  | 110 => ⟨S32768x128, .f32⟩
  | 111 => ⟨S_, .i32⟩
  | 112 => ⟨S32768, .i32⟩
  | 113 => ⟨S32768, .i1⟩
  | 114 => ⟨S_, .i32⟩
  | 115 => ⟨S32768, .i32⟩
  | 116 => ⟨S32768, .i32⟩
  | 117 => ⟨S32768, .i32⟩
  | 118 => ⟨S32768x1, .i32⟩
  | 119 => ⟨S2048x128, .f32⟩
  | 120 => ⟨S2048x128, .f32⟩
  | 121 => ⟨S2048x1, .f32⟩
  | 122 => ⟨S2048x128, .f32⟩
  | 123 => ⟨S2048x128, .f32⟩
  | 124 => ⟨S1x128x128, .f32⟩
  | 125 => ⟨S128x128, .f32⟩
  | 126 => ⟨S2048x128, .f32⟩
  | 127 => ⟨S1x128, .f32⟩
  | _ => ⟨S2048x128, .f32⟩

abbrev hbmTy0_1 (i : Nat) : BufTy := match i % 128 with
  | 0 => ⟨S128, .f32⟩
  | 1 => ⟨S1x128, .f32⟩
  | 2 => ⟨S2048x128, .f32⟩
  | 3 => ⟨S2048x128, .f32⟩
  | 4 => ⟨S_, .f32⟩
  | 5 => ⟨S2048, .f32⟩
  | 6 => ⟨S_, .f32⟩
  | 7 => ⟨S16, .f32⟩
  | 8 => ⟨S2048x1, .i32⟩
  | 9 => ⟨S16, .f32⟩
  | 10 => ⟨S_, .f32⟩
  | 11 => ⟨S16x128, .f32⟩
  | 12 => ⟨S2048x1, .i32⟩
  | 13 => ⟨S16x128, .f32⟩
  | 14 => ⟨S_, .f32⟩
  | 15 => ⟨S16, .f32⟩
  | 16 => ⟨S16, .f32⟩
  | 17 => ⟨S16x1, .f32⟩
  | 18 => ⟨S16x128, .f32⟩
  | 19 => ⟨S16x128, .f32⟩
  | 20 => ⟨S1x32768, .i32⟩
  | 21 => ⟨S32768, .i32⟩
  | 22 => ⟨S1x32768, .i32⟩
  | 23 => ⟨S32768, .i32⟩
  | 24 => ⟨S_, .f32⟩
  | 25 => ⟨S2048x2048, .f32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768x1, .i32⟩
  | 42 => ⟨S32768x2, .i32⟩
  | 43 => ⟨S_, .f32⟩
  | 44 => ⟨S32768, .f32⟩
  | 45 => ⟨S2048x2048, .f32⟩
  | 46 => ⟨S2048x2048, .f32⟩
  | 47 => ⟨S2048x2048, .f32⟩
  | 48 => ⟨S2048x2048, .i32⟩
  | 49 => ⟨S2048x2048, .i32⟩
  | 50 => ⟨S_, .i32⟩
  | 51 => ⟨S2048x2048, .i32⟩
  | 52 => ⟨S2048x2048, .i32⟩
  | 53 => ⟨S2048x2048, .i1⟩
  | 54 => ⟨S2048x2048, .f32⟩
  | 55 => ⟨S_, .f32⟩
  | 56 => ⟨S2048x2048, .f32⟩
  | 57 => ⟨S2048x2048, .i1⟩
  | 58 => ⟨S_, .f32⟩
  | 59 => ⟨S2048x2048, .f32⟩
  | 60 => ⟨S2048x2048, .i1⟩
  | 61 => ⟨S_, .f32⟩
  | 62 => ⟨S_, .f32⟩
  | 63 => ⟨S2048x2048, .f32⟩
  | 64 => ⟨S2048x2048, .f32⟩
  | 65 => ⟨S2048x2048, .f32⟩
  | 66 => ⟨S_, .f32⟩
  | 67 => ⟨S2048x2048, .f32⟩
  | 68 => ⟨S2048x2048, .f32⟩
  | 69 => ⟨S2048x2048, .f32⟩
  | 70 => ⟨S2048x2048, .f32⟩
  | 71 => ⟨S2048x2048, .f32⟩
  | 72 => ⟨S_, .f32⟩
  | 73 => ⟨S2048x2048, .f32⟩
  | 74 => ⟨S2048x2048, .i1⟩
  | 75 => ⟨S2048x2048, .f32⟩
  | 76 => ⟨S_, .f32⟩
  | 77 => ⟨S2048x2048, .f32⟩
  | 78 => ⟨S2048x2048, .i1⟩
  | 79 => ⟨S2048x2048, .f32⟩
  | 80 => ⟨S_, .f32⟩
  | 81 => ⟨S2048x2048, .f32⟩
  | 82 => ⟨S2048x2048, .i1⟩
  | 83 => ⟨S2048x2048, .i1⟩
  | 84 => ⟨S_, .f32⟩
  | 85 => ⟨S2048x2048, .f32⟩
  | 86 => ⟨S2048x2048, .f32⟩
  | 87 => ⟨S2048x2048, .f32⟩
  | 88 => ⟨S2048x2048, .f32⟩
  | 89 => ⟨S_, .f32⟩
  | 90 => ⟨S2048x2048, .f32⟩
  | 91 => ⟨S2048x2048, .i1⟩
  | 92 => ⟨S2048x2048, .f32⟩
  | 93 => ⟨S_, .f32⟩
  | 94 => ⟨S2048x2048, .f32⟩
  | 95 => ⟨S2048x2048, .i1⟩
  | 96 => ⟨S2048x2048, .f32⟩
  | 97 => ⟨S_, .f32⟩
  | 98 => ⟨S2048x2048, .f32⟩
  | 99 => ⟨S2048x2048, .i1⟩
  | 100 => ⟨S2048x2048, .i1⟩
  | 101 => ⟨S_, .f32⟩
  | 102 => ⟨S2048x2048, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .i1⟩
  | 109 => ⟨S2048x2048, .f32⟩
  | 110 => ⟨S_, .f32⟩
  | 111 => ⟨S2048x2048, .f32⟩
  | 112 => ⟨S2048x2048, .i1⟩
  | 113 => ⟨S2048x2048, .f32⟩
  | 114 => ⟨S_, .f32⟩
  | 115 => ⟨S2048x2048, .f32⟩
  | 116 => ⟨S2048x2048, .i1⟩
  | 117 => ⟨S2048x2048, .i1⟩
  | 118 => ⟨S_, .f32⟩
  | 119 => ⟨S2048x2048, .f32⟩
  | 120 => ⟨S2048x2048, .f32⟩
  | 121 => ⟨S2048x2048, .f32⟩
  | 122 => ⟨S2048x2048, .f32⟩
  | 123 => ⟨S_, .f32⟩
  | 124 => ⟨S2048x2048, .f32⟩
  | 125 => ⟨S2048x2048, .i1⟩
  | 126 => ⟨S2048x2048, .f32⟩
  | 127 => ⟨S_, .f32⟩
  | _ => ⟨S2048x128, .f32⟩

abbrev hbmTy0_2 (i : Nat) : BufTy := match i % 128 with
  | 0 => ⟨S2048x2048, .f32⟩
  | 1 => ⟨S2048x2048, .i1⟩
  | 2 => ⟨S2048x2048, .f32⟩
  | 3 => ⟨S_, .f32⟩
  | 4 => ⟨S2048x2048, .f32⟩
  | 5 => ⟨S2048x2048, .i1⟩
  | 6 => ⟨S2048x2048, .i1⟩
  | 7 => ⟨S_, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S2048x2048, .f32⟩
  | 14 => ⟨S2048x2048, .i1⟩
  | 15 => ⟨S2048x2048, .f32⟩
  | 16 => ⟨S_, .f32⟩
  | 17 => ⟨S2048x2048, .f32⟩
  | 18 => ⟨S2048x2048, .i1⟩
  | 19 => ⟨S2048x2048, .f32⟩
  | 20 => ⟨S_, .f32⟩
  | 21 => ⟨S2048x2048, .f32⟩
  | 22 => ⟨S2048x2048, .i1⟩
  | 23 => ⟨S2048x2048, .i1⟩
  | 24 => ⟨S_, .f32⟩
  | 25 => ⟨S2048x2048, .f32⟩
  | 26 => ⟨S2048x2048, .f32⟩
  | 27 => ⟨S2048x2048, .f32⟩
  | 28 => ⟨S_, .f32⟩
  | 29 => ⟨S2048x2048, .f32⟩
  | 30 => ⟨S2048x2048, .f32⟩
  | 31 => ⟨S2048x2048, .f32⟩
  | 32 => ⟨S2048x128, .f32⟩
  | 33 => ⟨S1x128, .f32⟩
  | 34 => ⟨S2048x128, .f32⟩
  | 35 => ⟨S2048x128, .f32⟩
  | 36 => ⟨S_, .f32⟩
  | 37 => ⟨S2048x128, .f32⟩
  | 38 => ⟨S2048x128, .f32⟩
  | 39 => ⟨S2048x3, .f32⟩
  | 40 => ⟨S1x3, .f32⟩
  | 41 => ⟨S2048x3, .f32⟩
  | 42 => ⟨S2048x3, .f32⟩
  | 43 => ⟨S2048x1x3, .f32⟩
  | 44 => ⟨S1x2048x3, .f32⟩
  | 45 => ⟨S2048x2048x3, .f32⟩
  | 46 => ⟨S2048x2048x3, .f32⟩
  | 47 => ⟨S2048x2048x3, .f32⟩
  | 48 => ⟨S2048x2048x3, .f32⟩
  | 49 => ⟨S_, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S2048x2048, .f32⟩
  | 60 => ⟨S2048x3, .f32⟩
  | 61 => ⟨S2048x3, .f32⟩
  | 62 => ⟨S_, .f32⟩
  | 63 => ⟨S_, .f32⟩
  | 64 => ⟨S_, .f32⟩
  | 65 => ⟨S_, .f32⟩
  | 66 => ⟨S2048x2048, .f32⟩
  | 67 => ⟨S2048x2048, .f32⟩
  | 68 => ⟨S2048x2048, .f32⟩
  | 69 => ⟨S_, .f32⟩
  | 70 => ⟨S_, .f32⟩
  | _ => ⟨S2048x128, .f32⟩

abbrev hbmTy (i : Nat) : BufTy := match i / 128 with
  | 0 => hbmTy0_0 i
  | 1 => hbmTy0_1 i
  | 2 => hbmTy0_2 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_cst : Ref sig .tc := ⟨.hbm, 62, rfl⟩
abbrev main_call0_v0 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_21 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_22 : Ref sig .tc := ⟨.hbm, 152, rfl⟩
abbrev main_v114 : Ref sig .tc := ⟨.hbm, 153, rfl⟩
abbrev main_c_23 : Ref sig .tc := ⟨.hbm, 154, rfl⟩
abbrev main_v115 : Ref sig .tc := ⟨.hbm, 155, rfl⟩
abbrev main_v116 : Ref sig .tc := ⟨.hbm, 156, rfl⟩
abbrev main_c_24 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_25 : Ref sig .tc := ⟨.hbm, 161, rfl⟩
abbrev main_v120 : Ref sig .tc := ⟨.hbm, 162, rfl⟩
abbrev main_v121 : Ref sig .tc := ⟨.hbm, 163, rfl⟩
abbrev main_c_26 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_27 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_28 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_29 : Ref sig .tc := ⟨.hbm, 183, rfl⟩
abbrev main_v138 : Ref sig .tc := ⟨.hbm, 184, rfl⟩
abbrev main_v139 : Ref sig .tc := ⟨.hbm, 185, rfl⟩
abbrev main_cst_30 : Ref sig .tc := ⟨.hbm, 186, rfl⟩
abbrev main_v140 : Ref sig .tc := ⟨.hbm, 187, rfl⟩
abbrev main_v141 : Ref sig .tc := ⟨.hbm, 188, rfl⟩
abbrev main_cst_31 : Ref sig .tc := ⟨.hbm, 189, rfl⟩
abbrev main_cst_32 : Ref sig .tc := ⟨.hbm, 190, rfl⟩
abbrev main_call2_v0 : Ref sig .tc := ⟨.hbm, 191, rfl⟩
abbrev main_call2_v1 : Ref sig .tc := ⟨.hbm, 192, rfl⟩
abbrev main_v142 : Ref sig .tc := ⟨.hbm, 193, rfl⟩
abbrev main_cst_33 : Ref sig .tc := ⟨.hbm, 194, rfl⟩
abbrev main_call3_v0 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_34 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_35 : Ref sig .tc := ⟨.hbm, 204, rfl⟩
abbrev main_v150 : Ref sig .tc := ⟨.hbm, 205, rfl⟩
abbrev main_v151 : Ref sig .tc := ⟨.hbm, 206, rfl⟩
abbrev main_call4_v0 : Ref sig .tc := ⟨.hbm, 207, rfl⟩
abbrev main_call4_cst : Ref sig .tc := ⟨.hbm, 208, rfl⟩
abbrev main_call4_v1 : Ref sig .tc := ⟨.hbm, 209, rfl⟩
abbrev main_v152 : Ref sig .tc := ⟨.hbm, 210, rfl⟩
abbrev main_v153 : Ref sig .tc := ⟨.hbm, 211, rfl⟩
abbrev main_cst_36 : Ref sig .tc := ⟨.hbm, 212, rfl⟩
abbrev main_call5_v0 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_37 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_38 : Ref sig .tc := ⟨.hbm, 221, rfl⟩
abbrev main_v160 : Ref sig .tc := ⟨.hbm, 222, rfl⟩
abbrev main_v161 : Ref sig .tc := ⟨.hbm, 223, rfl⟩
abbrev main_call6_v0 : Ref sig .tc := ⟨.hbm, 224, rfl⟩
abbrev main_call6_cst : Ref sig .tc := ⟨.hbm, 225, rfl⟩
abbrev main_call6_v1 : Ref sig .tc := ⟨.hbm, 226, rfl⟩
abbrev main_v162 : Ref sig .tc := ⟨.hbm, 227, rfl⟩
abbrev main_v163 : Ref sig .tc := ⟨.hbm, 228, rfl⟩
abbrev main_cst_39 : Ref sig .tc := ⟨.hbm, 229, rfl⟩
abbrev main_call7_v0 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_40 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_cst_41 : Ref sig .tc := ⟨.hbm, 238, rfl⟩
abbrev main_v170 : Ref sig .tc := ⟨.hbm, 239, rfl⟩
abbrev main_v171 : Ref sig .tc := ⟨.hbm, 240, rfl⟩
abbrev main_call8_v0 : Ref sig .tc := ⟨.hbm, 241, rfl⟩
abbrev main_call8_cst : Ref sig .tc := ⟨.hbm, 242, rfl⟩
abbrev main_call8_v1 : Ref sig .tc := ⟨.hbm, 243, rfl⟩
abbrev main_v172 : Ref sig .tc := ⟨.hbm, 244, rfl⟩
abbrev main_v173 : Ref sig .tc := ⟨.hbm, 245, rfl⟩
abbrev main_cst_42 : Ref sig .tc := ⟨.hbm, 246, rfl⟩
abbrev main_call9_v0 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_cst_43 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_cst_44 : Ref sig .tc := ⟨.hbm, 255, rfl⟩
abbrev main_v180 : Ref sig .tc := ⟨.hbm, 256, rfl⟩
abbrev main_v181 : Ref sig .tc := ⟨.hbm, 257, rfl⟩
abbrev main_call10_v0 : Ref sig .tc := ⟨.hbm, 258, rfl⟩
abbrev main_call10_cst : Ref sig .tc := ⟨.hbm, 259, rfl⟩
abbrev main_call10_v1 : Ref sig .tc := ⟨.hbm, 260, rfl⟩
abbrev main_v182 : Ref sig .tc := ⟨.hbm, 261, rfl⟩
abbrev main_v183 : Ref sig .tc := ⟨.hbm, 262, rfl⟩
abbrev main_cst_45 : Ref sig .tc := ⟨.hbm, 263, rfl⟩
abbrev main_call11_v0 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_cst_46 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_47 : Ref sig .tc := ⟨.hbm, 272, rfl⟩
abbrev main_v190 : Ref sig .tc := ⟨.hbm, 273, rfl⟩
abbrev main_v191 : Ref sig .tc := ⟨.hbm, 274, rfl⟩
abbrev main_call12_v0 : Ref sig .tc := ⟨.hbm, 275, rfl⟩
abbrev main_call12_cst : Ref sig .tc := ⟨.hbm, 276, rfl⟩
abbrev main_call12_v1 : Ref sig .tc := ⟨.hbm, 277, rfl⟩
abbrev main_v192 : Ref sig .tc := ⟨.hbm, 278, rfl⟩
abbrev main_v193 : Ref sig .tc := ⟨.hbm, 279, rfl⟩
abbrev main_cst_48 : Ref sig .tc := ⟨.hbm, 280, rfl⟩
abbrev main_call13_v0 : Ref sig .tc := ⟨.hbm, 281, rfl⟩
abbrev main_v194 : Ref sig .tc := ⟨.hbm, 282, rfl⟩
abbrev main_v195 : Ref sig .tc := ⟨.hbm, 283, rfl⟩
abbrev main_cst_49 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_call14_cst : Ref sig .tc := ⟨.hbm, 292, rfl⟩
abbrev main_call14_v0 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_cst_50 : Ref sig .tc := ⟨.hbm, 305, rfl⟩
abbrev main_v214 : Ref sig .tc := ⟨.hbm, 306, rfl⟩
abbrev main_cst_51 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_cst_52 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_cst_53 : Ref sig .tc := ⟨.hbm, 318, rfl⟩
abbrev main_v224 : Ref sig .tc := ⟨.hbm, 319, rfl⟩
abbrev main_cst_54 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_cst_55 : Ref sig .tc := ⟨.hbm, 325, rfl⟩
abbrev main_v229 : Ref sig .tc := ⟨.hbm, 326, rfl⟩

abbrev nD : Nat := 1
abbrev τ : Topo := Topo.v7x

variable {F : FTy → Type} [FloatOps F]
-- ==== Proof.Setup.lean ====
/-
  The program as the SparseCore launch theorem sees it: the labels, the body table, the ghost state and the arrays that the
  proofs of this directory share.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

variable [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra: the handshakes' rounds, the pipeline library's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline library's copy of the rounds. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays -/

/-- The edge list and the flat count array, as locations of device `d`. -/
abbrev eLoc (d : Dev nD) : Loc nD τ sig := (SparseCore.T d).loc main_arg8
abbrev oLoc (d : Dev nD) : Loc nD τ sig := (SparseCore.T d).loc main_v0

abbrev eV : Memref sig .scVector .hbm S2x32768 .i32 := Memref.whole main_arg8_scv
abbrev oV : Memref sig .scVector .hbm S4194304 .f32 := Memref.whole main_v0_scv
/-- A task's scratches: a chunk of the source words, of the destination words, the counts of 32 rows. -/
abbrev sS : Memref sig .scVector .vmem S8192 .i32 := Memref.whole cc0_scratch0
abbrev sD : Memref sig .scVector .vmem S8192 .i32 := Memref.whole cc0_scratch1
abbrev sB : Memref sig .scVector .vmem S65536 .f32 := Memref.whole cc0_scratch2

abbrev cV (i : grid0.Coords) : Fin τ.nSC := (i 0).castLE hcore0
abbrev jV (i : grid0.Coords) : Fin τ.nSub := (i 1).castLE hsub0
/-- The vector subcore a task's coordinates name. -/
abbrev thr (d : Dev nD) (i : grid0.Coords) : Thread nD τ := V d (cV i) (jV i)

abbrev TileProg (i : grid0.Coords) (F : FTy → Type) (α : Type) := Prog (TpuEff nD τ sig (Elt F) Λ₀ (.scVector ((i 0).castLE hcore0) ((i 1).castLE hsub0))) α

/-! ## The task's program in pieces -/

/-- The first row of the count matrix that the task at `i` fills in its pass of offset `o`. -/
def base (i : grid0.Coords) (o : BitVec 32) : BitVec 32 :=
  Scalar.addi (Scalar.muli (Scalar.addi (Scalar.muli (BitVec.ofNat 32 (i 1).val) 2#32) (BitVec.ofNat 32 (i 0).val)) 64#32) o

/-- Which of sixteen edges end in the 32 rows from `b`. -/
def inRows (b : BitVec 32) (dst : Vec F S16 .i32) : IVec S16 1 :=
  andi (cmpi .sge dst (broadcast S16 b)) (cmpi .slt dst (broadcast S16 (Scalar.addi b 32#32)))

/-- Their places in the count buffer; zero for an edge that ends elsewhere. -/
def place (b : BitVec 32) (src dst : Vec F S16 .i32) : IVec S16 32 :=
  select (inRows (F := F) b dst) (addi (muli (subi dst (broadcast S16 b)) (broadcast S16 2048#32)) src) (broadcast S16 0#32)

/-- Sixteen edges scattered into the count buffer. -/
def group (i : grid0.Coords) (b : BitVec 32) (off : Fin 1 → Nat) (h : ∀ a, off a + S16.size a ≤ S8192.size a) : TileProg i F PUnit := do
  let src : Vec F S16 .i32 ← Prog.lift (.load sS (Rect.unit (s := S8192) off S16.size h).toLoadRect (View.loadsAt_vmem h_S16))
  let dst : Vec F S16 .i32 ← Prog.lift (.load sD (Rect.unit (s := S8192) off S16.size h).toLoadRect (View.loadsAt_vmem h_S16))
  have hw : k0_chk1 (place (F := F) b src dst) := (← Prog.lift (TpuEff.assume (k0_chk1 (place (F := F) b src dst)) (k0_chk1.dec _))).down
  SparseCore.vectorStoreIdx sB ![place (F := F) b src dst] (k0_pay38 (F := F)) (inRows (F := F) b dst) true (k0_idx1_inb _ hw) (View.stores_vmem_bits_univ h_S65536 rfl)

/-- A trip of the scan of a chunk: four groups. -/
def trip (i : grid0.Coords) (b : BitVec 32) (k : Fin k0_t2_loop.trips) (_ : Unit) : TileProg i F Unit := do
  group i b (k0_off2 k) (k0_off2_inb k)
  group i b (k0_off3 k) (k0_off3_inb k)
  group i b (k0_off4 k) (k0_off4_inb k)
  group i b (k0_off5 k) (k0_off5_inb k)
  pure ⟨⟩

/-- A fetch of 8192 words of row `r` of the edge list. -/
def fetch (i : grid0.Coords) (off : Fin 2 → Nat) (h : ∀ a, off a + S1x8192.size a ≤ S2x32768.size a) (dst : Memref sig .scVector .vmem S8192 .i32)
    (hdst : dst.IsWhole) (sm : DmaSems sig S_) : TileProg i F PUnit := do
  Prog.lift (.enqueueDma ((eV.slice (Rect.unit (s := S2x32768) off S1x8192.size h) (fun _ => rfl)).squeeze S8192 squeezes_S1x8192_S8192)
    (.here dst) (.dma sm.sem) ((View.wordExact_bits rfl).reshape _ _) hdst.wordExact ⟨Or.inl rfl, trivial⟩)
  Prog.lift (.waitDma2 sm.sem ((eV.slice (Rect.unit (s := S2x32768) off S1x8192.size h) (fun _ => rfl)).squeeze S8192 squeezes_S1x8192_S8192)
    dst ((View.wordExact_bits rfl).reshape _ _) hdst.wordExact)

/-- A chunk: both its rows fetched, then scanned. -/
def chunk (i : grid0.Coords) (b : BitVec 32) (off₀ off₁ : Fin 2 → Nat) (h₀ : ∀ a, off₀ a + S1x8192.size a ≤ S2x32768.size a)
    (h₁ : ∀ a, off₁ a + S1x8192.size a ≤ S2x32768.size a) (sm₀ sm₁ : DmaSems sig S_) : TileProg i F PUnit := do
  fetch i off₀ h₀ sS (Memref.isWhole_whole _) sm₀
  fetch i off₁ h₁ sD (Memref.isWhole_whole _) sm₁
  Scf.Loop.for k0_t2_loop k0_t2_ok ⟨⟩ (trip i b)
  pure ⟨⟩

/-- Sixteen zeros stored. -/
def zero16 (i : grid0.Coords) (off : Fin 1 → Nat) (h : ∀ a, off a + S16.size a ≤ S65536.size a) : TileProg i F PUnit := do
  let _v : Vec F S16 .f32 ← Prog.lift (.load sB (Rect.unit (s := S65536) off S16.size h).toLoadRect (View.loadsAt_vmem h_S16))
  Prog.lift (.store sB (Rect.unit (s := S65536) off S16.size h) (k0_pay37 (F := F)) Finset.univ (View.stores_vmem_bits_univ h_S16 rfl) (.inl rfl))

/-- A trip of the loop that clears the count buffer. -/
def zeroTrip (i : grid0.Coords) (k : Fin k0_t1_loop.trips) (_ : Unit) : TileProg i F Unit := do
  zero16 i (k0_off1 k 0#32) (k0_off1_inb k 0)
  zero16 i (k0_off1 k 16#32) (k0_off1_inb k 1)
  zero16 i (k0_off1 k 32#32) (k0_off1_inb k 2)
  zero16 i (k0_off1 k 48#32) (k0_off1_inb k 3)
  zero16 i (k0_off1 k 64#32) (k0_off1_inb k 4)
  zero16 i (k0_off1 k 80#32) (k0_off1_inb k 5)
  zero16 i (k0_off1 k 96#32) (k0_off1_inb k 6)
  zero16 i (k0_off1 k 112#32) (k0_off1_inb k 7)
  pure ⟨⟩

/-- The finished counts written out. -/
def writeOut (i : grid0.Coords) (off : Fin 1 → Nat) (h : ∀ a, off a + S65536.size a ≤ S4194304.size a) (sm : DmaSems sig S_) : TileProg i F PUnit := do
  Prog.lift (.enqueueDma sB (.here (oV.slice (Rect.unit (s := S4194304) off S65536.size h) (fun _ => rfl))) (.dma sm.sem)
    (Memref.isWhole_whole _).wordExact (View.wordExact_bits rfl) ⟨Or.inl rfl, trivial⟩)
  Prog.lift (.waitDma2 sm.sem sB (oV.slice (Rect.unit (s := S4194304) off S65536.size h) (fun _ => rfl)) (Memref.isWhole_whole _).wordExact (View.wordExact_bits rfl))

/-- A pass: the count buffer cleared, the four chunks scanned, the counts of 32 rows written out. -/
def pass (i : grid0.Coords) (o : BitVec 32) (h : ∀ a, k0_off18 i o a + S65536.size a ≤ S4194304.size a) (sm : Fin 9 → DmaSems sig S_) : TileProg i F PUnit := do
  Scf.Loop.for k0_t1_loop k0_t1_ok ⟨⟩ (zeroTrip i)
  chunk i (base i o) ![0, 0] ![1, 0] inb_S2x32768_S1x8192_0_0 inb_S2x32768_S1x8192_1_0 (sm 0) (sm 1)
  chunk i (base i o) ![0, 8192] ![1, 8192] inb_S2x32768_S1x8192_0_8192 inb_S2x32768_S1x8192_1_8192 (sm 2) (sm 3)
  chunk i (base i o) ![0, 16384] ![1, 16384] inb_S2x32768_S1x8192_0_16384 inb_S2x32768_S1x8192_1_16384 (sm 4) (sm 5)
  chunk i (base i o) ![0, 24576] ![1, 24576] inb_S2x32768_S1x8192_0_24576 inb_S2x32768_S1x8192_1_24576 (sm 6) (sm 7)
  writeOut i (k0_off18 i o) h (sm 8)

/-- The first pass's semaphores, and the second's. -/
def sems₀ : Fin 9 → DmaSems sig S_ :=
  ![cc0_scoped0, cc0_scoped1, cc0_scoped2, cc0_scoped3, cc0_scoped4, cc0_scoped5, cc0_scoped6, cc0_scoped7, cc0_scoped8]
def sems₁ : Fin 9 → DmaSems sig S_ :=
  ![cc0_scoped9, cc0_scoped10, cc0_scoped11, cc0_scoped12, cc0_scoped13, cc0_scoped14, cc0_scoped15, cc0_scoped16, cc0_scoped17]

end Cert.Proof.Edge
-- ==== Proof.Pieces.lean ====
/-
  The task's printed program is its two passes: by definitional unfolding, loop by loop.
-/
module

public import proofs.«01_k».proof.Proof.Setup

@[expose] public section

noncomputable section

namespace Cert.Proof.Edge

open Cert.KernelIdeal Cert.KernelIdeal.Gen

open Idealize.ShloMosaic
open Idealize.SL.Sem

variable {F : FTy → Type} [FloatOps F] [Named F]

/-- The task: its two passes. -/
def task (i : grid0.Coords) : TileProg i F PUnit := do
  pass i 0#32 (k0_off18_inb i 0) sems₀
  pass i 32#32 (k0_off18_inb i 1) sems₁

set_option maxRecDepth 65536 in
theorem task_eq (i : grid0.Coords) :
    cc0__edge_scatter (F := F) i eV (Memref.isWhole_whole _) oV (Memref.isWhole_whole _) sS (Memref.isWhole_whole _) sD (Memref.isWhole_whole _) sB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 = task i := by
  rw [cc0__edge_scatter_eq_skeleton]
  unfold cc0__edge_scatter_skel task pass chunk
  rw [k0_part9_eq_skeleton, k0_part10_eq_skeleton, k0_part11_eq_skeleton, k0_part12_eq_skeleton, k0_part13_eq_skeleton]
  unfold k0_part9_skel k0_part10_skel k0_part11_skel k0_part12_skel k0_part13_skel
  simp only [Prog.bind_assoc, Prog.lift, Prog.bind_op, Prog.bind_ret, Prog.pure_eq_ret]
  rfl

end Cert.Proof.Edge
-- ==== Proof.Scan.lean ====
/-
  One pass's counts as a recursion over groups of sixteen edges, and the proofs of the task's pieces against it: a group, a
  trip, a chunk's loop, the clearing loop.
-/
module

public import proofs.«01_k».proof.Proof.Setup
public import Idealize.ShloMosaic.Lib.WritesUnit

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The values -/

/-- Sixteen edges' scatter, as a function of the buffer (the buffer itself where a place is outside). -/
def groupStep (b : BitVec 32) (src dst : Vec F S16 .i32) (g : Vec F S65536 .f32) : Vec F S65536 .f32 :=
  open Classical in
  if h : k0_chk1 (place (F := F) b src dst) then storeIdx g ![place (F := F) b src dst] (k0_pay38 (F := F)) (inRows (F := F) b dst) true h else g

/-- A place of the edge list: row `r`, column `n` (kept below the width). -/
def edgeIx (r : Fin 2) (n : Nat) : S2x32768.Idx := fun a => match a with
  | 0 => r
  | 1 => ⟨n % 32768, Nat.mod_lt _ (by decide)⟩

/-- Row `r`'s words `16 n … 16 n + 15`. -/
def lanes (e : S2x32768.Idx → Elt F .i32) (r : Fin 2) (n : Nat) : Vec F S16 .i32 := fun x => e (edgeIx r (16 * n + (x 0).val))

/-- Row `r`'s words `8192 j … 8192 j + 8191`. -/
def chunkOf (e : S2x32768.Idx → Elt F .i32) (r : Fin 2) (j : Nat) : Vec F S8192 .i32 := fun p => e (edgeIx r (8192 * j + (p 0).val))

/-- The count buffer after the first `n` groups. -/
def acc (e : S2x32768.Idx → Elt F .i32) (b : BitVec 32) : Nat → Vec F S65536 .f32
  | 0 => fun _ => FloatOps.ofBits .f32 0x00000000#32
  | n + 1 => groupStep b (lanes e 0 n) (lanes e 1 n) (acc e b n)

/-- Every word of the edge list names one of the 2048 nodes. -/
def InRange (e : S2x32768.Idx → BitVec 32) : Prop := ∀ p, (e p).toNat < 2048

/-! ## The bases -/

theorem base_zero : ∀ i : grid0.Coords, (base i 0#32).toNat = 128 * (i 1).val + 64 * (i 0).val := by decide +kernel
theorem base_one : ∀ i : grid0.Coords, (base i 32#32).toNat = 128 * (i 1).val + 64 * (i 0).val + 32 := by decide +kernel

/-- Which of sixteen edges end in the rows from `b`, by the numbers. -/
theorem inRows_apply {b : BitVec 32} (hb : b.toNat ≤ 2016) (dst : Vec F S16 .i32) (x : S16.Idx) :
    inRows (F := F) b dst x = if b.toNat ≤ (dst x : BitVec 32).toNat ∧ (dst x : BitVec 32).toNat < b.toNat + 32 then 1#1 else 0#1 := by
  show BitVec.ofBool (BitVec.sle b (dst x)) &&& BitVec.ofBool (BitVec.slt (dst x) (b + 32#32)) = _
  generalize (dst x : BitVec 32) = y
  have h1 : b.toInt = b.toNat := BitVec.toInt_eq_toNat_of_lt (by omega)
  have h2 : (b + 32#32).toNat = b.toNat + 32 := by rw [BitVec.toNat_add]; simp; omega
  have h3 : (b + 32#32).toInt = b.toNat + 32 := by rw [BitVec.toInt_eq_toNat_of_lt (by omega), h2]; rfl
  have h4 := BitVec.toInt_eq_toNat_cond y
  have hy := y.isLt
  have e1 : BitVec.sle b y = decide (b.toNat ≤ y.toNat ∧ y.toNat < 2147483648) := by
    rw [BitVec.sle, h1, h4]; apply decide_eq_decide.mpr; split_ifs <;> omega
  have e2 : BitVec.slt y (b + 32#32) = decide (y.toNat < b.toNat + 32 ∨ 2147483648 ≤ y.toNat) := by
    rw [BitVec.slt, h3, h4]; apply decide_eq_decide.mpr; split_ifs <;> omega
  rw [e1, e2]
  by_cases c1 : b.toNat ≤ y.toNat ∧ y.toNat < b.toNat + 32
  · rw [if_pos c1, decide_eq_true (by omega), decide_eq_true (by omega)]; rfl
  · rw [if_neg c1]
    by_cases c2 : b.toNat ≤ y.toNat ∧ y.toNat < 2147483648
    · rw [decide_eq_true c2, decide_eq_false (by omega)]; rfl
    · rw [decide_eq_false c2]; exact BitVec.zero_and

/-- The place of an edge that ends in the rows from `b`, by the numbers; zero for one that does not. -/
theorem place_apply {b : BitVec 32} (hb : b.toNat ≤ 2016) {src : Vec F S16 .i32} (dst : Vec F S16 .i32) (x : S16.Idx)
    (hsrc : (src x : BitVec 32).toNat < 2048) :
    (place (F := F) b src dst x).toNat = if b.toNat ≤ (dst x : BitVec 32).toNat ∧ (dst x : BitVec 32).toNat < b.toNat + 32
      then ((dst x : BitVec 32).toNat - b.toNat) * 2048 + (src x : BitVec 32).toNat else 0 := by
  show (if inRows (F := F) b dst x = 1#1 then (((dst x : BitVec 32) - b) * 2048#32) + src x else 0#32).toNat = _
  rw [inRows_apply hb]
  generalize (src x : BitVec 32) = s at *
  generalize (dst x : BitVec 32) = y at *
  by_cases h : b.toNat ≤ y.toNat ∧ y.toNat < b.toNat + 32
  · rw [if_pos h, if_pos h, if_pos rfl]
    have h1 : (y - b).toNat = y.toNat - b.toNat := BitVec.toNat_sub_of_le (BitVec.le_def.mpr h.1)
    rw [BitVec.toNat_add, BitVec.toNat_mul, h1]
    simp only [BitVec.toNat_ofNat]
    omega
  · rw [if_neg h, if_neg h, if_neg (by decide)]; rfl

/-- Every place is inside the buffer when every source word is a node. -/
theorem chk_place {b : BitVec 32} (hb : b.toNat ≤ 2016) {src : Vec F S16 .i32} (hsrc : ∀ x, (src x : BitVec 32).toNat < 2048) (dst : Vec F S16 .i32) :
    k0_chk1 (place (F := F) b src dst) := by
  intro a x
  obtain rfl : a = 0 := Subsingleton.elim _ _
  show (place (F := F) b src dst x).toNat < 65536
  rw [place_apply hb dst x (hsrc x)]
  have := hsrc x
  split_ifs <;> omega

/-! ## A group -/

section Body

variable (d : Dev nD) (i : grid0.Coords)

theorem set_sB : ((sB : Memref sig .scVector .vmem S65536 .f32).access (.whole S65536)).set = Finset.univ :=
  Memref.set_access_whole (cc0_scratch2 : Ref sig .scVector)

/-- A piece of a chunk loaded from a scratch. -/
abbrev piece (off : Fin 1 → Nat) (h : ∀ a, off a + S16.size a ≤ S8192.size a) (s : Vec F S8192 .i32) : Vec F S16 .i32 :=
  (sS : Memref sig .scVector .vmem S8192 .i32).view.readAt (Elt F) (Rect.unit (s := S8192) off S16.size h).toLoadRect s

theorem scatter_write (g : Vec F S65536 .f32) (idxs : Fin S65536.rank → IVec S16 32) (v : Vec F S16 .f32) (m : IVec S16 1) (h : ∀ a x, (idxs a x).toNat < S65536.size a) :
    ((sB : Memref sig .scVector .vmem S65536 .f32).access (.whole S65536)).write (Elt F) g
        (storeIdx (((sB : Memref sig .scVector .vmem S65536 .f32).access (.whole S65536)).read (Elt F) g) idxs v m true h) Finset.univ
      = storeIdx (s := S65536) (e := .f32) g idxs v m true h :=
  (Memref.write_access_whole_univ (Elt F) cc0_scratch2 g _).trans
    (congrArg (fun z : Vec F S65536 .f32 => storeIdx (s := S65536) (e := .f32) z idxs v m true h) (Memref.read_access_whole (Elt F) cc0_scratch2 g))

/-- The three scratches held. -/
def Held (fs fd : Vec F S8192 .i32) (g : Vec F S65536 .f32) : sProp 𝕄 :=
  iprop(((sS).view.loc (thr d i) ↦{fullShare} fs) ∗ ((sD).view.loc (thr d i) ↦{fullShare} fd) ∗ ((sB).view.loc (thr d i) ↦{fullShare} g))

theorem wp_group {b : BitVec 32} (off : Fin 1 → Nat) (h : ∀ a, off a + S16.size a ≤ S8192.size a) (fs fd : Vec F S8192 .i32) (g : Vec F S65536 .f32)
    (hchk : k0_chk1 (place (F := F) b (piece off h fs) (piece off h fd)))
    {α : Type} (k : PUnit → TileProg i F α) (Q : α → sProp 𝕄) :
    Held d i fs fd g ⊢ iprop((Held d i fs fd (groupStep b (piece off h fs) (piece off h fd) g) -∗ wp frame (wpE (defs₀ (F := F)) 𝒱₀ (thr d i) none) Set.univ (k ⟨⟩) Q)
      -∗ wp frame (wpE (defs₀ (F := F)) 𝒱₀ (thr d i) none) Set.univ (group i b off h >>= k) Q) := by
  unfold group
  simp only [Prog.bind_assoc, Prog.lift, Prog.bind_op, Prog.bind_ret, Prog.pure_eq_ret]
  unfold Held
  iintro ⟨Hs, Hd, Hb⟩ Hk
  iapply (wp_load 𝒱₀ (thr d i) none Set.univ (m := (sS : Memref sig .scVector .vmem S8192 .i32)) (S := Finset.univ) (Finset.subset_univ _)) $$ Hs; iintro Hs
  iapply (wp_load 𝒱₀ (thr d i) none Set.univ (m := (sD : Memref sig .scVector .vmem S8192 .i32)) (S := Finset.univ) (Finset.subset_univ _)) $$ Hd; iintro Hd
  have hchk' : k0_chk1 (place (F := F) b ((sS : Memref sig .scVector .vmem S8192 .i32).view.readAt (Elt F) (Rect.unit (s := S8192) off S16.size h).toLoadRect fs)
    ((sD : Memref sig .scVector .vmem S8192 .i32).view.readAt (Elt F) (Rect.unit (s := S8192) off S16.size h).toLoadRect fd)) := hchk
  rw [wp_assume_of _ _ _ _ hchk']
  ihave Hb' := (Entails.of_eq (show ((sB).view.loc (thr d i) ↦{fullShare} g : sProp 𝕄)
    = (((sB : Memref sig .scVector .vmem S65536 .f32).access (.whole S65536)).loc (thr d i) ↦[((sB : Memref sig .scVector .vmem S65536 .f32).access (.whole S65536)).set]{fullShare} g) by
      rw [set_sB])) $$ Hb
  iapply (SparseCore.wp_vectorStoreIdx 𝒱₀ (thr d i) none Set.univ (base := (sB : Memref sig .scVector .vmem S65536 .f32))) $$ Hb'; iintro Hb
  iapply Hk
  isplitl [Hs]; · iexact Hs
  isplitl [Hd]; · iexact Hd
  ihave Hb' := (Entails.of_eq (show ((((sB : Memref sig .scVector .vmem S65536 .f32).access (.whole S65536)).loc (thr d i) ↦[((sB : Memref sig .scVector .vmem S65536 .f32).access (.whole S65536)).set]{fullShare} _) : sProp 𝕄)
    = ((sB).view.loc (thr d i) ↦{fullShare} groupStep b (piece off h fs) (piece off h fd) g) by
      rw [set_sB]
      rw [scatter_write, groupStep, dif_pos hchk]; rfl)) $$ Hb
  iexact Hb'

/-! ## A trip and a chunk's loop -/

theorem piece_chunk (off : Fin 1 → Nat) (h : ∀ a, off a + S16.size a ≤ S8192.size a) (e : S2x32768.Idx → Elt F .i32) (r : Fin 2) (j n m : Nat)
    (ho : off = ![n]) (hm : 16 * m = 8192 * j + n) : piece off h (chunkOf e r j) = lanes e r m := by
  subst ho
  funext x
  show (View.whole cc0_scratch0).read (Elt F) (chunkOf e r j) ((Rect.unit (s := S8192) ![n] S16.size h).toLoadRect.idx x) = _
  rw [View.read_whole]
  show e (edgeIx r (8192 * j + (n + 1 * (x 0).val))) = e (edgeIx r (16 * m + (x 0).val))
  congr 2; omega

variable {e : S2x32768.Idx → Elt F .i32} (he : InRange e)

include he in
theorem chk_lanes {b : BitVec 32} (hb : b.toNat ≤ 2016) (n : Nat) : k0_chk1 (place (F := F) b (lanes e 0 n) (lanes e 1 n)) :=
  chk_place hb (fun _ => he _) _

include he in
theorem wp_group_acc {b : BitVec 32} (hb : b.toNat ≤ 2016) (off : Fin 1 → Nat) (h : ∀ a, off a + S16.size a ≤ S8192.size a) (j n m : Nat)
    (ho : off = ![n]) (hm : 16 * m = 8192 * j + n) {α : Type} (k : PUnit → TileProg i F α) (Q : α → sProp 𝕄) :
    Held d i (chunkOf e 0 j) (chunkOf e 1 j) (acc e b m)
      ⊢ iprop((Held d i (chunkOf e 0 j) (chunkOf e 1 j) (acc e b (m + 1)) -∗ wp frame (wpE (defs₀ (F := F)) 𝒱₀ (thr d i) none) Set.univ (k ⟨⟩) Q)
      -∗ wp frame (wpE (defs₀ (F := F)) 𝒱₀ (thr d i) none) Set.univ (group i b off h >>= k) Q) := by
  have hg := wp_group d i (b := b) off h (chunkOf e 0 j) (chunkOf e 1 j) (acc e b m)
    (by rw [piece_chunk off h e 0 j n m ho hm, piece_chunk off h e 1 j n m ho hm]; exact chk_lanes he hb m) k Q
  rw [piece_chunk off h e 0 j n m ho hm, piece_chunk off h e 1 j n m ho hm] at hg
  exact hg

theorem trips_t2 : k0_t2_loop.trips = 128 := by decide
theorem trips_t1 : k0_t1_loop.trips = 512 := by decide

include he in
theorem wp_trip {b : BitVec 32} (hb : b.toNat ≤ 2016) (j : Nat) (k : Fin k0_t2_loop.trips) (u : Unit) :
    Held d i (chunkOf e 0 j) (chunkOf e 1 j) (acc e b (512 * j + 4 * k.val))
      ⊢ wp frame (wpE (defs₀ (F := F)) 𝒱₀ (thr d i) none) Set.univ (trip i b k u)
        fun _ => Held d i (chunkOf e 0 j) (chunkOf e 1 j) (acc e b (512 * j + 4 * (k.val + 1))) := by
  unfold trip
  iintro H
  iapply (wp_group_acc d i he hb (k0_off2 k) (k0_off2_inb k) j _ (512 * j + 4 * k.val) (k0_off2_eq k) (by omega)) $$ H; iintro H
  iapply (wp_group_acc d i he hb (k0_off3 k) (k0_off3_inb k) j _ (512 * j + 4 * k.val + 1) (k0_off3_eq k) (by omega)) $$ H; iintro H
  iapply (wp_group_acc d i he hb (k0_off4 k) (k0_off4_inb k) j _ (512 * j + 4 * k.val + 2) (k0_off4_eq k) (by omega)) $$ H; iintro H
  iapply (wp_group_acc d i he hb (k0_off5 k) (k0_off5_inb k) j _ (512 * j + 4 * k.val + 3) (k0_off5_eq k) (by omega)) $$ H; iintro H
  sl_step
  iexact H

include he in
theorem wp_scan {b : BitVec 32} (hb : b.toNat ≤ 2016) (j : Nat) {α : Type} (k : Unit → TileProg i F α) (Q : α → sProp 𝕄) :
    Held d i (chunkOf e 0 j) (chunkOf e 1 j) (acc e b (512 * j))
      ⊢ iprop((Held d i (chunkOf e 0 j) (chunkOf e 1 j) (acc e b (512 * (j + 1))) -∗ wp frame (wpE (defs₀ (F := F)) 𝒱₀ (thr d i) none) Set.univ (k ⟨⟩) Q)
        -∗ wp frame (wpE (defs₀ (F := F)) 𝒱₀ (thr d i) none) Set.univ (Scf.Loop.for k0_t2_loop k0_t2_ok ⟨⟩ (trip i b) >>= k) Q) := by
  iintro H Hk
  iapply (Scf.wp_for_bind _ _ _ _ _ _ k0_t2_ok () (trip i b) (fun n _ => Held d i (chunkOf e 0 j) (chunkOf e 1 j) (acc e b (512 * j + 4 * n)))
    (fun k u => wp_trip d i he hb j k u)) $$ H
  iintro %_ H
  iapply Hk
  ihave H' := (Entails.of_eq (show (Held d i (chunkOf e 0 j) (chunkOf e 1 j) (acc e b (512 * j + 4 * k0_t2_loop.trips)) : sProp 𝕄)
    = Held d i (chunkOf e 0 j) (chunkOf e 1 j) (acc e b (512 * (j + 1))) by rw [trips_t2]; congr 2)) $$ H
  iexact H'

/-! ## The clearing loop -/

/-- The buffer with its first `n` words cleared. -/
def cleared (f : Vec F S65536 .f32) (n : Nat) : Vec F S65536 .f32 :=
  fun p => if (p 0).val < n then FloatOps.ofBits .f32 0x00000000#32 else f p

theorem clear_write (off : Fin 1 → Nat) (h : ∀ a, off a + S16.size a ≤ S65536.size a) (n : Nat) (ho : off = ![n]) (f : Vec F S65536 .f32) :
    ((sB : Memref sig .scVector .vmem S65536 .f32).access (Rect.unit (s := S65536) off S16.size h)).write (Elt F) (cleared f n) (k0_pay37 (F := F)) Finset.univ
      = cleared f (n + 16) := by
  subst ho
  funext p
  have := View.read_writes_cons_unit (Val := Elt F) (sB : Memref sig .scVector .vmem S65536 .f32).view (cleared f n) (off := ![n]) (off' := ![n]) (size := S16.size) h (k0_pay37 (F := F)) [] p rfl
  refine (show _ = _ from this).trans ?_
  have hp : (∀ a : Fin 1, (![n] : Fin 1 → Nat) a ≤ (p a).val ∧ (p a).val < (![n] : Fin 1 → Nat) a + S16.size a) ↔ (n ≤ (p 0).val ∧ (p 0).val < n + 16) :=
    ⟨fun h => h 0, fun h a => by obtain rfl : a = 0 := Subsingleton.elim _ _; exact h⟩
  split_ifs with hc
  · have := hp.mp hc
    show FloatOps.ofBits .f32 0x00000000#32 = _
    rw [cleared, if_pos (by omega)]
  · have := fun x => hc (hp.mpr x)
    show cleared f n p = cleared f (n + 16) p
    unfold cleared
    by_cases h1 : (p 0).val < n
    · rw [if_pos h1, if_pos (by omega)]
    · rw [if_neg h1, if_neg (by intro h2; exact this ⟨by omega, h2⟩)]

theorem wp_zero16 (off : Fin 1 → Nat) (h : ∀ a, off a + S16.size a ≤ S65536.size a) (n : Nat) (ho : off = ![n]) (f : Vec F S65536 .f32)
    {α : Type} (k : PUnit → TileProg i F α) (Q : α → sProp 𝕄) :
    (((sB).view.loc (thr d i) ↦{fullShare} cleared f n : sProp 𝕄))
      ⊢ iprop((((sB).view.loc (thr d i) ↦{fullShare} cleared f (n + 16)) -∗ wp frame (wpE (defs₀ (F := F)) 𝒱₀ (thr d i) none) Set.univ (k ⟨⟩) Q)
        -∗ wp frame (wpE (defs₀ (F := F)) 𝒱₀ (thr d i) none) Set.univ (zero16 i off h >>= k) Q) := by
  unfold zero16
  simp only [Prog.bind_assoc, Prog.lift, Prog.bind_op, Prog.bind_ret, Prog.pure_eq_ret]
  iintro Hb Hk
  iapply (wp_load 𝒱₀ (thr d i) none Set.univ (m := (sB : Memref sig .scVector .vmem S65536 .f32)) (S := Finset.univ) (Finset.subset_univ _)) $$ Hb; iintro Hb
  ihave Hb' := (Entails.of_eq (show ((sB).view.loc (thr d i) ↦{fullShare} cleared f n : sProp 𝕄)
    = (((sB : Memref sig .scVector .vmem S65536 .f32).access (Rect.unit (s := S65536) off S16.size h)).loc (thr d i) ↦{fullShare} cleared f n) from rfl)) $$ Hb
  iapply (wp_store 𝒱₀ (thr d i) none Set.univ (m := (sB : Memref sig .scVector .vmem S65536 .f32)) (r := Rect.unit (s := S65536) off S16.size h) (Mk := Finset.univ) (S := Finset.univ) (Finset.subset_univ _)) $$ Hb'; iintro Hb
  iapply Hk
  ihave Hb' := (Entails.of_eq (show ((((sB : Memref sig .scVector .vmem S65536 .f32).access (Rect.unit (s := S65536) off S16.size h)).loc (thr d i) ↦{fullShare} _) : sProp 𝕄)
    = ((sB).view.loc (thr d i) ↦{fullShare} cleared f (n + 16)) by rw [clear_write off h n ho f])) $$ Hb
  iexact Hb'

theorem wp_zeroTrip (f : Vec F S65536 .f32) (k : Fin k0_t1_loop.trips) (u : Unit) :
    (((sB).view.loc (thr d i) ↦{fullShare} cleared f (128 * k.val) : sProp 𝕄))
      ⊢ wp frame (wpE (defs₀ (F := F)) 𝒱₀ (thr d i) none) Set.univ (zeroTrip i k u)
        fun _ => ((sB).view.loc (thr d i) ↦{fullShare} cleared f (128 * (k.val + 1))) := by
  unfold zeroTrip
  iintro H
  iapply (wp_zero16 d i _ _ (128 * k.val) (k0_off1_eq k 0)) $$ H; iintro H
  iapply (wp_zero16 d i _ _ (128 * k.val + 16) (k0_off1_eq k 1)) $$ H; iintro H
  iapply (wp_zero16 d i _ _ (128 * k.val + 16 + 16) (k0_off1_eq k 2)) $$ H; iintro H
  iapply (wp_zero16 d i _ _ (128 * k.val + 16 + 16 + 16) (k0_off1_eq k 3)) $$ H; iintro H
  iapply (wp_zero16 d i _ _ (128 * k.val + 16 + 16 + 16 + 16) (k0_off1_eq k 4)) $$ H; iintro H
  iapply (wp_zero16 d i _ _ (128 * k.val + 16 + 16 + 16 + 16 + 16) (k0_off1_eq k 5)) $$ H; iintro H
  iapply (wp_zero16 d i _ _ (128 * k.val + 16 + 16 + 16 + 16 + 16 + 16) (k0_off1_eq k 6)) $$ H; iintro H
  iapply (wp_zero16 d i _ _ (128 * k.val + 16 + 16 + 16 + 16 + 16 + 16 + 16) (k0_off1_eq k 7)) $$ H; iintro H
  sl_step
  iexact H

theorem wp_clear (f : Vec F S65536 .f32) (e : S2x32768.Idx → Elt F .i32) (b : BitVec 32) {α : Type} (k : Unit → TileProg i F α) (Q : α → sProp 𝕄) :
    (((sB).view.loc (thr d i) ↦{fullShare} f : sProp 𝕄))
      ⊢ iprop((((sB).view.loc (thr d i) ↦{fullShare} acc e b 0) -∗ wp frame (wpE (defs₀ (F := F)) 𝒱₀ (thr d i) none) Set.univ (k ⟨⟩) Q)
        -∗ wp frame (wpE (defs₀ (F := F)) 𝒱₀ (thr d i) none) Set.univ (Scf.Loop.for k0_t1_loop k0_t1_ok ⟨⟩ (zeroTrip i) >>= k) Q) := by
  iintro H Hk
  ihave H := (Entails.of_eq (show ((sB).view.loc (thr d i) ↦{fullShare} f : sProp 𝕄) = ((sB).view.loc (thr d i) ↦{fullShare} cleared f (128 * 0)) by
    rw [show cleared f (128 * 0) = f from funext fun p => if_neg (by omega)])) $$ H
  iapply (Scf.wp_for_bind _ _ _ _ _ _ k0_t1_ok () (zeroTrip i) (fun n _ => ((sB).view.loc (thr d i) ↦{fullShare} cleared f (128 * n)))
    (fun k u => wp_zeroTrip d i f k u)) $$ H
  iintro %_ H
  iapply Hk
  ihave H' := (Entails.of_eq (show ((sB).view.loc (thr d i) ↦{fullShare} cleared f (128 * k0_t1_loop.trips) : sProp 𝕄)
    = ((sB).view.loc (thr d i) ↦{fullShare} acc e b 0) by
      rw [trips_t1, show cleared f (128 * 512) = acc e b 0 from funext fun p => if_pos (p 0).isLt])) $$ H
  iexact H'

end Body

end Cert.Proof.Edge
-- ==== Proof.Tile.lean ====
/-
  The task's copies, its passes, and the whole task: run over any floats, from the edge list held at a read share and the
  task's two blocks of the flat count array, to the same with the blocks holding the counts.
-/
module

public import proofs.«01_k».proof.Proof.Pieces
public import proofs.«01_k».proof.Proof.Scan

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Body

variable (d : Dev nD) (i : grid0.Coords) (O : CellTallies nD τ sig (HIx 1)) (W : Waits sig (HIx 1))

/-! ## The copies -/

/-- What the task owes, its waits so far within the ones allowed. -/
def Owing : sProp 𝕄 := iprop(∃ W', ⌜∀ p ∈ W', p ∈ W ∨ p.2 = none⌝ ∗ owes (thr d i) O W')

theorem owing_elim : (Owing d i O W : sProp 𝕄) ⊢ iprop(∃ W', ⌜∀ p ∈ W', p ∈ W ∨ p.2 = none⌝ ∗ owes (thr d i) O W') := by
  unfold Owing; exact .rfl

theorem owing_insert (sm : SemLoc sig) (W' : Waits sig (HIx 1)) (hW' : ∀ p ∈ W', p ∈ W ∨ p.2 = none) :
    (owes (thr d i) O (insert (sm, (default : HIx 1)) W') : sProp 𝕄) ⊢ Owing d i O W := by
  unfold Owing
  iintro HO
  iexists (insert (sm, (default : HIx 1)) W'); isplitr
  · ipureintro; intro p hp
    rcases Finset.mem_insert.mp hp with hp | hp
    · exact .inr (hp ▸ rfl)
    · exact hW' p hp
  · iexact HO

/-- Eight thousand words of a row of the edge list, as the copy reads them. -/
abbrev eRow (off : Fin 2 → Nat) (h : ∀ a, off a + S1x8192.size a ≤ S2x32768.size a) : Memref sig .scVector .hbm S8192 .i32 :=
  (eV.slice (Rect.unit (s := S2x32768) off S1x8192.size h) (fun _ => rfl)).squeeze S8192 squeezes_S1x8192_S8192

theorem wp_fetch (off : Fin 2 → Nat) (h : ∀ a, off a + S1x8192.size a ≤ S2x32768.size a) (dst : Memref sig .scVector .vmem S8192 .i32)
    (hdst : dst.IsWhole) (sm : DmaSems sig S_) (q : PosShare TreeShare) (e : Buf (Elt F) (eV.view.loc (thr d i))) (f : Buf (Elt F) (dst.view.loc (thr d i)))
    {α : Type} (k : PUnit → TileProg i F α) (Q : α → sProp 𝕄) :
    iprop(Transfers.MayWaits (thr d i) (none : HIx 1) O ∗ (eV.view.loc (thr d i) ↦{q} e) ∗ (dst.view.loc (thr d i) ↦[dst.view.set]{fullShare} f) ∗ semVal (thr d i, SemLoc.dma sm.sem) 0 ∗ Owing d i O W)
      ⊢ iprop((iprop((eV.view.loc (thr d i) ↦{q} e) ∗ (dst.view.loc (thr d i) ↦[dst.view.set]{fullShare} dst.view.write (Elt F) f ((eRow off h).view.read (Elt F) e) Finset.univ)
            ∗ semVal (thr d i, SemLoc.dma sm.sem) 0 ∗ Owing d i O W) -∗ wp frame (wpE (defs₀ (F := F)) 𝒱₀ (thr d i) none) Set.univ (k ⟨⟩) Q)
        -∗ wp frame (wpE (defs₀ (F := F)) 𝒱₀ (thr d i) none) Set.univ (fetch i off h dst hdst sm >>= k) Q) := by
  unfold fetch
  simp only [Prog.bind_assoc, Prog.lift, Prog.bind_op, Prog.bind_ret, Prog.pure_eq_ret]
  iintro ⟨#Hmw, He, Hd, Hsem, HOw⟩ Hk
  ihave HOw := (owing_elim d i O W) $$ HOw
  icases HOw with ⟨%W', %hW', HO⟩
  ihave He := (pointsTo_split_subset (Finset.subset_univ (eRow off h).view.set)).1 $$ He
  icases He with ⟨He, Hrest⟩
  iapply (Transfers.wp_dmaLocal countersEmb 𝒱₀ (thr d i) none (default : HIx 1) _ rfl (View.amount_pos _ _ (show 0 < S8192.numel by decide)) (Finset.Subset.refl _)) $$ [He Hd Hsem]
  · isplitl [He]; · iexact He
    isplitl [Hd]; · iexact Hd
    iexact Hsem
  iintro Hf
  iapply (Transfers.wp_waitLocalO countersEmb 𝒱₀ (thr d i) none (default : HIx 1) rfl) $$ [Hf HO]
  · isplitl [Hf]; · iexact Hf
    isplitl [HO]; · iexact HO
    iapply (Transfers.MayWaits.elim _); iexact Hmw
  iintro ⟨⟨Hd, He⟩, Hsem, HO⟩
  iapply Hk
  isplitl [He Hrest]
  · iapply (pointsTo_split_subset (Finset.subset_univ (eRow off h).view.set)).2
    isplitl [He]; · iexact He
    iexact Hrest
  isplitl [Hd]; · iexact Hd
  isplitl [Hsem]; · iexact Hsem
  iapply (owing_insert d i O W _ W' hW'); iexact HO

theorem read_eRow (r : Fin 2) (j n : Nat) (off : Fin 2 → Nat) (h : ∀ a, off a + S1x8192.size a ≤ S2x32768.size a) (ho : off = ![r.val, n]) (hn : n = 8192 * j)
    (hj : j < 4) (e : S2x32768.Idx → Elt F .i32) : (eRow off h).view.read (Elt F) e = chunkOf e r j := by
  subst ho hn
  funext p
  have hy : Shape.reshapeEquiv (squeezes_S1x8192_S8192).numel_eq p = (Fin.cons (0 : Fin 1) (fun a => p a) : S1x8192.Idx) := by
    refine Shape.reshapeEquiv_eq_of_rowMajor _ ?_
    rw [Shape.rowMajor_val_one, Shape.rowMajor_val_two]
    show 0 * 8192 + (p 0).val = (p 0).val
    omega
  show e ((Rect.unit (s := S2x32768) ![r.val, 8192 * j] S1x8192.size h).emb (Shape.reshapeEquiv (squeezes_S1x8192_S8192).numel_eq p)) = e _
  rw [hy]
  congr 1
  have hp : (p 0).val < 8192 := (p 0).isLt
  funext a
  refine Fin.ext ?_
  match a with
  | 0 => show r.val + 1 * 0 = r.val; omega
  | 1 => show 8192 * j + 1 * (p 0).val = (8192 * j + (p 0).val) % 32768; omega

theorem sS_set : (sS : Memref sig .scVector .vmem S8192 .i32).view.set = Finset.univ := by simp only [Memref.view_whole, View.set_whole]
theorem sD_set : (sD : Memref sig .scVector .vmem S8192 .i32).view.set = Finset.univ := by simp only [Memref.view_whole, View.set_whole]
theorem sS_write (f w : Vec F S8192 .i32) : (sS : Memref sig .scVector .vmem S8192 .i32).view.write (Elt F) f w Finset.univ = w := by
  simp only [Memref.view_whole]; exact View.write_whole_univ ..
theorem sD_write (f w : Vec F S8192 .i32) : (sD : Memref sig .scVector .vmem S8192 .i32).view.write (Elt F) f w Finset.univ = w := by
  simp only [Memref.view_whole]; exact View.write_whole_univ ..

/-! ## A chunk -/

/-- What the task holds between its chunks: the edge list at a read share, the three scratches, what it owes. -/
def Mid (q : PosShare TreeShare) (e : S2x32768.Idx → Elt F .i32) (g : Vec F S65536 .f32) : sProp 𝕄 :=
  iprop((eV.view.loc (thr d i) ↦{q} e) ∗ (∃ fs, (sS).view.loc (thr d i) ↦{fullShare} fs) ∗ (∃ fd, (sD).view.loc (thr d i) ↦{fullShare} fd)
    ∗ ((sB).view.loc (thr d i) ↦{fullShare} g) ∗ Owing d i O W)

theorem wp_chunk {e : S2x32768.Idx → Elt F .i32} (he : InRange e) {b : BitVec 32} (hb : b.toNat ≤ 2016) (j n : Nat) (hn : n = 8192 * j) (hj : j < 4)
    (off₀ off₁ : Fin 2 → Nat) (h₀ : ∀ a, off₀ a + S1x8192.size a ≤ S2x32768.size a) (h₁ : ∀ a, off₁ a + S1x8192.size a ≤ S2x32768.size a)
    (ho₀ : off₀ = ![0, n]) (ho₁ : off₁ = ![1, n]) (sm₀ sm₁ : DmaSems sig S_) (q : PosShare TreeShare)
    {α : Type} (k : PUnit → TileProg i F α) (Q : α → sProp 𝕄) :
    iprop(Transfers.MayWaits (thr d i) (none : HIx 1) O ∗ Mid d i O W q e (acc e b (512 * j)) ∗ semVal (thr d i, SemLoc.dma sm₀.sem) 0 ∗ semVal (thr d i, SemLoc.dma sm₁.sem) 0)
      ⊢ iprop((iprop(Mid d i O W q e (acc e b (512 * (j + 1))) ∗ semVal (thr d i, SemLoc.dma sm₀.sem) 0 ∗ semVal (thr d i, SemLoc.dma sm₁.sem) 0)
            -∗ wp frame (wpE (defs₀ (F := F)) 𝒱₀ (thr d i) none) Set.univ (k ⟨⟩) Q)
        -∗ wp frame (wpE (defs₀ (F := F)) 𝒱₀ (thr d i) none) Set.univ (chunk i b off₀ off₁ h₀ h₁ sm₀ sm₁ >>= k) Q) := by
  unfold chunk
  simp only [Prog.bind_assoc, Prog.pure_eq_ret, Prog.bind_ret]
  unfold Mid
  iintro ⟨#Hmw, ⟨He, ⟨%fs, Hs⟩, ⟨%fd, Hd⟩, Hb, HOw⟩, Hs₀, Hs₁⟩ Hk
  ihave Hs := (Entails.of_eq (show ((sS).view.loc (thr d i) ↦{fullShare} fs : sProp 𝕄) = ((sS).view.loc (thr d i) ↦[(sS : Memref sig .scVector .vmem S8192 .i32).view.set]{fullShare} fs) by rw [sS_set])) $$ Hs
  iapply (wp_fetch d i O W off₀ h₀ sS (Memref.isWhole_whole _) sm₀ q e fs) $$ [He Hs Hs₀ HOw]
  · isplitr; · iexact Hmw
    isplitl [He]; · iexact He
    isplitl [Hs]; · iexact Hs
    isplitl [Hs₀]; · iexact Hs₀
    iexact HOw
  iintro ⟨He, Hs, Hs₀, HOw⟩
  ihave Hs := (Entails.of_eq (show ((sS).view.loc (thr d i) ↦[(sS : Memref sig .scVector .vmem S8192 .i32).view.set]{fullShare} _ : sProp 𝕄) = ((sS).view.loc (thr d i) ↦{fullShare} chunkOf e 0 j)
    by rw [sS_set, sS_write, read_eRow 0 j n off₀ h₀ ho₀ hn hj])) $$ Hs
  ihave Hd := (Entails.of_eq (show ((sD).view.loc (thr d i) ↦{fullShare} fd : sProp 𝕄) = ((sD).view.loc (thr d i) ↦[(sD : Memref sig .scVector .vmem S8192 .i32).view.set]{fullShare} fd) by rw [sD_set])) $$ Hd
  iapply (wp_fetch d i O W off₁ h₁ sD (Memref.isWhole_whole _) sm₁ q e fd) $$ [He Hd Hs₁ HOw]
  · isplitr; · iexact Hmw
    isplitl [He]; · iexact He
    isplitl [Hd]; · iexact Hd
    isplitl [Hs₁]; · iexact Hs₁
    iexact HOw
  iintro ⟨He, Hd, Hs₁, HOw⟩
  ihave Hd := (Entails.of_eq (show ((sD).view.loc (thr d i) ↦[(sD : Memref sig .scVector .vmem S8192 .i32).view.set]{fullShare} _ : sProp 𝕄) = ((sD).view.loc (thr d i) ↦{fullShare} chunkOf e 1 j)
    by rw [sD_set, sD_write, read_eRow 1 j n off₁ h₁ ho₁ hn hj])) $$ Hd
  iapply (wp_scan d i he hb j) $$ [Hs Hd Hb]
  · unfold Held
    isplitl [Hs]; · iexact Hs
    isplitl [Hd]; · iexact Hd
    iexact Hb
  unfold Held
  iintro ⟨Hs, Hd, Hb⟩
  iapply Hk
  isplitl [He Hs Hd Hb HOw]
  · isplitl [He]; · iexact He
    isplitl [Hs]; · iexists _; iexact Hs
    isplitl [Hd]; · iexists _; iexact Hd
    isplitl [Hb]; · iexact Hb
    iexact HOw
  isplitl [Hs₀]; · iexact Hs₀
  iexact Hs₁

/-! ## The counts written out -/

/-- A block of the flat count array, as the copy writes it. -/
abbrev oBlk (off : Fin 1 → Nat) (h : ∀ a, off a + S65536.size a ≤ S4194304.size a) : Memref sig .scVector .hbm S65536 .f32 :=
  oV.slice (Rect.unit (s := S4194304) off S65536.size h) (fun _ => rfl)

theorem wp_writeOut (off : Fin 1 → Nat) (h : ∀ a, off a + S65536.size a ≤ S4194304.size a) (sm : DmaSems sig S_) (g : Vec F S65536 .f32) (fo : Buf (Elt F) ((oBlk off h).view.loc (thr d i)))
    {α : Type} (k : PUnit → TileProg i F α) (Q : α → sProp 𝕄) :
    iprop(Transfers.MayWaits (thr d i) (none : HIx 1) O ∗ ((sB).view.loc (thr d i) ↦{fullShare} g) ∗ ((oBlk off h).view.loc (thr d i) ↦[(oBlk off h).view.set]{fullShare} fo) ∗ semVal (thr d i, SemLoc.dma sm.sem) 0 ∗ Owing d i O W)
      ⊢ iprop((iprop(((sB).view.loc (thr d i) ↦{fullShare} g) ∗ ((oBlk off h).view.loc (thr d i) ↦[(oBlk off h).view.set]{fullShare} (oBlk off h).view.write (Elt F) fo g Finset.univ)
            ∗ semVal (thr d i, SemLoc.dma sm.sem) 0 ∗ Owing d i O W) -∗ wp frame (wpE (defs₀ (F := F)) 𝒱₀ (thr d i) none) Set.univ (k ⟨⟩) Q)
        -∗ wp frame (wpE (defs₀ (F := F)) 𝒱₀ (thr d i) none) Set.univ (writeOut i off h sm >>= k) Q) := by
  unfold writeOut
  simp only [Prog.bind_assoc, Prog.lift, Prog.bind_op, Prog.bind_ret, Prog.pure_eq_ret]
  iintro ⟨#Hmw, Hb, Ho, Hsem, HOw⟩ Hk
  ihave HOw := (owing_elim d i O W) $$ HOw
  icases HOw with ⟨%W', %hW', HO⟩
  have hset : (sB : Memref sig .scVector .vmem S65536 .f32).view.set = Finset.univ := by simp only [Memref.view_whole, View.set_whole]
  ihave Hb := (Entails.of_eq (show ((sB).view.loc (thr d i) ↦{fullShare} g : sProp 𝕄) = ((sB).view.loc (thr d i) ↦[(sB : Memref sig .scVector .vmem S65536 .f32).view.set]{fullShare} g) by rw [hset])) $$ Hb
  iapply (Transfers.wp_dmaLocal countersEmb 𝒱₀ (thr d i) none (default : HIx 1) _ rfl (View.amount_pos _ _ (show 0 < S65536.numel by decide)) (Finset.Subset.refl _)) $$ [Ho Hb Hsem]
  · isplitl [Hb]; · iexact Hb
    isplitl [Ho]; · iexact Ho
    iexact Hsem
  iintro Hf
  iapply (Transfers.wp_waitLocalO countersEmb 𝒱₀ (thr d i) none (default : HIx 1) rfl) $$ [Hf HO]
  · isplitl [Hf]; · iexact Hf
    isplitl [HO]; · iexact HO
    iapply (Transfers.MayWaits.elim _); iexact Hmw
  iintro ⟨⟨Ho, Hb⟩, Hsem, HO⟩
  ihave Hb := (Entails.of_eq (show ((sB).view.loc (thr d i) ↦[(sB : Memref sig .scVector .vmem S65536 .f32).view.set]{fullShare} g : sProp 𝕄) = ((sB).view.loc (thr d i) ↦{fullShare} g) by rw [hset])) $$ Hb
  iapply Hk
  isplitl [Hb]; · iexact Hb
  isplitl [Ho]; · iexact Ho
  isplitl [Hsem]; · iexact Hsem
  iapply (owing_insert d i O W _ W' hW'); iexact HO

/-! ## The named counts -/

/-- The place `n` of a pass's buffer, kept below its size. -/
def flatIx (n : Nat) : S65536.Idx := fun a => match a with | 0 => ⟨n % 65536, Nat.mod_lt _ (by decide)⟩

/-- The flat count array: the counts of 32 rows at a time, each as a pass leaves them. -/
def counts (e : S2x32768.Idx → Elt F .i32) : Vec F S4194304 .f32 := fun p =>
  acc e (BitVec.ofNat 32 (32 * ((p 0).val / 65536))) 2048 (flatIx (p 0).val)

theorem write_blk (e : S2x32768.Idx → Elt F .i32) (off : Fin 1 → Nat) (h : ∀ a, off a + S65536.size a ≤ S4194304.size a) (b : BitVec 32) (m : Nat)
    (ho : off = ![65536 * m]) (hb : b.toNat = 32 * m) (fo : Buf (Elt F) ((oBlk off h).view.loc (thr d i))) :
    ((oBlk off h).view.loc (thr d i) ↦[(oBlk off h).view.set]{fullShare} (oBlk off h).view.write (Elt F) fo (acc e b 2048) Finset.univ : sProp 𝕄)
      = ((oBlk off h).view.loc (thr d i) ↦[(oBlk off h).view.set]{fullShare} counts e) := by
  refine pointsTo_congr fun p hp => ?_
  obtain ⟨y, -, rfl⟩ := Finset.mem_map.mp hp
  refine (View.write_emb_of_mem (v := (oBlk off h).view) fo (acc e b 2048) (Finset.mem_univ y)).trans ?_
  subst ho
  have hv : ((oBlk ![65536 * m] h).view.emb y 0).val = 65536 * m + 1 * (y 0).val := rfl
  have hy : (y 0).val < 65536 := (y 0).isLt
  have hbe : BitVec.ofNat 32 (32 * (((oBlk ![65536 * m] h).view.emb y 0).val / 65536)) = b := by
    rw [hv, show (65536 * m + 1 * (y 0).val) / 65536 = m by omega, ← hb]; simp
  show acc e b 2048 y = acc e (BitVec.ofNat 32 (32 * (((oBlk ![65536 * m] h).view.emb y 0).val / 65536))) 2048 _
  rw [hbe]
  congr 1
  funext a
  obtain rfl : a = 0 := Subsingleton.elim _ _
  refine Fin.ext ?_
  show (y 0).val = ((oBlk ![65536 * m] h).view.emb y 0).val % 65536
  rw [hv]; omega

/-! ## A pass -/

/-- Nine semaphores of a pass, at zero. -/
def Sems (sm : Fin 9 → DmaSems sig S_) : sProp 𝕄 := bigSep Finset.univ fun n : Fin 9 => semVal (thr d i, SemLoc.dma (sm n).sem) 0

theorem Sems_eq (sm : Fin 9 → DmaSems sig S_) : (Sems d i sm : sProp 𝕄)
    = iprop(semVal (thr d i, SemLoc.dma (sm 0).sem) 0 ∗ semVal (thr d i, SemLoc.dma (sm 1).sem) 0 ∗ semVal (thr d i, SemLoc.dma (sm 2).sem) 0
      ∗ semVal (thr d i, SemLoc.dma (sm 3).sem) 0 ∗ semVal (thr d i, SemLoc.dma (sm 4).sem) 0 ∗ semVal (thr d i, SemLoc.dma (sm 5).sem) 0
      ∗ semVal (thr d i, SemLoc.dma (sm 6).sem) 0 ∗ semVal (thr d i, SemLoc.dma (sm 7).sem) 0 ∗ semVal (thr d i, SemLoc.dma (sm 8).sem) 0) := by
  unfold Sems
  rw [bigSep_eq_bigSepL_of_eq [0, 1, 2, 3, 4, 5, 6, 7, 8] (by decide) (by decide)]; rfl

theorem wp_pass {e : S2x32768.Idx → Elt F .i32} (he : InRange e) (o : BitVec 32) (h : ∀ a, k0_off18 i o a + S65536.size a ≤ S4194304.size a) (m : Nat)
    (ho : k0_off18 i o = ![65536 * m]) (hbm : (base i o).toNat = 32 * m) (hb : (base i o).toNat ≤ 2016)
    (sm : Fin 9 → DmaSems sig S_) (q : PosShare TreeShare) (g : Vec F S65536 .f32) (fo : Buf (Elt F) ((oBlk (k0_off18 i o) h).view.loc (thr d i)))
    {α : Type} (k : PUnit → TileProg i F α) (Q : α → sProp 𝕄) :
    iprop(Transfers.MayWaits (thr d i) (none : HIx 1) O ∗ Mid d i O W q e g ∗ Sems d i sm ∗ ((oBlk (k0_off18 i o) h).view.loc (thr d i) ↦[(oBlk (k0_off18 i o) h).view.set]{fullShare} fo))
      ⊢ iprop((iprop((∃ g', Mid d i O W q e g') ∗ Sems d i sm ∗ ((oBlk (k0_off18 i o) h).view.loc (thr d i) ↦[(oBlk (k0_off18 i o) h).view.set]{fullShare} counts e))
            -∗ wp frame (wpE (defs₀ (F := F)) 𝒱₀ (thr d i) none) Set.univ (k ⟨⟩) Q)
        -∗ wp frame (wpE (defs₀ (F := F)) 𝒱₀ (thr d i) none) Set.univ (pass i o h sm >>= k) Q) := by
  unfold pass
  simp only [Prog.bind_assoc]
  rw [Sems_eq]
  iintro ⟨#Hmw, HM, ⟨H0, H1, H2, H3, H4, H5, H6, H7, H8⟩, Ho⟩ Hk
  ihave HM := (Entails.of_eq (show (Mid d i O W q e g : sProp 𝕄) = _ from by unfold Mid; rfl)) $$ HM
  icases HM with ⟨He, Hs, Hd, Hb, HOw⟩
  iapply (wp_clear d i g e (base i o)) $$ Hb
  iintro Hb
  ihave HM := (Entails.of_eq (show _ = (Mid d i O W q e (acc e (base i o) (512 * 0)) : sProp 𝕄) from by unfold Mid; rfl)) $$ [He Hs Hd Hb HOw]
  · isplitl [He]; · iexact He
    isplitl [Hs]; · iexact Hs
    isplitl [Hd]; · iexact Hd
    isplitl [Hb]; · iexact Hb
    iexact HOw
  iapply (wp_chunk d i O W he hb 0 0 rfl (by decide) _ _ _ _ rfl rfl (sm 0) (sm 1) q) $$ [HM H0 H1]
  · isplitr; · iexact Hmw
    isplitl [HM]; · iexact HM
    isplitl [H0]; · iexact H0
    iexact H1
  iintro ⟨HM, H0, H1⟩
  iapply (wp_chunk d i O W he hb 1 8192 rfl (by decide) _ _ _ _ rfl rfl (sm 2) (sm 3) q) $$ [HM H2 H3]
  · isplitr; · iexact Hmw
    isplitl [HM]; · iexact HM
    isplitl [H2]; · iexact H2
    iexact H3
  iintro ⟨HM, H2, H3⟩
  iapply (wp_chunk d i O W he hb 2 16384 rfl (by decide) _ _ _ _ rfl rfl (sm 4) (sm 5) q) $$ [HM H4 H5]
  · isplitr; · iexact Hmw
    isplitl [HM]; · iexact HM
    isplitl [H4]; · iexact H4
    iexact H5
  iintro ⟨HM, H4, H5⟩
  iapply (wp_chunk d i O W he hb 3 24576 rfl (by decide) _ _ _ _ rfl rfl (sm 6) (sm 7) q) $$ [HM H6 H7]
  · isplitr; · iexact Hmw
    isplitl [HM]; · iexact HM
    isplitl [H6]; · iexact H6
    iexact H7
  iintro ⟨HM, H6, H7⟩
  ihave HM := (Entails.of_eq (show (Mid d i O W q e (acc e (base i o) (512 * (3 + 1))) : sProp 𝕄) = _ from by unfold Mid; rfl)) $$ HM
  icases HM with ⟨He, Hs, Hd, Hb, HOw⟩
  iapply (wp_writeOut d i O W (k0_off18 i o) h (sm 8) (acc e (base i o) 2048) fo) $$ [Hb Ho H8 HOw]
  · isplitr; · iexact Hmw
    isplitl [Hb]; · iexact Hb
    isplitl [Ho]; · iexact Ho
    isplitl [H8]; · iexact H8
    iexact HOw
  iintro ⟨Hb, Ho, H8, HOw⟩
  iapply Hk
  isplitl [He Hs Hd Hb HOw]
  · iexists (acc e (base i o) 2048)
    unfold Mid
    isplitl [He]; · iexact He
    isplitl [Hs]; · iexact Hs
    isplitl [Hd]; · iexact Hd
    isplitl [Hb]; · iexact Hb
    iexact HOw
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iapply (Entails.of_eq (write_blk d i e (k0_off18 i o) h (base i o) m ho hbm fo)); iexact Ho

/-! ## The task's own buffers and semaphores -/

theorem sems_inj₀ : Function.Injective fun n : Fin 9 => (sems₀ n).sem := by decide
theorem sems_inj₁ : Function.Injective fun n : Fin 9 => (sems₁ n).sem := by decide
theorem sems_ne : ∀ n m : Fin 9, (sems₀ n).sem ≠ (sems₁ m).sem := by decide

/-- A pass's cells on the task's thread. -/
def cells (sm : Fin 9 → DmaSems sig S_) (hi : Function.Injective fun n : Fin 9 => (sm n).sem) : Fin 9 ↪ GSem nD τ sig :=
  ⟨fun n => (thr d i, SemLoc.dma (sm n).sem), fun a b hab => hi (SemLoc.dma.inj (Prod.mk.inj hab).2)⟩

theorem ownSems0_V : (ownSems0 (thr d i) : sProp 𝕄)
    = iprop(Sems d i sems₀ ∗ Sems d i sems₁ ∗ bigSep ((ownCells (thr d i) \ Finset.univ.map (cells d i sems₀ sems_inj₀)) \ Finset.univ.map (cells d i sems₁ sems_inj₁)) fun g => semVal g 0) := by
  unfold SparseCore.Cfg.ownSems0 Sems
  have h₀ : Finset.univ.map (cells d i sems₀ sems_inj₀) ⊆ ownCells (thr d i) := by
    intro g hg
    obtain ⟨n, -, rfl⟩ := Finset.mem_map.mp hg
    refine mem_ownCells.mpr ⟨rfl, ?_⟩
    show (SemLoc.dma (sems₀ n).sem : SemLoc sig).isScoped .scVector = true
    clear hg; revert n; decide
  have h₁ : Finset.univ.map (cells d i sems₁ sems_inj₁) ⊆ ownCells (thr d i) \ Finset.univ.map (cells d i sems₀ sems_inj₀) := by
    intro g hg
    obtain ⟨n, -, rfl⟩ := Finset.mem_map.mp hg
    refine Finset.mem_sdiff.mpr ⟨mem_ownCells.mpr ⟨rfl, ?_⟩, ?_⟩
    · show (SemLoc.dma (sems₁ n).sem : SemLoc sig).isScoped .scVector = true
      clear hg; revert n; decide
    · intro hg'
      obtain ⟨k, -, hk⟩ := Finset.mem_map.mp hg'
      exact sems_ne k n (SemLoc.dma.inj (Prod.mk.inj hk).2)
  rw [bigSep_sdiff_split h₀, bigSep_sdiff_split h₁, bigSep_map, bigSep_map]
  rfl

theorem ownBufs_V : (ownBufs (thr d i) : sProp 𝕄)
    = iprop((∃ f, (sS).view.loc (thr d i) ↦{fullShare} f) ∗ (∃ f, (sD).view.loc (thr d i) ↦{fullShare} f) ∗ (∃ f, (sB).view.loc (thr d i) ↦{fullShare} f)
      ∗ bigSep ((((ownRefs (τ := τ) (.scVector (cV i) (jV i))).erase ((Proc.scVector (cV i) (jV i)).devRef cc0_scratch0)).erase
          ((Proc.scVector (cV i) (jV i)).devRef cc0_scratch1)).erase ((Proc.scVector (cV i) (jV i)).devRef cc0_scratch2))
          fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

/-! ## The task -/

/-- A block of the flat count array, held at `f`. -/
def blkPts (o : BitVec 32) (h : ∀ a, k0_off18 i o a + S65536.size a ≤ S4194304.size a) (f : Vec F S4194304 .f32) : sProp 𝕄 :=
  (oBlk (k0_off18 i o) h).view.loc (thr d i) ↦[(oBlk (k0_off18 i o) h).view.set]{fullShare} f

theorem tile_body (hF : (K (F := F)).Facts) {e : S2x32768.Idx → Elt F .i32} (he : InRange e) (q : PosShare TreeShare) (f : Vec F S4194304 .f32) (hO : ∀ g, O g none = 0) :
    iprop(levAts (K (F := F)).L (K (F := F)).lev ∗ emp
        ∗ ((eV.view.loc (thr d i) ↦{q} e) ∗ blkPts d i 0#32 (k0_off18_inb i 0) f ∗ blkPts d i 32#32 (k0_off18_inb i 1) f)
        ∗ scopedBufs (thr d i) ∗ scopedSems0 (thr d i) ∗ owes (thr d i) O W)
      ⊢ wp frame (wpE (defs₀ (F := F)) 𝒱₀ (thr d i) none) Set.univ
          (cc0__edge_scatter (F := F) i eV (Memref.isWhole_whole _) oV (Memref.isWhole_whole _) sS (Memref.isWhole_whole _) sD (Memref.isWhole_whole _) sB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17)
          fun _ => iprop(((eV.view.loc (thr d i) ↦{q} e) ∗ blkPts d i 0#32 (k0_off18_inb i 0) (counts e) ∗ blkPts d i 32#32 (k0_off18_inb i 1) (counts e))
            ∗ scopedBufs (thr d i) ∗ scopedSems0 (thr d i) ∗ ∃ W', ⌜∀ p ∈ W', p ∈ W ∨ p.2 = none⌝ ∗ owes (thr d i) O W') := by
  have hi0 : (i 0).val < 2 := (i 0).isLt
  have hi1 : (i 1).val < 16 := (i 1).isLt
  rw [task_eq, (K (F := F)).scopedBufs_V hF d (cV i) (jV i), SparseCore.Cfg.scopedSems0_V (Val := Elt F) d (cV i) (jV i), ownSems0_V, ownBufs_V]
  unfold task blkPts
  iintro ⟨#Hlv, -, ⟨He, Ho₀, Ho₁⟩, ⟨Hs, Hd, ⟨%g, Hb⟩, Hbufs⟩, ⟨Hsm₀, Hsm₁, Hsems⟩, HO⟩
  ihave Hmw := ((K (F := F)).mayWaits_none (thr := thr d i) hO) $$ Hlv
  ihave HM := (Entails.of_eq (show _ = (Mid d i O W q e g : sProp 𝕄) from by unfold Mid Owing; rfl)) $$ [He Hs Hd Hb HO]
  · isplitl [He]; · iexact He
    isplitl [Hs]; · iexact Hs
    isplitl [Hd]; · iexact Hd
    isplitl [Hb]; · iexact Hb
    iexists W; isplitr
    · ipureintro; exact fun p hp => .inl hp
    · iexact HO
  icases Hmw with #Hmw
  iapply (wp_pass d i O W he 0#32 (k0_off18_inb i 0) (4 * (i 1).val + 2 * (i 0).val)
    ((k0_off18_eq i 0).trans (congrArg (fun n => ![n]) (by show 262144 * (i 1).val + 131072 * (i 0).val + 65536 * 0 = _; omega)))
    (by rw [base_zero]; omega) (by rw [base_zero]; omega) sems₀ q g f) $$ [HM Hsm₀ Ho₀]
  · isplitr; · iexact Hmw
    isplitl [HM]; · iexact HM
    isplitl [Hsm₀]; · iexact Hsm₀
    iexact Ho₀
  iintro ⟨⟨%g', HM⟩, Hsm₀, Ho₀⟩
  rw [← Prog.bind_pure (pass i 32#32 (k0_off18_inb i 1) sems₁)]
  iapply (wp_pass d i O W he 32#32 (k0_off18_inb i 1) (4 * (i 1).val + 2 * (i 0).val + 1)
    ((k0_off18_eq i 1).trans (congrArg (fun n => ![n]) (by show 262144 * (i 1).val + 131072 * (i 0).val + 65536 * 1 = _; omega)))
    (by rw [base_one]; omega) (by rw [base_one]; omega) sems₁ q g' f) $$ [HM Hsm₁ Ho₁]
  · isplitr; · iexact Hmw
    isplitl [HM]; · iexact HM
    isplitl [Hsm₁]; · iexact Hsm₁
    iexact Ho₁
  iintro ⟨⟨%g'', HM⟩, Hsm₁, Ho₁⟩
  sl_step
  ihave HM := (Entails.of_eq (show (Mid d i O W q e g'' : sProp 𝕄) = _ from by unfold Mid Owing; rfl)) $$ HM
  icases HM with ⟨He, Hs, Hd, Hb, HOw⟩
  isplitl [He Ho₀ Ho₁]
  · isplitl [He]; · iexact He
    isplitl [Ho₀]; · iexact Ho₀
    iexact Ho₁
  isplitl [Hs Hd Hb Hbufs]
  · isplitl [Hs]; · iexact Hs
    isplitl [Hd]; · iexact Hd
    isplitl [Hb]; · iexists _; iexact Hb
    iexact Hbufs
  isplitl [Hsm₀ Hsm₁ Hsems]
  · isplitl [Hsm₀]; · iexact Hsm₀
    isplitl [Hsm₁]; · iexact Hsm₁
    iexact Hsems
  iexact HOw

end Body

end Cert.Proof.Edge
-- ==== Proof.SparseLaunch.lean ====
/-
  The SparseCore call as the launch theorem takes it: what the handshakes carry, how the edge list and the count array go out
  to the tasks and come back, a task's obligation, and the launch element of the ghost state.
-/
module

public import proofs.«01_k».proof.Proof.Tile
public import proofs.«01_k».proof.Proof.Gen.KernelIdeal.Launch

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The parts of the count array -/

/-- The 65536 counts of block `n`: 32 rows of the count matrix. -/
def blkSet (n : Nat) : Finset S4194304.Idx := Finset.univ.filter fun p => (p 0).val / 65536 = n
/-- What task `s` of SparseCore `c` fills: two blocks. -/
def taskSet (c s : Nat) : Finset S4194304.Idx := Finset.univ.filter fun p => (p 0).val / 131072 = 2 * s + c
/-- What SparseCore `c` fills. -/
def coreSet (c : Nat) : Finset S4194304.Idx := Finset.univ.filter fun p => (p 0).val / 131072 % 2 = c

theorem flat_lt (p : S4194304.Idx) : (p 0).val < 4194304 := (p 0).isLt

theorem cores_disjoint : ∀ c ∈ (Finset.univ : Finset (Fin 2)), ∀ c' ∈ (Finset.univ : Finset (Fin 2)), c ≠ c' → Disjoint (coreSet c.val) (coreSet c'.val) := by
  intro c _ c' _ h
  refine Finset.disjoint_filter.mpr fun p _ h1 h2 => h (Fin.ext (h1.symm.trans h2))

theorem cores_cover : (Finset.univ : Finset (Fin 2)).biUnion (fun c => coreSet c.val) = Finset.univ := by
  refine Finset.eq_univ_iff_forall.mpr fun p => Finset.mem_biUnion.mpr ⟨⟨(p 0).val / 131072 % 2, by omega⟩, Finset.mem_univ _, ?_⟩
  exact Finset.mem_filter.mpr ⟨Finset.mem_univ _, rfl⟩

theorem tasks_disjoint (c : Nat) : ∀ s ∈ (Finset.univ : Finset (Fin 16)), ∀ s' ∈ (Finset.univ : Finset (Fin 16)), s ≠ s' → Disjoint (taskSet c s.val) (taskSet c s'.val) := by
  intro s _ s' _ h
  refine Finset.disjoint_filter.mpr fun p _ h1 h2 => h (Fin.ext (by omega))

theorem tasks_cover {c : Nat} (hc : c < 2) : (Finset.univ : Finset (Fin 16)).biUnion (fun s => taskSet c s.val) = coreSet c := by
  ext p
  have hp := flat_lt p
  simp only [Finset.mem_biUnion, Finset.mem_univ, true_and, taskSet, coreSet, Finset.mem_filter]
  constructor
  · rintro ⟨s, h⟩; omega
  · intro h; exact ⟨⟨(p 0).val / 131072 / 2, by omega⟩, by show _ = 2 * ((p 0).val / 131072 / 2) + c; omega⟩

theorem blks_disjoint {n n' : Nat} (h : n ≠ n') : Disjoint (blkSet n) (blkSet n') :=
  Finset.disjoint_filter.mpr fun p _ h1 h2 => h (h1.symm.trans h2)

theorem blks_union (c s : Nat) : blkSet (4 * s + 2 * c) ∪ blkSet (4 * s + 2 * c + 1) = taskSet c s := by
  ext p
  simp only [Finset.mem_union, blkSet, taskSet, Finset.mem_filter, Finset.mem_univ, true_and]
  omega

/-- The slice that a pass writes out is a block. -/
theorem oBlk_set (off : Fin 1 → Nat) (h : ∀ a, off a + S65536.size a ≤ S4194304.size a) (n : Nat) (ho : off = ![65536 * n]) :
    (oBlk off h).view.set = blkSet n := by
  subst ho
  show ((View.whole (main_v0_scv : Ref sig .scVector)).slice (Rect.unit (s := S4194304) ![65536 * n] S65536.size h)).set = _
  rw [View.set_slice]
  refine Finset.map_refl.trans ?_
  ext p
  rw [show (p ∈ (Rect.unit (s := S4194304) ![65536 * n] S65536.size h).set) = _ from propext Rect.mem_set_unit]
  simp only [blkSet, Finset.mem_filter, Finset.mem_univ, true_and]
  constructor
  · intro h
    have h0 : 65536 * n ≤ (p 0).val ∧ (p 0).val < 65536 * n + 65536 := h 0
    omega
  · intro h a
    obtain rfl : a = 0 := Subsingleton.elim _ _
    show 65536 * n ≤ (p 0).val ∧ (p 0).val < 65536 * n + 65536
    omega

/-! ## What the handshakes carry -/

variable (m : (ℓ : Loc nD τ sig) → Buf (Elt F) ℓ) (ρ : Dev nD → PrngReg)

/-- The edge list as launched, and the counts it has. -/
abbrev edges (d : Dev nD) : S2x32768.Idx → Elt F .i32 := m (eLoc d)
abbrev countsOf (d : Dev nD) : Vec F S4194304 .f32 := counts (edges m d)

/-- The share of the edge list that SparseCore `c` reads with, and its task `s`. -/
def coreShare (c : Fin 2) : PosShare TreeShare := Transfers.dealOf fullShare Finset.univ c
def taskShare (c : Fin 2) (s : Fin 16) : PosShare TreeShare := Transfers.dealOf (coreShare c) Finset.univ s

abbrev corePts (d : Dev nD) (c : Fin 2) (f : Buf (Elt F) (oLoc d)) : sProp 𝕄 :=
  iprop((eLoc d ↦{coreShare c} m (eLoc d)) ∗ oLoc d ↦[coreSet c.val]{fullShare} f)
abbrev taskPts (d : Dev nD) (c : Fin 2) (s : Fin 16) (f : Buf (Elt F) (oLoc d)) : sProp 𝕄 :=
  iprop((eLoc d ↦{taskShare c s} m (eLoc d)) ∗ oLoc d ↦[taskSet c.val s.val]{fullShare} f)

/-- Each SparseCore takes a share of the edge list and its part of the count array, and brings them back with the counts in
    it; a task likewise. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (countsOf m d)
  go := fun q d c s => match q with | 0 => taskPts m d (Fin.cast nCore_zero c) (Fin.cast nSub_zero s) (m (oLoc d))
  td := fun q d c s => match q with | 0 => taskPts m d (Fin.cast nCore_zero c) (Fin.cast nSub_zero s) (countsOf m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (countsOf m d)))
  go q d c s := match q with
    | 0 => (inferInstance : BI.Storable (upEmb : UEmb _ 𝕄) (taskPts m d (Fin.cast nCore_zero c) (Fin.cast nSub_zero s) (m (oLoc d))))
  td q d c s := match q with
    | 0 => (inferInstance : BI.Storable (upEmb : UEmb _ 𝕄) (taskPts m d (Fin.cast nCore_zero c) (Fin.cast nSub_zero s) (countsOf m d)))

/-! ## A task's obligation -/

/-- A task's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__edge_scatter (coordsV c s) eV (Memref.isWhole_whole _) oV (Memref.isWhole_whole _)
          sS (Memref.isWhole_whole _) sD (Memref.isWhole_whole _) sB (Memref.isWhole_whole _)
          cc0_scoped0 cc0_scoped1 cc0_scoped2 cc0_scoped3 cc0_scoped4 cc0_scoped5 cc0_scoped6 cc0_scoped7 cc0_scoped8
          cc0_scoped9 cc0_scoped10 cc0_scoped11 cc0_scoped12 cc0_scoped13 cc0_scoped14 cc0_scoped15 cc0_scoped16 cc0_scoped17) ⟨⟩ c s := rfl

/-- A task's two blocks are its part of the count array. -/
theorem blkPts_task (d : Dev nD) (c : Fin (grid0.bound 0)) (s : Fin (grid0.bound 1)) (f : Vec F S4194304 .f32) :
    (oLoc d ↦[taskSet c.val s.val]{fullShare} f : sProp 𝕄)
      = iprop(blkPts d (coordsV c s) 0#32 (k0_off18_inb (coordsV c s) 0) f ∗ blkPts d (coordsV c s) 32#32 (k0_off18_inb (coordsV c s) 1) f) := by
  unfold blkPts
  have e₀ := (oBlk_set _ (k0_off18_inb (coordsV c s) 0) (4 * s.val + 2 * c.val)
      ((k0_off18_eq (coordsV c s) 0).trans (congrArg (fun n => ![n]) (by show 262144 * s.val + 131072 * c.val + 65536 * 0 = _; omega))))
  have e₁ := (oBlk_set _ (k0_off18_inb (coordsV c s) 1) (4 * s.val + 2 * c.val + 1)
      ((k0_off18_eq (coordsV c s) 1).trans (congrArg (fun n => ![n]) (by show 262144 * s.val + 131072 * c.val + 65536 * 1 = _; omega))))
  change (oBlk (k0_off18 (coordsV c s) 0#32) (k0_off18_inb (coordsV c s) 0)).view.set = _ at e₀
  change (oBlk (k0_off18 (coordsV c s) 32#32) (k0_off18_inb (coordsV c s) 1)).view.set = _ at e₁
  rw [e₀, e₁, ← blks_union c.val s.val]
  have hu : (oLoc d ↦[blkSet (4 * s.val + 2 * c.val) ∪ blkSet (4 * s.val + 2 * c.val + 1)]{fullShare} f : sProp 𝕄)
      ⊣⊢ iprop((oLoc d ↦[blkSet (4 * s.val + 2 * c.val)]{fullShare} f) ∗ oLoc d ↦[blkSet (4 * s.val + 2 * c.val + 1)]{fullShare} f) :=
    pointsTo_union (blks_disjoint (by omega))
  exact BI.equiv_iff.mp ⟨hu.1, hu.2⟩

theorem tile_pre (d : Dev nD) (c : Fin (grid0.bound 0)) (s : Fin (grid0.bound 1)) (f : Vec F S4194304 .f32) :
    (taskPts m d c s f : sProp 𝕄)
      = iprop((eV.view.loc (thr d (coordsV c s)) ↦{taskShare c s} edges m d) ∗ blkPts d (coordsV c s) 0#32 (k0_off18_inb (coordsV c s) 0) f
          ∗ blkPts d (coordsV c s) 32#32 (k0_off18_inb (coordsV c s) 1) f) := by
  show iprop((eLoc d ↦{taskShare c s} m (eLoc d)) ∗ oLoc d ↦[taskSet c.val s.val]{fullShare} f) = _
  rw [blkPts_task]

theorem obl_post {thr : Thread nD τ} {A A' B C : sProp 𝕄} (hA : A = A') {O : CellTallies nD τ sig (HIx 1)} {W : Waits sig (HIx 1)} {q : Fin 1} :
    iprop(A' ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  subst hA
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch memory must hold: edges that name rows. -/
def PreOK (m : (ℓ : Loc nD τ sig) → Buf (Elt F) ℓ) : Prop := ∀ d, InRange (edges m d)

theorem obl_pre {thr : Thread nD τ} {A A' B C D' E : sProp 𝕄} (hA : A = A') :
    iprop(B ∗ C ∗ A ∗ D' ∗ E) ⊢ iprop(B ∗ C ∗ A' ∗ D' ∗ E) := by subst hA; exact .rfl

set_option maxRecDepth 1024 in
theorem tileObl (hF : (K (F := F)).Facts) (hpre : PreOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, _root_.and_self, ↓reduceDIte]
  refine (obl_pre (thr := thr d (coordsV ⟨_, hc.1⟩ ⟨_, hc.2⟩)) (tile_pre m d ⟨_, hc.1⟩ ⟨_, hc.2⟩ (m (oLoc d)))).trans ?_
  exact (tile_body d (coordsV ⟨_, hc.1⟩ ⟨_, hc.2⟩) O W hF (hpre d) (taskShare ⟨_, hc.1⟩ ⟨_, hc.2⟩) (m (oLoc d)) hO).trans
    (wp_mono frame _ _ fun _ => obl_post (tile_pre m d ⟨_, hc.1⟩ ⟨_, hc.2⟩ (countsOf m d)))

/-! ## The split among the tasks, and among the SparseCores -/

theorem core_tasks (d : Dev nD) (c : Fin 2) (f : Buf (Elt F) (oLoc d)) :
    (corePts m d c f : sProp 𝕄) = bigSep Finset.univ fun s : Fin 16 => taskPts m d c s f := by
  rw [bigSep_sep']
  unfold corePts
  rw [Transfers.pointsTo_deal (Finset.univ : Finset (Fin 16)) Finset.univ_nonempty (coreShare c), ← tasks_cover c.isLt,
    pointsTo_biUnion Finset.univ (ℓ := oLoc d) (fun s : Fin 16 => taskSet c.val s.val) (tasks_disjoint c.val)]
  rfl

theorem whole_cores (d : Dev nD) (f : Buf (Elt F) (oLoc d)) :
    (iprop((eLoc d ↦{fullShare} m (eLoc d)) ∗ oLoc d ↦{fullShare} f) : sProp 𝕄) = bigSep Finset.univ fun c : Fin 2 => corePts m d c f := by
  rw [bigSep_sep', ← pointsTo_biUnion Finset.univ (ℓ := oLoc d) (fun c : Fin 2 => coreSet c.val) cores_disjoint, cores_cover]
  rw [Transfers.pointsTo_deal (Finset.univ : Finset (Fin 2)) Finset.univ_nonempty fullShare]
  rfl

theorem vecSplit : (K (F := F)).VecSplit' (P m) 0 := by
  intro d c
  show (corePts m d (Fin.cast nCore_zero c) (m (oLoc d)) : sProp 𝕄) ⊢ |={Set.univ}=> iprop(
      (bigSep Finset.univ fun s : Fin 16 => taskPts m d (Fin.cast nCore_zero c) s (m (oLoc d)))
      ∗ ((bigSep Finset.univ fun s : Fin 16 => taskPts m d (Fin.cast nCore_zero c) s (countsOf m d))
          -∗ corePts m d (Fin.cast nCore_zero c) (countsOf m d)))
  rw [← core_tasks, ← core_tasks]
  iintro H; imodintro
  isplitl [H]; · iexact H
  iintro H; iexact H

theorem st0_eq (d : Dev nD) : (bigSep Finset.univ fun c : Fin ((K (F := F)).nCore 0) => (P m).st 0 d c)
    = iprop((eLoc d ↦{fullShare} m (eLoc d)) ∗ oLoc d ↦{fullShare} m (oLoc d)) := (whole_cores m d (m (oLoc d))).symm
theorem dn0_eq (d : Dev nD) : (bigSep Finset.univ fun c : Fin ((K (F := F)).nCore 0) => (P m).dn 0 d c)
    = iprop((eLoc d ↦{fullShare} m (eLoc d)) ∗ oLoc d ↦{fullShare} countsOf m d) := (whole_cores m d (countsOf m d)).symm

/-! ## The launch element of the ghost state -/

theorem cells_inj : Function.Injective (Pipeline.cellOf (nD := nD) (τ := τ) cfgs) := launch1.cellOf_inj

/-- The handshakes' rounds, the pipeline's, and no counter. -/
def u₀ : UU := (initOf (K (F := F)).hsCells (K (F := F)).hsToks, (initOf (Pipeline.cells cfgs cells_inj) (Pipeline.launchToks cfgs cells_inj), 1))

/-- The pipeline's ghost state on device `d`. -/
def G (d : Dev nD) : sProp 𝕄 := iprop(Pipeline.cellsGhost cfgs EP 0 d ∗ Pipeline.toksInit cfgs EP 0 d)

theorem own_EP (b : UP × Counters) : (BI.own ((embR : Emb (UP × Counters) 𝕄) b) : sProp 𝕄) ⊢ BI.own (EP b.1) := by
  obtain ⟨a, b⟩ := b
  unfold EP
  exact (own_pair_emb (embR : Emb (UP × Counters) 𝕄) a b).trans sep_elim_left

theorem one_pipe (Φ : Fin 1 → Dev nD → sProp 𝕄) :
    (bigSep Finset.univ fun d : Dev nD => bigSep Finset.univ fun p : Fin 1 => Φ p d) = bigSep Finset.univ fun d : Dev nD => Φ 0 d :=
  bigSep_congr fun d _ => bigSep_univ_of_subsingleton (Φ := fun p => Φ p d) (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ G
  iintro Hu
  ihave Hu := (ownU_pair _ _) $$ Hu
  icases Hu with ⟨HH, HK⟩
  ihave HP := (own_EP _) $$ HK
  imod (Pipeline.fund_ghost cfgs EP cells_inj) $$ HP with ⟨Hc, Ht⟩
  imodintro
  isplitl [HH]; · iexact HH
  isplitl [Hc Ht]
  · rw [bigSep_sep']
    ihave Hc := (Entails.of_eq (one_pipe fun p d => (Pipeline.cellsGhost cfgs EP p d : sProp 𝕄))) $$ Hc
    ihave Ht := (Entails.of_eq (one_pipe fun p d => (Pipeline.toksInit cfgs EP p d : sProp 𝕄))) $$ Ht
    isplitl [Hc]; · iexact Hc
    iexact Ht
  · show _ ⊢ bigSep Finset.univ fun _ : Thread nD τ => bigSep Finset.univ fun _ : Fin 1 => iprop(emp)
    rw [show (fun _ : Thread nD τ => bigSep (Finset.univ : Finset (Fin 1)) fun _ => (iprop(emp) : sProp 𝕄)) = fun _ => iprop(emp) from
      funext fun _ => bigSep_emp_const _]
    rw [show (bigSep Finset.univ fun _ : Thread nD τ => (iprop(emp) : sProp 𝕄)) = iprop(emp) from bigSep_emp_const _]

end Cert.Proof.Edge
-- ==== Proof.Rows.lean ====
/-
  The TensorCore call's values: blocks of 256 rows read and written, the three graph layers, the undirected adjacency, and the
  running sum over the blocks of rows, all over any arithmetic.
-/
module

public import proofs.«01_k».proof.Proof.SparseLaunch
public import Idealize.ShloMosaic.Lib.WritesUnit

@[expose] public section

noncomputable section

namespace Cert.Proof.Edge

open Cert.KernelIdeal Cert.KernelIdeal.Gen

open Idealize.ShloMosaic

variable {F : FTy → Type} [FloatOps F] [Named F]

/-! ## Blocks of rows -/

/-- 2048 rows of `C`. -/
abbrev SB (C : Nat) : Shape := ⟨2, ![2048, C]⟩

/-- 256 rows of `C`. -/
abbrev SR (C : Nat) : Shape := ⟨2, ![256, C]⟩

/-- Row `r`, column `c`. -/
def ix2 {R C : Nat} (r : Fin R) (c : Fin C) : (⟨2, ![R, C]⟩ : Shape).Idx := fun a => match a with
  | 0 => r
  | 1 => c

/-- Every index is a row and a column. -/
theorem ix2_eta {R C : Nat} (p : (⟨2, ![R, C]⟩ : Shape).Idx) : ix2 (p 0) (p 1) = p := funext fun a => match a with
  | 0 => rfl
  | 1 => rfl

/-- Place `x` of the `k`-th block of 256 rows, in the whole. -/
def rowIx {C : Nat} (k : Nat) (x : (SR C).Idx) : (SB C).Idx := ix2 ⟨(256 * k + (x 0).val) % 2048, Nat.mod_lt _ (by decide)⟩ (x 1)

/-- The place in its block of a row's place in the whole. -/
def inBlk {C : Nat} (p : (SB C).Idx) : (SR C).Idx := ix2 ⟨(p 0).val % 256, Nat.mod_lt _ (by decide)⟩ (p 1)

/-- The `k`-th block of 256 rows. -/
def rows {C : Nat} {e : EltTy} (f : (SB C).Idx → Elt F e) (k : Nat) : (SR C).Idx → Elt F e := fun x => f (rowIx k x)

/-- The whole with its `k`-th block of rows replaced. -/
def putRows {C : Nat} {e : EltTy} (f : (SB C).Idx → Elt F e) (k : Nat) (w : (SR C).Idx → Elt F e) : (SB C).Idx → Elt F e :=
  fun p => if (p 0).val / 256 = k then w (inBlk p) else f p

/-- The first `k` blocks of rows from a family of blocks, the rest as before. -/
def doneRows {C : Nat} {e : EltTy} (f : (SB C).Idx → Elt F e) (W : Nat → (SR C).Idx → Elt F e) (k : Nat) : (SB C).Idx → Elt F e :=
  fun p => if (p 0).val / 256 < k then W ((p 0).val / 256) (inBlk p) else f p

/-- All rows from a family of blocks. -/
def tall {C : Nat} {e : EltTy} (W : Nat → (SR C).Idx → Elt F e) : (SB C).Idx → Elt F e := fun p => W ((p 0).val / 256) (inBlk p)

theorem doneRows_zero {C : Nat} {e : EltTy} (f : (SB C).Idx → Elt F e) (W : Nat → (SR C).Idx → Elt F e) : doneRows f W 0 = f :=
  funext fun _ => if_neg (Nat.not_lt_zero _)

theorem doneRows_succ {C : Nat} {e : EltTy} (f : (SB C).Idx → Elt F e) (W : Nat → (SR C).Idx → Elt F e) (k : Nat) :
    putRows (doneRows f W k) k (W k) = doneRows f W (k + 1) := by
  funext p
  unfold putRows doneRows
  by_cases h : (p 0).val / 256 = k
  · rw [if_pos h, if_pos (by omega), h]
  · rw [if_neg h]
    by_cases h' : (p 0).val / 256 < k
    · rw [if_pos h', if_pos (by omega)]
    · rw [if_neg h', if_neg (by omega)]

theorem doneRows_full {C : Nat} {e : EltTy} (f : (SB C).Idx → Elt F e) (W : Nat → (SR C).Idx → Elt F e) : doneRows f W 8 = tall W := by
  funext p
  have := (p 0).isLt
  exact if_pos (by show (p 0).val / 256 < 8; have : (p 0).val < 2048 := (p 0).isLt; omega)

/-- A block's rectangle places its elements at the block's rows. -/
theorem idx_rows {C : Nat} (off : Fin 2 → Nat) (h : ∀ a, off a + (SR C).size a ≤ (SB C).size a) (k : Nat) (hk : k < 8) (ho : off = ![256 * k, 0])
    (x : (SR C).Idx) : (Rect.unit (s := SB C) off (SR C).size h).toLoadRect.idx x = rowIx k x := by
  subst ho
  funext a
  have h0 : (x 0).val < 256 := (x 0).isLt
  match a with
  | 0 => exact Fin.ext (by show 256 * k + 1 * (x 0).val = (256 * k + (x 0).val) % 2048; omega)
  | 1 => exact Fin.ext (by show 0 + 1 * (x 1).val = (x 1).val; omega)

/-- 256 columns of 2048 rows. -/
def colIx (k : Nat) (x : S2048x256.Idx) : S2048x2048.Idx := ix2 (x 0) ⟨(256 * k + (x 1).val) % 2048, Nat.mod_lt _ (by decide)⟩

/-- The `k`-th block of 256 columns. -/
def cols {e : EltTy} (f : S2048x2048.Idx → Elt F e) (k : Nat) : S2048x256.Idx → Elt F e := fun x => f (colIx k x)

theorem idx_cols (off : Fin 2 → Nat) (h : ∀ a, off a + S2048x256.size a ≤ S2048x2048.size a) (k : Nat) (hk : k < 8) (ho : off = ![0, 256 * k])
    (x : S2048x256.Idx) : (Rect.unit (s := S2048x2048) off S2048x256.size h).toLoadRect.idx x = colIx k x := by
  subst ho
  funext a
  have h0 : (x 1).val < 256 := (x 1).isLt
  match a with
  | 0 => exact Fin.ext (by show 0 + 1 * (x 0).val = (x 0).val; omega)
  | 1 => exact Fin.ext (by show 256 * k + 1 * (x 1).val = (256 * k + (x 1).val) % 2048; omega)

/-- The `k`-th block of 256 rows of column `c`. -/
def colRows (f : S2048x3.Idx → Elt F .f32) (k : Nat) (c : Fin 3) : S256x1.Idx → Elt F .f32 :=
  fun x => f (ix2 ⟨(256 * k + (x 0).val) % 2048, Nat.mod_lt _ (by decide)⟩ c)

theorem idx_colRows (off : Fin 2 → Nat) (h : ∀ a, off a + S256x1.size a ≤ S2048x3.size a) (k : Nat) (hk : k < 8) (c : Fin 3) (ho : off = ![256 * k, c.val])
    (x : S256x1.Idx) : (Rect.unit (s := S2048x3) off S256x1.size h).toLoadRect.idx x = ix2 ⟨(256 * k + (x 0).val) % 2048, Nat.mod_lt _ (by decide)⟩ c := by
  subst ho
  funext a
  have h0 : (x 0).val < 256 := (x 0).isLt
  have h1 : (x 1).val < 1 := (x 1).isLt
  match a with
  | 0 => exact Fin.ext (by show 256 * k + 1 * (x 0).val = (256 * k + (x 0).val) % 2048; omega)
  | 1 => exact Fin.ext (by show c.val + 1 * (x 1).val = c.val; omega)

/-! ## The layers -/

/-- One normalised neighbourhood sum: every block of rows from the adjacency's block, all features and the block's own. -/
def conv (mt : Vec F S2048x2048 .f32) (h : Vec F S2048x128 .f32) : Vec F S2048x128 .f32 :=
  tall fun k => k1_pay18 (rows mt k) h (rows h k)

/-- Layer `l`'s weight. -/
def gW (w : Vec F S3x128x128 .f32) (l : Fin 3) : Vec F S1x128x128 .f32 := fun x => w fun a => match a with
  | 0 => l
  | 1 => x 1
  | 2 => x 2

/-- Layer `l`'s bias. -/
def gB (b : Vec F S3x128 .f32) (l : Fin 3) : Vec F S1x128 .f32 := fun x => b (ix2 l (x 1))

section Values

variable (mt : Vec F S2048x2048 .f32) (x : Vec F S2048x128 .f32) (gw : Vec F S3x128x128 .f32) (gb : Vec F S3x128 .f32) (w1 : Vec F S128x128 .f32)
  (b1 : Vec F S1x128 .f32) (w2 : Vec F S128x3 .f32) (b2 : Vec F S1x3 .f32) (bt : Vec F S1x2048 .i32) (ps : Vec F S2048x3 .f32)

/-- The features after no layer, one, two and three. -/
def h0 : Vec F S2048x128 .f32 := k1_pay13 x
def h1 : Vec F S2048x128 .f32 := k1_pay17 (conv mt (h0 x)) (gW gw 0) (gB gb 0)
def h2 : Vec F S2048x128 .f32 := k1_pay20 (k1_pay19 (conv mt (h1 mt x gw gb)) (gW gw 1) (gB gb 1))
def h3 : Vec F S2048x128 .f32 := k1_pay22 (conv mt (h2 mt x gw gb)) (gW gw 2) (gB gb 2)

/-- The pooled features. -/
def outGf : Vec F S16x128 .f32 := k1_pay23 (h3 mt x gw gb) bt

/-- The predicted positions. -/
def outPred : Vec F S2048x3 .f32 := k1_pay24 (h3 mt x gw gb) w1 b1 w2 b2

/-- The position loss. -/
def outPos : Vec F S1x1 .f32 := k1_pay25 (h3 mt x gw gb) w1 b1 w2 b2 ps

/-! ## The manifold loss -/

/-- The directed adjacency, of ones and zeros. -/
def adj : Vec F S2048x2048 .bf16 := tall fun k => k1_pay15 (rows mt k)

/-- After `n` blocks of rows made undirected, in place. -/
def sym (a : Vec F S2048x2048 .bf16) : Nat → Vec F S2048x2048 .bf16
  | 0 => a
  | n + 1 => putRows (sym a n) n (k1_pay27 (cols (sym a n) n) (rows (sym a n) n))

/-- One block's contribution added to the running sum. -/
def manStep (A : Vec F S2048x2048 .bf16) (pt : FVec F S3x2048 .f32) (pr : Vec F S2048x3 .f32) (k : Fin k1_t5_loop.trips) (s : F .f32) : F .f32 :=
  let one : F .bf16 := Scalar.ofBits .bf16 0x3F80#16
  let far : F .bf16 := Scalar.ofBits .bf16 0x7F80#16
  k1_pay1 pt s
    (k1_pay9 A one far (k1_pay5 A one 0#32 1#32 k (rows A k.val)) (k1_pay6 A one far 0#32 1#32 k (rows A k.val)) (k1_pay7 A one 0#32 1#32 k (rows A k.val)) (k1_pay8 one))
    (k1_pay10 pt (colRows pr k.val 0)) (k1_pay11 (colRows pr k.val 1)) (k1_pay12 pt) (colRows pr k.val 2)

/-- The running sum after `n` blocks. -/
def manAcc (A : Vec F S2048x2048 .bf16) (pt : FVec F S3x2048 .f32) (pr : Vec F S2048x3 .f32) : Nat → F .f32
  | 0 => Scalar.ofBits .f32 0x00000000#32
  | n + 1 => if h : n < k1_t5_loop.trips then manStep A pt pr ⟨n, h⟩ (manAcc A pt pr n) else manAcc A pt pr n

/-- The manifold loss. -/
def outMan : Vec F S1x1 .f32 :=
  k1_pay2 (manAcc (sym (adj mt) 8) (k1_pay26 (h3 mt x gw gb) w1 b1 w2 b2) (outPred mt x gw gb w1 b1 w2 b2) 8)

end Values

theorem pay16_eq (a : Vec F S256x2048 .f32) (b : Vec F S2048x128 .f32) (c : Vec F S256x128 .f32) : k1_pay16 a b c = k1_pay18 a b c := rfl
theorem pay21_eq (a : Vec F S256x2048 .f32) (b : Vec F S2048x128 .f32) (c : Vec F S256x128 .f32) : k1_pay21 a b c = k1_pay18 a b c := rfl

end Cert.Proof.Edge
-- ==== Proof.DenseSteps.lean ====
/-
  The TensorCore call's run: from its inputs' and scratch buffers held whole, to the return with each result at its value.
-/
module

public import proofs.«01_k».proof.Proof.Rows

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The buffers -/

abbrev M0 : Memref sig .tc .vmem S2048x2048 .f32 := Memref.whole cc1_stg0_0
abbrev M1 : Memref sig .tc .vmem S2048x128 .f32 := Memref.whole cc1_stg1_0
abbrev M2 : Memref sig .tc .vmem S3x128x128 .f32 := Memref.whole cc1_stg2_0
abbrev M3 : Memref sig .tc .vmem S3x128 .f32 := Memref.whole cc1_stg3_0
abbrev M4 : Memref sig .tc .vmem S128x128 .f32 := Memref.whole cc1_stg4_0
abbrev M5 : Memref sig .tc .vmem S1x128 .f32 := Memref.whole cc1_stg5_0
abbrev M6 : Memref sig .tc .vmem S128x3 .f32 := Memref.whole cc1_stg6_0
abbrev M7 : Memref sig .tc .vmem S1x3 .f32 := Memref.whole cc1_stg7_0
abbrev M8 : Memref sig .tc .vmem S1x2048 .i32 := Memref.whole cc1_stg8_0
abbrev M9 : Memref sig .tc .vmem S2048x3 .f32 := Memref.whole cc1_stg9_0
abbrev M10 : Memref sig .tc .vmem S2048x3 .f32 := Memref.whole cc1_stg10_0
abbrev M11 : Memref sig .tc .vmem S16x128 .f32 := Memref.whole cc1_stg11_0
abbrev M12 : Memref sig .tc .vmem S1x1 .f32 := Memref.whole cc1_stg12_0
abbrev M13 : Memref sig .tc .vmem S1x1 .f32 := Memref.whole cc1_stg13_0
abbrev M14 : Memref sig .tc .vmem S2048x128 .f32 := Memref.whole cc1_scratch0
abbrev M15 : Memref sig .tc .vmem S2048x128 .f32 := Memref.whole cc1_scratch1
abbrev M16 : Memref sig .tc .vmem S2048x2048 .bf16 := Memref.whole cc1_scratch2

/-! ## What a read finds and a write leaves -/

theorem zeros2 : (![0, 0] : Fin 2 → Nat) = fun _ => 0 := by funext a; fin_cases a <;> rfl

theorem rd0 (f : Vec F S2048x2048 .f32) (off : Fin 2 → Nat) (h : ∀ a, off a + S256x2048.size a ≤ S2048x2048.size a) (k : Nat) (hk : k < 8) (ho : off = ![256 * k, 0]) :
    (M0).view.readAt (Elt F) (Rect.unit (s := S2048x2048) off S256x2048.size h).toLoadRect f = rows f k :=
  funext fun x => congrArg f (idx_rows off h k hk ho x)

theorem rd14 (f : Vec F S2048x128 .f32) (off : Fin 2 → Nat) (h : ∀ a, off a + S256x128.size a ≤ S2048x128.size a) (k : Nat) (hk : k < 8) (ho : off = ![256 * k, 0]) :
    (M14).view.readAt (Elt F) (Rect.unit (s := S2048x128) off S256x128.size h).toLoadRect f = rows f k :=
  funext fun x => congrArg f (idx_rows off h k hk ho x)

theorem rd16 (f : Vec F S2048x2048 .bf16) (off : Fin 2 → Nat) (h : ∀ a, off a + S256x2048.size a ≤ S2048x2048.size a) (k : Nat) (hk : k < 8) (ho : off = ![256 * k, 0]) :
    (M16).view.readAt (Elt F) (Rect.unit (s := S2048x2048) off S256x2048.size h).toLoadRect f = rows f k :=
  funext fun x => congrArg f (idx_rows off h k hk ho x)

theorem rd16c (f : Vec F S2048x2048 .bf16) (off : Fin 2 → Nat) (h : ∀ a, off a + S2048x256.size a ≤ S2048x2048.size a) (k : Nat) (hk : k < 8) (ho : off = ![0, 256 * k]) :
    (M16).view.readAt (Elt F) (Rect.unit (s := S2048x2048) off S2048x256.size h).toLoadRect f = cols f k :=
  funext fun x => congrArg f (idx_cols off h k hk ho x)

theorem rd10 (f : Vec F S2048x3 .f32) (off : Fin 2 → Nat) (h : ∀ a, off a + S256x1.size a ≤ S2048x3.size a) (k : Nat) (hk : k < 8) (c : Fin 3) (ho : off = ![256 * k, c.val]) :
    (M10).view.readAt (Elt F) (Rect.unit (s := S2048x3) off S256x1.size h).toLoadRect f = colRows f k c :=
  funext fun x => congrArg f (idx_colRows off h k hk c ho x)

theorem rd2 (f : Vec F S3x128x128 .f32) (l : Fin 3) (h : ∀ a, (![l.val, 0, 0] : Fin 3 → Nat) a + S1x128x128.size a ≤ S3x128x128.size a) :
    (M2).view.readAt (Elt F) (Rect.unit (s := S3x128x128) ![l.val, 0, 0] S1x128x128.size h).toLoadRect f = gW f l := by
  funext x
  have h0 : (x 0).val < 1 := (x 0).isLt
  refine congrArg f (funext fun a => ?_)
  match a with
  | 0 => exact Fin.ext (by show l.val + 1 * (x 0).val = l.val; omega)
  | 1 => exact Fin.ext (by show 0 + 1 * (x 1).val = (x 1).val; omega)
  | 2 => exact Fin.ext (by show 0 + 1 * (x 2).val = (x 2).val; omega)

theorem rd3 (f : Vec F S3x128 .f32) (l : Fin 3) (h : ∀ a, (![l.val, 0] : Fin 2 → Nat) a + S1x128.size a ≤ S3x128.size a) :
    (M3).view.readAt (Elt F) (Rect.unit (s := S3x128) ![l.val, 0] S1x128.size h).toLoadRect f = gB f l := by
  funext x
  have h0 : (x 0).val < 1 := (x 0).isLt
  refine congrArg f (funext fun a => ?_)
  match a with
  | 0 => exact Fin.ext (by show l.val + 1 * (x 0).val = l.val; omega)
  | 1 => exact Fin.ext (by show 0 + 1 * (x 1).val = (x 1).val; omega)

/-- What reads after one block of rows is written: the block at its rows, the rest as before. -/
theorem read_blk {C : Nat} {e : EltTy} {sp : CoreSpace} (v : View sig .tc sp (SB C) e) (f : v.ty.Contents (Elt F)) (w : (SR C).Idx → Elt F e) (off : Fin 2 → Nat)
    (h : ∀ a, off a + (SR C).size a ≤ (SB C).size a) (k : Nat) (ho : off = ![256 * k, 0]) (p : (SB C).Idx) :
    v.read (Elt F) (v.writes (Elt F) f [(⟨Rect.unit (s := SB C) off (SR C).size h, w⟩ : View.Piece (Elt F) (SB C) e)]) p
      = if (p 0).val / 256 = k then w (inBlk p) else v.read (Elt F) f p := by
  subst ho
  have h0 : (p 0).val < 2048 := (p 0).isLt
  have h1 : (p 1).val < C := (p 1).isLt
  by_cases hd : (p 0).val / 256 = k
  · rw [if_pos hd]
    refine View.read_writes_cons_unit_of_mem v f h w [] p (inBlk p) rfl fun a => ?_
    match a with
    | 0 => show (p 0).val = 256 * k + (p 0).val % 256; omega
    | 1 => show (p 1).val = 0 + (p 1).val; omega
  · rw [if_neg hd]
    refine View.read_writes_cons_unit_of_not_mem v f h w [] p rfl 0 ?_
    show (p 0).val < 256 * k ∨ 256 * k + 256 ≤ (p 0).val
    omega

theorem wr15 (f : Vec F S2048x128 .f32) (w : Vec F S256x128 .f32) (off : Fin 2 → Nat) (h : ∀ a, off a + S256x128.size a ≤ S2048x128.size a) (k : Nat) (ho : off = ![256 * k, 0]) :
    ((M15).access (Rect.unit (s := S2048x128) off S256x128.size h)).write (Elt F) f w Finset.univ = putRows f k w :=
  funext fun p => read_blk (M15).view f w off h k ho p

theorem read16 (f : Vec F S2048x2048 .bf16) : (M16).view.read (Elt F) f = f := rfl

theorem wr16 (f : Vec F S2048x2048 .bf16) (w : Vec F S256x2048 .bf16) (off : Fin 2 → Nat) (h : ∀ a, off a + S256x2048.size a ≤ S2048x2048.size a) (k : Nat) (ho : off = ![256 * k, 0]) :
    ((M16).access (Rect.unit (s := S2048x2048) off S256x2048.size h)).write (Elt F) f w Finset.univ = putRows (C := 2048) (e := .bf16) f k w := by
  refine (read16 _).symm.trans (funext fun p => ?_)
  refine (read_blk (M16).view f w off h k ho p).trans ?_
  rw [read16]
  unfold putRows
  rfl

/-! ## Steps -/

section Steps

variable (d : Dev nD) {s : Shape} {e : EltTy}

/-- A buffer held whole at contents. -/
abbrev pt (m : Memref sig .tc .vmem s e) (f : Buf (Elt F) (m.view.loc (T d : Thread nD τ))) : sProp 𝕄 := m.view.loc (T d : Thread nD τ) ↦{fullShare} f

/-- A load at the head of a program. -/
theorem wp_ld (m : Memref sig .tc .vmem s e) (r : LoadRect s) {hl : m.view.LoadsAt r} (f : Buf (Elt F) (m.view.loc (T d : Thread nD τ)))
    {α : Type} (k : (r.shape.Idx → Elt F e) → Prog (TpuEff nD τ sig (Elt F) Λ₀ .tc) α) (Q : α → sProp 𝕄) (v : r.shape.Idx → Elt F e) (hv : m.view.readAt (Elt F) r f = v) :
    (pt d m f) ⊢ iprop((pt d m f -∗ wp frame (wpE (defs₀ (F := F)) 𝒱₀ (T d) none) Set.univ (k v) Q)
      -∗ wp frame (wpE (defs₀ (F := F)) 𝒱₀ (T d) none) Set.univ (Prog.lift (.load m r hl) >>= k) Q) := by
  subst hv
  simp only [Prog.lift, Prog.bind_op, Prog.bind_ret]
  exact wp_load 𝒱₀ (T d) none Set.univ (m := m) (S := Finset.univ) (Finset.subset_univ _)

/-- A store at the head of a program. -/
theorem wp_st (m : Memref sig .tc .vmem s e) (r : Rect s) (w : r.shape.Idx → Elt F e) {hx : (m.access r).Stores Finset.univ} {hm}
    (f : Buf (Elt F) (m.view.loc (T d : Thread nD τ)))
    {α : Type} (k : PUnit → Prog (TpuEff nD τ sig (Elt F) Λ₀ .tc) α) (Q : α → sProp 𝕄) (g : Buf (Elt F) (m.view.loc (T d : Thread nD τ)))
    (hg : (m.access r).write (Elt F) f w Finset.univ = g) :
    (pt d m f) ⊢ iprop((pt d m g -∗ wp frame (wpE (defs₀ (F := F)) 𝒱₀ (T d) none) Set.univ (k ⟨⟩) Q)
      -∗ wp frame (wpE (defs₀ (F := F)) 𝒱₀ (T d) none) Set.univ (Prog.lift (.store m r w Finset.univ hx hm) >>= k) Q) := by
  subst hg
  simp only [Prog.lift, Prog.bind_op, Prog.bind_ret]
  exact wp_store 𝒱₀ (T d) none Set.univ (m := m) (r := r) (Mk := Finset.univ) (S := Finset.univ) (Finset.subset_univ _)

end Steps

end Cert.Proof.Edge
-- ==== Proof.DenseLoops.lean ====
/-
  The TensorCore call's loops and parts, each run with its buffers' contents.
-/
module

public import proofs.«01_k».proof.Proof.DenseSteps

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The pieces at this call's buffers -/

abbrev trip1 := k1_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _)
abbrev trip2 := k1_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _)
abbrev trip3 (v24 : FVec F S2048x128 .f32) := k1_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) v24
abbrev trip4 (v41 : Vec F S2048x128 .f32) (v56 : FVec F S16x128 .f32) := k1_t4_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) v41 v56
abbrev trip5 (v83 : FVec F S3x2048 .f32) (v85 : Vec F S2048x2048 .bf16) (a b : F .bf16) := k1_t5_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) v83 v85 a b
abbrev part3 := k1_part3_skel (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _)
abbrev part4 (v24 : FVec F S2048x128 .f32) := k1_part4_skel (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) v24
abbrev part5 (v41 : Vec F S2048x128 .f32) (v56 : FVec F S16x128 .f32) := k1_part5_skel (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) v41 v56

theorem trips1 : k1_t1_loop.trips = 8 := by decide
theorem trips2 : k1_t2_loop.trips = 8 := by decide
theorem trips3 : k1_t3_loop.trips = 8 := by decide
theorem trips4 : k1_t4_loop.trips = 8 := by decide
theorem trips5 : k1_t5_loop.trips = 8 := by decide

section Loops

variable (d : Dev nD) (mt : Vec F S2048x2048 .f32) (h : Vec F S2048x128 .f32)

/-! ## The first layer's loop, which also writes the adjacency -/

def inv1 (g : Vec F S2048x128 .f32) (a : Vec F S2048x2048 .bf16) (n : Nat) : sProp 𝕄 :=
  iprop(pt d M0 mt ∗ pt d M14 h ∗ pt d M15 (doneRows (C := 128) (e := .f32) g (fun k => k1_pay18 (rows mt k) h (rows h k)) n)
    ∗ pt d M16 (doneRows (C := 2048) (e := .bf16) a (fun k => k1_pay15 (rows mt k)) n))

theorem wp_trip1 (g : Vec F S2048x128 .f32) (a : Vec F S2048x2048 .bf16) (k : Fin k1_t1_loop.trips) (u : Unit) :
    inv1 d mt h g a k.val ⊢ wp frame (wpE (defs₀ (F := F)) 𝒱₀ (T d) none) Set.univ (trip1 k u) fun _ => inv1 d mt h g a (k.val + 1) := by
  have hk : k.val < 8 := trips1 ▸ k.isLt
  unfold trip1 k1_t1_body inv1
  iintro ⟨H0, H14, H15, H16⟩
  iapply (wp_ld d M0 _ mt _ _ _ (rd0 mt _ _ k.val hk (k1_off1_eq k))) $$ H0; iintro H0
  iapply (wp_ld d M16 _ _ _ _ _ rfl) $$ H16; iintro H16
  iapply (wp_st d M16 _ _ _ _ _ _ ((wr16 _ _ _ _ k.val (k1_off1_eq k)).trans (doneRows_succ (C := 2048) (e := .bf16) a (fun k => k1_pay15 (rows mt k)) k.val))) $$ H16; iintro H16
  iapply (wp_ld d M14 _ h _ _ h (Memref.readAt_unit_zero _ _ zeros2 _ _)) $$ H14; iintro H14
  iapply (wp_ld d M14 _ h _ _ _ (rd14 h _ _ k.val hk (k1_off2_eq k))) $$ H14; iintro H14
  iapply (wp_ld d M15 _ _ _ _ _ rfl) $$ H15; iintro H15
  iapply (wp_st d M15 _ _ _ _ _ _ ((wr15 _ _ _ _ k.val (k1_off2_eq k)).trans (doneRows_succ (C := 128) (e := .f32) g (fun k => k1_pay18 (rows mt k) h (rows h k)) k.val))) $$ H15; iintro H15
  sl_step
  isplitl [H0]; · iexact H0
  isplitl [H14]; · iexact H14
  isplitl [H15]; · iexact H15
  iexact H16

theorem wp_loop1 (g : Vec F S2048x128 .f32) (a : Vec F S2048x2048 .bf16) {α : Type} (k : Unit → Prog (TpuEff nD τ sig (Elt F) Λ₀ .tc) α) (Q : α → sProp 𝕄) :
    iprop(pt d M0 mt ∗ pt d M14 h ∗ pt d M15 g ∗ pt d M16 a)
      ⊢ iprop((iprop(pt d M0 mt ∗ pt d M14 h ∗ pt d M15 (conv mt h) ∗ pt d M16 (adj mt)) -∗ wp frame (wpE (defs₀ (F := F)) 𝒱₀ (T d) none) Set.univ (k ⟨⟩) Q)
        -∗ wp frame (wpE (defs₀ (F := F)) 𝒱₀ (T d) none) Set.univ (Scf.Loop.for k1_t1_loop k1_t1_ok ⟨⟩ trip1 >>= k) Q) := by
  iintro H Hk
  ihave H := (Entails.of_eq (show iprop(pt d M0 mt ∗ pt d M14 h ∗ pt d M15 g ∗ pt d M16 a) = inv1 d mt h g a 0 by unfold inv1; rw [doneRows_zero, doneRows_zero])) $$ H
  iapply (Scf.wp_for_bind _ _ _ _ _ _ k1_t1_ok () trip1 (fun n _ => inv1 d mt h g a n) (fun k u => wp_trip1 d mt h g a k u)) $$ H
  iintro %_ H
  iapply Hk
  ihave H := (Entails.of_eq (show inv1 d mt h g a k1_t1_loop.trips = iprop(pt d M0 mt ∗ pt d M14 h ∗ pt d M15 (conv mt h) ∗ pt d M16 (adj mt)) by
    rw [trips1]; unfold inv1; rw [doneRows_full, doneRows_full]; rfl)) $$ H
  iexact H

/-! ## The other layers' loops -/

def inv2 (g : Vec F S2048x128 .f32) (n : Nat) : sProp 𝕄 :=
  iprop(pt d M0 mt ∗ pt d M14 h ∗ pt d M15 (doneRows (C := 128) (e := .f32) g (fun k => k1_pay18 (rows mt k) h (rows h k)) n))

theorem wp_trip2 (g : Vec F S2048x128 .f32) (k : Fin k1_t2_loop.trips) (u : Unit) :
    inv2 d mt h g k.val ⊢ wp frame (wpE (defs₀ (F := F)) 𝒱₀ (T d) none) Set.univ (trip2 k u) fun _ => inv2 d mt h g (k.val + 1) := by
  have hk : k.val < 8 := trips2 ▸ k.isLt
  unfold trip2 k1_t2_body inv2
  iintro ⟨H0, H14, H15⟩
  iapply (wp_ld d M0 _ mt _ _ _ (rd0 mt _ _ k.val hk (k1_off3_eq k))) $$ H0; iintro H0
  iapply (wp_ld d M14 _ h _ _ h (Memref.readAt_unit_zero _ _ zeros2 _ _)) $$ H14; iintro H14
  iapply (wp_ld d M14 _ h _ _ _ (rd14 h _ _ k.val hk (k1_off4_eq k))) $$ H14; iintro H14
  iapply (wp_ld d M15 _ _ _ _ _ rfl) $$ H15; iintro H15
  iapply (wp_st d M15 _ _ _ _ _ _ ((wr15 _ _ _ _ k.val (k1_off4_eq k)).trans (doneRows_succ (C := 128) (e := .f32) g (fun k => k1_pay18 (rows mt k) h (rows h k)) k.val))) $$ H15; iintro H15
  sl_step
  isplitl [H0]; · iexact H0
  isplitl [H14]; · iexact H14
  iexact H15

theorem wp_loop2 (g : Vec F S2048x128 .f32) {α : Type} (k : Unit → Prog (TpuEff nD τ sig (Elt F) Λ₀ .tc) α) (Q : α → sProp 𝕄) :
    iprop(pt d M0 mt ∗ pt d M14 h ∗ pt d M15 g)
      ⊢ iprop((iprop(pt d M0 mt ∗ pt d M14 h ∗ pt d M15 (conv mt h)) -∗ wp frame (wpE (defs₀ (F := F)) 𝒱₀ (T d) none) Set.univ (k ⟨⟩) Q)
        -∗ wp frame (wpE (defs₀ (F := F)) 𝒱₀ (T d) none) Set.univ (Scf.Loop.for k1_t2_loop k1_t2_ok ⟨⟩ trip2 >>= k) Q) := by
  iintro H Hk
  ihave H := (Entails.of_eq (show iprop(pt d M0 mt ∗ pt d M14 h ∗ pt d M15 g) = inv2 d mt h g 0 by unfold inv2; rw [doneRows_zero])) $$ H
  iapply (Scf.wp_for_bind _ _ _ _ _ _ k1_t2_ok () trip2 (fun n _ => inv2 d mt h g n) (fun k u => wp_trip2 d mt h g k u)) $$ H
  iintro %_ H
  iapply Hk
  ihave H := (Entails.of_eq (show inv2 d mt h g k1_t2_loop.trips = iprop(pt d M0 mt ∗ pt d M14 h ∗ pt d M15 (conv mt h)) by
    rw [trips2]; unfold inv2; rw [doneRows_full]; rfl)) $$ H
  iexact H

theorem wp_trip3 (v24 : FVec F S2048x128 .f32) (g : Vec F S2048x128 .f32) (k : Fin k1_t3_loop.trips) (u : Unit) :
    inv2 d mt h g k.val ⊢ wp frame (wpE (defs₀ (F := F)) 𝒱₀ (T d) none) Set.univ ((trip3 v24) k u) fun _ => inv2 d mt h g (k.val + 1) := by
  have hk : k.val < 8 := trips3 ▸ k.isLt
  unfold trip3 k1_t3_body inv2
  iintro ⟨H0, H14, H15⟩
  iapply (wp_ld d M0 _ mt _ _ _ (rd0 mt _ _ k.val hk (k1_off5_eq k))) $$ H0; iintro H0
  iapply (wp_ld d M14 _ h _ _ h (Memref.readAt_unit_zero _ _ zeros2 _ _)) $$ H14; iintro H14
  iapply (wp_ld d M14 _ h _ _ _ (rd14 h _ _ k.val hk (k1_off6_eq k))) $$ H14; iintro H14
  iapply (wp_ld d M15 _ _ _ _ _ rfl) $$ H15; iintro H15
  iapply (wp_st d M15 _ _ _ _ _ _ ((wr15 _ _ _ _ k.val (k1_off6_eq k)).trans (doneRows_succ (C := 128) (e := .f32) g (fun k => k1_pay18 (rows mt k) h (rows h k)) k.val))) $$ H15; iintro H15
  sl_step
  isplitl [H0]; · iexact H0
  isplitl [H14]; · iexact H14
  iexact H15

theorem wp_loop3 (v24 : FVec F S2048x128 .f32) (g : Vec F S2048x128 .f32) {α : Type} (k : Unit → Prog (TpuEff nD τ sig (Elt F) Λ₀ .tc) α) (Q : α → sProp 𝕄) :
    iprop(pt d M0 mt ∗ pt d M14 h ∗ pt d M15 g)
      ⊢ iprop((iprop(pt d M0 mt ∗ pt d M14 h ∗ pt d M15 (conv mt h)) -∗ wp frame (wpE (defs₀ (F := F)) 𝒱₀ (T d) none) Set.univ (k ⟨⟩) Q)
        -∗ wp frame (wpE (defs₀ (F := F)) 𝒱₀ (T d) none) Set.univ (Scf.Loop.for k1_t3_loop k1_t3_ok ⟨⟩ (trip3 v24) >>= k) Q) := by
  iintro H Hk
  ihave H := (Entails.of_eq (show iprop(pt d M0 mt ∗ pt d M14 h ∗ pt d M15 g) = inv2 d mt h g 0 by unfold inv2; rw [doneRows_zero])) $$ H
  iapply (Scf.wp_for_bind _ _ _ _ _ _ k1_t3_ok () (trip3 v24) (fun n _ => inv2 d mt h g n) (fun k u => wp_trip3 d mt h v24 g k u)) $$ H
  iintro %_ H
  iapply Hk
  ihave H := (Entails.of_eq (show inv2 d mt h g k1_t3_loop.trips = iprop(pt d M0 mt ∗ pt d M14 h ∗ pt d M15 (conv mt h)) by
    rw [trips3]; unfold inv2; rw [doneRows_full]; rfl)) $$ H
  iexact H

/-! ## The adjacency made undirected -/

theorem wp_trip4 (v41 : Vec F S2048x128 .f32) (v56 : FVec F S16x128 .f32) (a : Vec F S2048x2048 .bf16) (k : Fin k1_t4_loop.trips) (u : Unit) :
    (pt d M16 (sym a k.val) : sProp 𝕄) ⊢ wp frame (wpE (defs₀ (F := F)) 𝒱₀ (T d) none) Set.univ (trip4 v41 v56 k u) fun _ => pt d M16 (sym a (k.val + 1)) := by
  have hk : k.val < 8 := trips4 ▸ k.isLt
  unfold trip4 k1_t4_body
  iintro H
  iapply (wp_ld d M16 _ _ _ _ _ (rd16c (sym a k.val) _ _ k.val hk (k1_off7_eq k))) $$ H; iintro H
  iapply (wp_ld d M16 _ _ _ _ _ (rd16 (sym a k.val) _ _ k.val hk (k1_off8_eq k))) $$ H; iintro H
  iapply (wp_ld d M16 _ _ _ _ _ rfl) $$ H; iintro H
  iapply (wp_st d M16 _ _ _ _ _ (sym a (k.val + 1)) (wr16 _ _ _ _ k.val (k1_off8_eq k))) $$ H; iintro H
  sl_step
  iexact H

theorem wp_loop4 (v41 : Vec F S2048x128 .f32) (v56 : FVec F S16x128 .f32) (a : Vec F S2048x2048 .bf16) {α : Type} (k : Unit → Prog (TpuEff nD τ sig (Elt F) Λ₀ .tc) α) (Q : α → sProp 𝕄) :
    (pt d M16 a : sProp 𝕄)
      ⊢ iprop((pt d M16 (sym a 8) -∗ wp frame (wpE (defs₀ (F := F)) 𝒱₀ (T d) none) Set.univ (k ⟨⟩) Q)
        -∗ wp frame (wpE (defs₀ (F := F)) 𝒱₀ (T d) none) Set.univ (Scf.Loop.for k1_t4_loop k1_t4_ok ⟨⟩ (trip4 v41 v56) >>= k) Q) := by
  iintro H Hk
  ihave H := (Entails.of_eq (show (pt d M16 a : sProp 𝕄) = pt d M16 (sym a 0) from rfl)) $$ H
  iapply (Scf.wp_for_bind _ _ _ _ _ _ k1_t4_ok () (trip4 v41 v56) (fun n _ => pt d M16 (sym a n)) (fun k u => wp_trip4 d v41 v56 a k u)) $$ H
  iintro %_ H
  iapply Hk
  ihave H := (Entails.of_eq (show (pt d M16 (sym a k1_t4_loop.trips) : sProp 𝕄) = pt d M16 (sym a 8) by rw [trips4])) $$ H
  iexact H

/-! ## The running sum -/

def inv5 (A : Vec F S2048x2048 .bf16) (pr : Vec F S2048x3 .f32) (p3 : FVec F S3x2048 .f32) (n : Nat) (s : F .f32) : sProp 𝕄 :=
  iprop(⌜s = manAcc A p3 pr n⌝ ∗ pt d M16 A ∗ pt d M10 pr)

theorem wp_trip5 (A : Vec F S2048x2048 .bf16) (pr : Vec F S2048x3 .f32) (p3 : FVec F S3x2048 .f32) (k : Fin k1_t5_loop.trips) (s : F .f32) :
    inv5 d A pr p3 k.val s ⊢ wp frame (wpE (defs₀ (F := F)) 𝒱₀ (T d) none) Set.univ (trip5 p3 A (Scalar.ofBits .bf16 0x3F80#16) (Scalar.ofBits .bf16 0x7F80#16) k s)
      fun s' => inv5 d A pr p3 (k.val + 1) s' := by
  have hk : k.val < 8 := trips5 ▸ k.isLt
  unfold trip5 k1_t5_body inv5
  rw [k1_part1_eq_skeleton, k1_part2_eq_skeleton]
  unfold k1_part1_skel k1_part2_skel
  simp only [bind_assoc, pure_bind]
  iintro ⟨%hs, H16, H10⟩
  iapply (wp_ld d M16 _ _ _ _ _ (rd16 A _ _ k.val hk (k1_off9_eq k))) $$ H16; iintro H16
  iapply (wp_ld d M10 _ _ _ _ _ (rd10 pr _ _ k.val hk 0 (k1_off10_eq k))) $$ H10; iintro H10
  iapply (wp_ld d M10 _ _ _ _ _ (rd10 pr _ _ k.val hk 1 (k1_off11_eq k))) $$ H10; iintro H10
  iapply (wp_ld d M10 _ _ _ _ _ (rd10 pr _ _ k.val hk 2 (k1_off12_eq k))) $$ H10; iintro H10
  sl_step
  isplitr
  · ipureintro
    subst hs
    rw [manAcc, dif_pos k.isLt]
    rfl
  isplitl [H16]; · iexact H16
  iexact H10

theorem wp_loop5 (A : Vec F S2048x2048 .bf16) (pr : Vec F S2048x3 .f32) (p3 : FVec F S3x2048 .f32) {α : Type} (k : F .f32 → Prog (TpuEff nD τ sig (Elt F) Λ₀ .tc) α) (Q : α → sProp 𝕄) :
    iprop(pt d M16 A ∗ pt d M10 pr)
      ⊢ iprop((iprop(pt d M16 A ∗ pt d M10 pr) -∗ wp frame (wpE (defs₀ (F := F)) 𝒱₀ (T d) none) Set.univ (k (manAcc A p3 pr 8)) Q)
        -∗ wp frame (wpE (defs₀ (F := F)) 𝒱₀ (T d) none) Set.univ
          (Scf.Loop.for k1_t5_loop k1_t5_ok (Scalar.ofBits .f32 0x00000000#32) (trip5 p3 A (Scalar.ofBits .bf16 0x3F80#16) (Scalar.ofBits .bf16 0x7F80#16)) >>= k) Q) := by
  iintro ⟨H16, H10⟩ Hk
  ihave H := (show iprop(pt d M16 A ∗ pt d M10 pr) ⊢ inv5 d A pr p3 0 (Scalar.ofBits .f32 0x00000000#32) by
    unfold inv5; iintro ⟨H16, H10⟩; isplitr; · ipureintro; rfl
    isplitl [H16]; · iexact H16
    iexact H10) $$ [H16 H10]
  · isplitl [H16]; · iexact H16
    iexact H10
  iapply (Scf.wp_for_bind _ _ _ _ _ _ k1_t5_ok (Scalar.ofBits .f32 0x00000000#32) (trip5 p3 A (Scalar.ofBits .bf16 0x3F80#16) (Scalar.ofBits .bf16 0x7F80#16))
    (fun n s => inv5 d A pr p3 n s) (fun k s => wp_trip5 d A pr p3 k s)) $$ H
  iintro %s H
  ihave H := (Entails.of_eq (show inv5 d A pr p3 k1_t5_loop.trips s = iprop(⌜s = manAcc A p3 pr 8⌝ ∗ pt d M16 A ∗ pt d M10 pr) by
    rw [trips5]; rfl)) $$ H
  icases H with ⟨%hs, H16, H10⟩
  subst hs
  iapply Hk
  isplitl [H16]; · iexact H16
  iexact H10

end Loops

end Cert.Proof.Edge
-- ==== Proof.Dense.lean ====
/-
  The TensorCore call's run: from its inputs' and scratch buffers held whole, to the return with each result at its value.
-/
module

public import proofs.«01_k».proof.Proof.DenseLoops

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Parts

variable (d : Dev nD) (mt : Vec F S2048x2048 .f32) (x : Vec F S2048x128 .f32) (gw : Vec F S3x128x128 .f32) (gb : Vec F S3x128 .f32) (w1 : Vec F S128x128 .f32)
  (b1 : Vec F S1x128 .f32) (w2 : Vec F S128x3 .f32) (b2 : Vec F S1x3 .f32) (bt : Vec F S1x2048 .i32) (ps : Vec F S2048x3 .f32)

/-- Two layers and the third's sum, leaving the adjacency. -/
theorem wp_part3 (f14 f15 : Vec F S2048x128 .f32) (f16 : Vec F S2048x2048 .bf16) {α : Type} (k : FVec F S2048x128 .f32 → Prog (TpuEff nD τ sig (Elt F) Λ₀ .tc) α) (Q : α → sProp 𝕄) :
    iprop(pt d M0 mt ∗ pt d M1 x ∗ pt d M2 gw ∗ pt d M3 gb ∗ pt d M14 f14 ∗ pt d M15 f15 ∗ pt d M16 f16)
      ⊢ iprop((iprop(pt d M0 mt ∗ pt d M1 x ∗ pt d M2 gw ∗ pt d M3 gb ∗ pt d M14 (h1 mt x gw gb) ∗ pt d M15 (conv mt (h1 mt x gw gb)) ∗ pt d M16 (adj mt))
          -∗ wp frame (wpE (defs₀ (F := F)) 𝒱₀ (T d) none) Set.univ (k (k1_pay19 (conv mt (h1 mt x gw gb)) (gW gw 1) (gB gb 1))) Q)
        -∗ wp frame (wpE (defs₀ (F := F)) 𝒱₀ (T d) none) Set.univ (part3 >>= k) Q) := by
  unfold part3 k1_part3_skel
  simp only [bind_assoc, pure_bind]
  iintro ⟨H0, H1, H2, H3, H14, H15, H16⟩ Hk
  iapply (wp_ld d M1 _ x _ _ x (Memref.readAt_unit_zero _ _ zeros2 _ _)) $$ H1; iintro H1
  iapply (wp_ld d M14 _ _ _ _ _ rfl) $$ H14; iintro H14
  iapply (wp_st d M14 _ _ _ _ _ (h0 x) (Memref.write_access_unit_zero_univ _ _ zeros2 _ _ _)) $$ H14; iintro H14
  iapply (wp_loop1 d mt (h0 x) f15 f16) $$ [H0 H14 H15 H16]
  · isplitl [H0]; · iexact H0
    isplitl [H14]; · iexact H14
    isplitl [H15]; · iexact H15
    iexact H16
  iintro ⟨H0, H14, H15, H16⟩
  iapply (wp_ld d M15 _ _ _ _ (conv mt (h0 x)) (Memref.readAt_unit_zero _ _ zeros2 _ _)) $$ H15; iintro H15
  iapply (wp_ld d M2 _ _ _ _ _ (rd2 gw 0 _)) $$ H2; iintro H2
  iapply (wp_ld d M3 _ _ _ _ _ (rd3 gb 0 _)) $$ H3; iintro H3
  iapply (wp_ld d M14 _ _ _ _ _ rfl) $$ H14; iintro H14
  iapply (wp_st d M14 _ _ _ _ _ (h1 mt x gw gb) (Memref.write_access_unit_zero_univ _ _ zeros2 _ _ _)) $$ H14; iintro H14
  iapply (wp_loop2 d mt (h1 mt x gw gb) _) $$ [H0 H14 H15]
  · isplitl [H0]; · iexact H0
    isplitl [H14]; · iexact H14
    iexact H15
  iintro ⟨H0, H14, H15⟩
  iapply (wp_ld d M15 _ _ _ _ (conv mt (h1 mt x gw gb)) (Memref.readAt_unit_zero _ _ zeros2 _ _)) $$ H15; iintro H15
  iapply (wp_ld d M2 _ _ _ _ _ (rd2 gw 1 _)) $$ H2; iintro H2
  iapply (wp_ld d M3 _ _ _ _ _ (rd3 gb 1 _)) $$ H3; iintro H3
  iapply Hk
  isplitl [H0]; · iexact H0
  isplitl [H1]; · iexact H1
  isplitl [H2]; · iexact H2
  isplitl [H3]; · iexact H3
  isplitl [H14]; · iexact H14
  isplitl [H15]; · iexact H15
  iexact H16

/-- The last layer and the pooled features. -/
theorem wp_part4 {α : Type} (k : (Σ' (v41 : Vec F S2048x128 .f32), FVec F S16x128 .f32) → Prog (TpuEff nD τ sig (Elt F) Λ₀ .tc) α) (Q : α → sProp 𝕄) :
    iprop(pt d M0 mt ∗ pt d M2 gw ∗ pt d M3 gb ∗ pt d M8 bt ∗ pt d M14 (h1 mt x gw gb) ∗ pt d M15 (conv mt (h1 mt x gw gb)))
      ⊢ iprop((iprop(pt d M0 mt ∗ pt d M2 gw ∗ pt d M3 gb ∗ pt d M8 bt ∗ pt d M14 (h3 mt x gw gb) ∗ pt d M15 (conv mt (h2 mt x gw gb)))
          -∗ wp frame (wpE (defs₀ (F := F)) 𝒱₀ (T d) none) Set.univ (k ⟨h3 mt x gw gb, outGf mt x gw gb bt⟩) Q)
        -∗ wp frame (wpE (defs₀ (F := F)) 𝒱₀ (T d) none) Set.univ (part4 (k1_pay19 (conv mt (h1 mt x gw gb)) (gW gw 1) (gB gb 1)) >>= k) Q) := by
  unfold part4 k1_part4_skel
  simp only [bind_assoc, pure_bind]
  iintro ⟨H0, H2, H3, H8, H14, H15⟩ Hk
  iapply (wp_ld d M14 _ _ _ _ _ rfl) $$ H14; iintro H14
  iapply (wp_st d M14 _ _ _ _ _ (h2 mt x gw gb) (Memref.write_access_unit_zero_univ _ _ zeros2 _ _ _)) $$ H14; iintro H14
  iapply (wp_loop3 d mt (h2 mt x gw gb) _ _) $$ [H0 H14 H15]
  · isplitl [H0]; · iexact H0
    isplitl [H14]; · iexact H14
    iexact H15
  iintro ⟨H0, H14, H15⟩
  iapply (wp_ld d M15 _ _ _ _ (conv mt (h2 mt x gw gb)) (Memref.readAt_unit_zero _ _ zeros2 _ _)) $$ H15; iintro H15
  iapply (wp_ld d M2 _ _ _ _ _ (rd2 gw 2 _)) $$ H2; iintro H2
  iapply (wp_ld d M3 _ _ _ _ _ (rd3 gb 2 _)) $$ H3; iintro H3
  iapply (wp_ld d M14 _ _ _ _ _ rfl) $$ H14; iintro H14
  iapply (wp_st d M14 _ _ _ _ _ (h3 mt x gw gb) (Memref.write_access_unit_zero_univ _ _ zeros2 _ _ _)) $$ H14; iintro H14
  iapply (wp_ld d M14 _ _ _ _ (h3 mt x gw gb) (Memref.readAt_unit_zero _ _ zeros2 _ _)) $$ H14; iintro H14
  iapply (wp_ld d M8 _ _ _ _ bt (Memref.readAt_unit_zero _ _ zeros2 _ _)) $$ H8; iintro H8
  iapply Hk
  isplitl [H0]; · iexact H0
  isplitl [H2]; · iexact H2
  isplitl [H3]; · iexact H3
  isplitl [H8]; · iexact H8
  isplitl [H14]; · iexact H14
  iexact H15

/-- The first three results, and the adjacency made undirected. -/
theorem wp_part5 (f10 : Vec F S2048x3 .f32) (f11 : Vec F S16x128 .f32) (f12 : Vec F S1x1 .f32)
    {α : Type} (k : (Σ' (v83 : FVec F S3x2048 .f32) (v85 : Vec F S2048x2048 .bf16), F .bf16) → Prog (TpuEff nD τ sig (Elt F) Λ₀ .tc) α) (Q : α → sProp 𝕄) :
    iprop(pt d M4 w1 ∗ pt d M5 b1 ∗ pt d M6 w2 ∗ pt d M7 b2 ∗ pt d M9 ps ∗ pt d M10 f10 ∗ pt d M11 f11 ∗ pt d M12 f12 ∗ pt d M16 (adj mt))
      ⊢ iprop((iprop(pt d M4 w1 ∗ pt d M5 b1 ∗ pt d M6 w2 ∗ pt d M7 b2 ∗ pt d M9 ps ∗ pt d M10 (outPred mt x gw gb w1 b1 w2 b2) ∗ pt d M11 (outGf mt x gw gb bt)
            ∗ pt d M12 (outPos mt x gw gb w1 b1 w2 b2 ps) ∗ pt d M16 (sym (adj mt) 8))
          -∗ wp frame (wpE (defs₀ (F := F)) 𝒱₀ (T d) none) Set.univ (k ⟨k1_pay26 (h3 mt x gw gb) w1 b1 w2 b2, sym (adj mt) 8, Scalar.ofBits .bf16 0x3F80#16⟩) Q)
        -∗ wp frame (wpE (defs₀ (F := F)) 𝒱₀ (T d) none) Set.univ (part5 (h3 mt x gw gb) (outGf mt x gw gb bt) >>= k) Q) := by
  unfold part5 k1_part5_skel
  simp only [bind_assoc, pure_bind]
  iintro ⟨H4, H5, H6, H7, H9, H10, H11, H12, H16⟩ Hk
  iapply (wp_ld d M11 _ _ _ _ _ rfl) $$ H11; iintro H11
  iapply (wp_st d M11 _ _ _ _ _ (outGf mt x gw gb bt) (Memref.write_access_unit_zero_univ _ _ zeros2 _ _ _)) $$ H11; iintro H11
  iapply (wp_ld d M4 _ _ _ _ w1 (Memref.readAt_unit_zero _ _ zeros2 _ _)) $$ H4; iintro H4
  iapply (wp_ld d M5 _ _ _ _ b1 (Memref.readAt_unit_zero _ _ zeros2 _ _)) $$ H5; iintro H5
  iapply (wp_ld d M6 _ _ _ _ w2 (Memref.readAt_unit_zero _ _ zeros2 _ _)) $$ H6; iintro H6
  iapply (wp_ld d M7 _ _ _ _ b2 (Memref.readAt_unit_zero _ _ zeros2 _ _)) $$ H7; iintro H7
  iapply (wp_ld d M10 _ _ _ _ _ rfl) $$ H10; iintro H10
  iapply (wp_st d M10 _ _ _ _ _ (outPred mt x gw gb w1 b1 w2 b2) (Memref.write_access_unit_zero_univ _ _ zeros2 _ _ _)) $$ H10; iintro H10
  iapply (wp_ld d M9 _ _ _ _ ps (Memref.readAt_unit_zero _ _ zeros2 _ _)) $$ H9; iintro H9
  iapply (wp_ld d M12 _ _ _ _ _ rfl) $$ H12; iintro H12
  iapply (wp_st d M12 _ _ _ _ _ (outPos mt x gw gb w1 b1 w2 b2 ps) (Memref.write_access_unit_zero_univ _ _ zeros2 _ _ _)) $$ H12; iintro H12
  iapply (wp_loop4 d (h3 mt x gw gb) (outGf mt x gw gb bt) (adj mt)) $$ H16; iintro H16
  iapply (wp_ld d M16 _ _ _ _ (sym (adj mt) 8) (Memref.readAt_unit_zero _ _ zeros2 _ _)) $$ H16; iintro H16
  iapply Hk
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  iexact H16

/-- The call's inputs held whole. -/
def inputs : sProp 𝕄 :=
  iprop(pt d M0 mt ∗ pt d M1 x ∗ pt d M2 gw ∗ pt d M3 gb ∗ pt d M4 w1 ∗ pt d M5 b1 ∗ pt d M6 w2 ∗ pt d M7 b2 ∗ pt d M8 bt ∗ pt d M9 ps)

/-- The call's run. -/
theorem wp_dense (f10 : Vec F S2048x3 .f32) (f11 : Vec F S16x128 .f32) (f12 f13 : Vec F S1x1 .f32) (f14 f15 : Vec F S2048x128 .f32) (f16 : Vec F S2048x2048 .bf16) (Q : PUnit → sProp 𝕄) :
    iprop(inputs d mt x gw gb w1 b1 w2 b2 bt ps ∗ pt d M10 f10 ∗ pt d M11 f11 ∗ pt d M12 f12 ∗ pt d M13 f13 ∗ pt d M14 f14 ∗ pt d M15 f15 ∗ pt d M16 f16)
      ⊢ iprop((iprop(inputs d mt x gw gb w1 b1 w2 b2 bt ps ∗ pt d M10 (outPred mt x gw gb w1 b1 w2 b2) ∗ pt d M11 (outGf mt x gw gb bt)
            ∗ pt d M12 (outPos mt x gw gb w1 b1 w2 b2 ps) ∗ pt d M13 (outMan mt x gw gb w1 b1 w2 b2)
            ∗ pt d M14 (h3 mt x gw gb) ∗ pt d M15 (conv mt (h2 mt x gw gb)) ∗ pt d M16 (sym (adj mt) 8)) -∗ Q ⟨⟩)
        -∗ wp frame (wpE (defs₀ (F := F)) 𝒱₀ (T d) none) Set.univ (cc1__fused_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _)) Q) := by
  rw [cc1__fused_body_eq_skeleton]
  unfold cc1__fused_body_skel inputs
  rw [k1_part3_eq_skeleton, k1_part4_eq_skeleton, k1_part5_eq_skeleton]
  iintro ⟨⟨H0, H1, H2, H3, H4, H5, H6, H7, H8, H9⟩, H10, H11, H12, H13, H14, H15, H16⟩ Hk
  iapply (wp_part3 d mt x gw gb f14 f15 f16) $$ [H0 H1 H2 H3 H14 H15 H16]
  · isplitl [H0]; · iexact H0
    isplitl [H1]; · iexact H1
    isplitl [H2]; · iexact H2
    isplitl [H3]; · iexact H3
    isplitl [H14]; · iexact H14
    isplitl [H15]; · iexact H15
    iexact H16
  iintro ⟨H0, H1, H2, H3, H14, H15, H16⟩
  iapply (wp_part4 d mt x gw gb bt) $$ [H0 H2 H3 H8 H14 H15]
  · isplitl [H0]; · iexact H0
    isplitl [H2]; · iexact H2
    isplitl [H3]; · iexact H3
    isplitl [H8]; · iexact H8
    isplitl [H14]; · iexact H14
    iexact H15
  iintro ⟨H0, H2, H3, H8, H14, H15⟩
  iapply (wp_part5 d mt x gw gb w1 b1 w2 b2 bt ps f10 f11 f12) $$ [H4 H5 H6 H7 H9 H10 H11 H12 H16]
  · isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    iexact H16
  iintro ⟨H4, H5, H6, H7, H9, H10, H11, H12, H16⟩
  iapply (wp_loop5 d (sym (adj mt) 8) (outPred mt x gw gb w1 b1 w2 b2) (k1_pay26 (h3 mt x gw gb) w1 b1 w2 b2)) $$ [H16 H10]
  · isplitl [H16]; · iexact H16
    iexact H10
  iintro ⟨H16, H10⟩
  iapply (wp_ld d M13 _ _ _ _ _ rfl) $$ H13; iintro H13
  iapply (wp_st d M13 _ _ _ _ _ (outMan mt x gw gb w1 b1 w2 b2) (Memref.write_access_unit_zero_univ _ _ zeros2 _ _ _)) $$ H13; iintro H13
  sl_step
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  isplitl [H13]; · iexact H13
  isplitl [H14]; · iexact H14
  isplitl [H15]; · iexact H15
  iexact H16

end Parts

end Cert.Proof.Edge
-- ==== Proof.Region.lean ====
/-
  The TensorCore call as a pipeline region: its windows staged whole, the run, the results written back.
-/
module

public import proofs.«01_k».proof.Proof.Dense
public import Idealize.ShloMosaic.Lib.Pipeline.ValueKit.Geometry
public import Idealize.ShloMosaic.Lib.Pipeline.RegionsLoop

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Region

variable (V : (c : Dev nD) → (b : Ref sig .tc) → Buf (Elt F) ((T c : Thread nD τ).loc b))

/-! ## The operands and results at a valuation -/

abbrev v_mt (c : Dev nD) : Vec F S2048x2048 .f32 := V c main_v1
abbrev v_x (c : Dev nD) : Vec F S2048x128 .f32 := V c main_arg0
abbrev v_gw (c : Dev nD) : Vec F S3x128x128 .f32 := V c main_arg2
abbrev v_gb (c : Dev nD) : Vec F S3x128 .f32 := V c main_arg3
abbrev v_w1 (c : Dev nD) : Vec F S128x128 .f32 := V c main_arg4
abbrev v_b1 (c : Dev nD) : Vec F S1x128 .f32 := V c main_v2
abbrev v_w2 (c : Dev nD) : Vec F S128x3 .f32 := V c main_arg6
abbrev v_b2 (c : Dev nD) : Vec F S1x3 .f32 := V c main_v3
abbrev v_bt (c : Dev nD) : Vec F S1x2048 .i32 := V c main_v4
abbrev v_ps (c : Dev nD) : Vec F S2048x3 .f32 := V c main_arg1

abbrev r_pred (c : Dev nD) : Vec F S2048x3 .f32 := outPred (v_mt V c) (v_x V c) (v_gw V c) (v_gb V c) (v_w1 V c) (v_b1 V c) (v_w2 V c) (v_b2 V c)
abbrev r_gf (c : Dev nD) : Vec F S16x128 .f32 := outGf (v_mt V c) (v_x V c) (v_gw V c) (v_gb V c) (v_bt V c)
abbrev r_pos (c : Dev nD) : Vec F S1x1 .f32 := outPos (v_mt V c) (v_x V c) (v_gw V c) (v_gb V c) (v_w1 V c) (v_b1 V c) (v_w2 V c) (v_b2 V c) (v_ps V c)
abbrev r_man (c : Dev nD) : Vec F S1x1 .f32 := outMan (v_mt V c) (v_x V c) (v_gw V c) (v_gb V c) (v_w1 V c) (v_b1 V c) (v_w2 V c) (v_b2 V c)

/-- What a window's staging buffer holds after the body. -/
def after1 (c : Dev nD) (w : Fin 14) : (win1 w).block.Idx → Elt F (win1 w).elt := match w with
  | ⟨0, _⟩ => v_mt V c
  | ⟨1, _⟩ => v_x V c
  | ⟨2, _⟩ => v_gw V c
  | ⟨3, _⟩ => v_gb V c
  | ⟨4, _⟩ => v_w1 V c
  | ⟨5, _⟩ => v_b1 V c
  | ⟨6, _⟩ => v_w2 V c
  | ⟨7, _⟩ => v_b2 V c
  | ⟨8, _⟩ => v_bt V c
  | ⟨9, _⟩ => v_ps V c
  | ⟨10, _⟩ => r_pred V c
  | ⟨11, _⟩ => r_gf V c
  | ⟨12, _⟩ => r_pos V c
  | ⟨13, _⟩ => r_man V c

/-- The region's data: the arrays at the valuation, nothing owed, the scratches between. -/
def dat (c : Dev nD) : Pipeline.Dat τ (Elt F) (HIx 1) ℕ UU ℕ (cfgs 0) c where
  A w := V c (Pipeline.arrRef spec1 w)
  after w _ := after1 V c w
  Φ _ := Pipeline.scopedRest (Ix := HIx 1) (Name := ℕ) (U := UU) (Lvl := ℕ) (Val := Elt F) spec1 c
  q _ := fullShare
  owed _ := 0
  recorded _ := {p | (K (F := F)).lev (T c, p.1) p.2 ≤ 8}

theorem before_0 (c : Dev nD) (g) : (dat V c).before 0 t1_0 g = v_mt V c := by
  unfold Pipeline.Dat.before; rw [if_pos (by decide)]
  exact funext fun x => congrArg (v_mt V c) (funext fun a => Fin.ext (Pipeline.Window.rect_emb_val_of_index_zero win1_0 t1_0 a rfl _))
theorem before_1 (c : Dev nD) (g) : (dat V c).before 1 t1_0 g = v_x V c := by
  unfold Pipeline.Dat.before; rw [if_pos (by decide)]
  exact funext fun x => congrArg (v_x V c) (funext fun a => Fin.ext (Pipeline.Window.rect_emb_val_of_index_zero win1_1 t1_0 a rfl _))
theorem before_2 (c : Dev nD) (g) : (dat V c).before 2 t1_0 g = v_gw V c := by
  unfold Pipeline.Dat.before; rw [if_pos (by decide)]
  exact funext fun x => congrArg (v_gw V c) (funext fun a => Fin.ext (Pipeline.Window.rect_emb_val_of_index_zero win1_2 t1_0 a rfl _))
theorem before_3 (c : Dev nD) (g) : (dat V c).before 3 t1_0 g = v_gb V c := by
  unfold Pipeline.Dat.before; rw [if_pos (by decide)]
  exact funext fun x => congrArg (v_gb V c) (funext fun a => Fin.ext (Pipeline.Window.rect_emb_val_of_index_zero win1_3 t1_0 a rfl _))
theorem before_4 (c : Dev nD) (g) : (dat V c).before 4 t1_0 g = v_w1 V c := by
  unfold Pipeline.Dat.before; rw [if_pos (by decide)]
  exact funext fun x => congrArg (v_w1 V c) (funext fun a => Fin.ext (Pipeline.Window.rect_emb_val_of_index_zero win1_4 t1_0 a rfl _))
theorem before_5 (c : Dev nD) (g) : (dat V c).before 5 t1_0 g = v_b1 V c := by
  unfold Pipeline.Dat.before; rw [if_pos (by decide)]
  exact funext fun x => congrArg (v_b1 V c) (funext fun a => Fin.ext (Pipeline.Window.rect_emb_val_of_index_zero win1_5 t1_0 a rfl _))
theorem before_6 (c : Dev nD) (g) : (dat V c).before 6 t1_0 g = v_w2 V c := by
  unfold Pipeline.Dat.before; rw [if_pos (by decide)]
  exact funext fun x => congrArg (v_w2 V c) (funext fun a => Fin.ext (Pipeline.Window.rect_emb_val_of_index_zero win1_6 t1_0 a rfl _))
theorem before_7 (c : Dev nD) (g) : (dat V c).before 7 t1_0 g = v_b2 V c := by
  unfold Pipeline.Dat.before; rw [if_pos (by decide)]
  exact funext fun x => congrArg (v_b2 V c) (funext fun a => Fin.ext (Pipeline.Window.rect_emb_val_of_index_zero win1_7 t1_0 a rfl _))
theorem before_8 (c : Dev nD) (g) : (dat V c).before 8 t1_0 g = v_bt V c := by
  unfold Pipeline.Dat.before; rw [if_pos (by decide)]
  exact funext fun x => congrArg (v_bt V c) (funext fun a => Fin.ext (Pipeline.Window.rect_emb_val_of_index_zero win1_8 t1_0 a rfl _))
theorem before_9 (c : Dev nD) (g) : (dat V c).before 9 t1_0 g = v_ps V c := by
  unfold Pipeline.Dat.before; rw [if_pos (by decide)]
  exact funext fun x => congrArg (v_ps V c) (funext fun a => Fin.ext (Pipeline.Window.rect_emb_val_of_index_zero win1_9 t1_0 a rfl _))

/-! ## The body, the results -/

theorem scratches_eq (c : Dev nD) :
    (Pipeline.scopedRest (Ix := HIx 1) (Name := ℕ) (U := UU) (Lvl := ℕ) (Val := Elt F) spec1 c : sProp 𝕄)
      = iprop((∃ f : Vec F S2048x128 .f32, pt c M14 f) ∗ (∃ f : Vec F S2048x128 .f32, pt c M15 f) ∗ (∃ f : Vec F S2048x2048 .bf16, pt c M16 f)) :=
  scopedRest1_eq c

theorem body_obligation (c : Dev nD) : Pipeline.BodyObligation (dat V c) (defs₀ (F := F)) 𝒱₀ none Set.univ := fun t => by
  obtain rfl := fin_N1 t
  rw [bigSep_W1, bigSep_W1]
  simp only [owns_whole_eq]
  rw [show (dat V c).Φ t1_0.castSucc = _ from scratches_eq c, show (dat V c).Φ t1_0.succ = _ from scratches_eq c,
    show (dat V c).owesAt none t1_0.succ = (dat V c).owesAt none t1_0.castSucc from rfl]
  iintro ⟨⟨⟨%f14, H14⟩, ⟨%f15, H15⟩, ⟨%f16, H16⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩, ⟨%d11, %f11, -, H11⟩, ⟨%d12, %f12, -, H12⟩, ⟨%d13, %f13, -, H13⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  iapply (wp_dense c (v_mt V c) (v_x V c) (v_gw V c) (v_gb V c) (v_w1 V c) (v_b1 V c) (v_w2 V c) (v_b2 V c) (v_bt V c) (v_ps V c) f10 f11 f12 f13 f14 f15 f16) $$ [H0 H1 H2 H3 H4 H5 H6 H7 H8 H9 H10 H11 H12 H13 H14 H15 H16]
  · isplitl [H0 H1 H2 H3 H4 H5 H6 H7 H8 H9]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [H13]; · iexact H13
    isplitl [H14]; · iexact H14
    isplitl [H15]; · iexact H15
    iexact H16
  unfold inputs
  iintro ⟨⟨H0, H1, H2, H3, H4, H5, H6, H7, H8, H9⟩, H10, H11, H12, H13, H14, H15, H16⟩
  isplitl [H14 H15 H16]
  · isplitl [H14]; · iexists _; iexact H14
    isplitl [H15]; · iexists _; iexact H15
    iexists _; iexact H16
  isplitl [Howes]; · iexact Howes
  isplitl [H0]; · iexists _; isplitr; swap; (· iexact H0); ipureintro; dsimp only [dat, after1]
  isplitl [H1]; · iexists _; isplitr; swap; (· iexact H1); ipureintro; dsimp only [dat, after1]
  isplitl [H2]; · iexists _; isplitr; swap; (· iexact H2); ipureintro; dsimp only [dat, after1]
  isplitl [H3]; · iexists _; isplitr; swap; (· iexact H3); ipureintro; dsimp only [dat, after1]
  isplitl [H4]; · iexists _; isplitr; swap; (· iexact H4); ipureintro; dsimp only [dat, after1]
  isplitl [H5]; · iexists _; isplitr; swap; (· iexact H5); ipureintro; dsimp only [dat, after1]
  isplitl [H6]; · iexists _; isplitr; swap; (· iexact H6); ipureintro; dsimp only [dat, after1]
  isplitl [H7]; · iexists _; isplitr; swap; (· iexact H7); ipureintro; dsimp only [dat, after1]
  isplitl [H8]; · iexists _; isplitr; swap; (· iexact H8); ipureintro; dsimp only [dat, after1]
  isplitl [H9]; · iexists _; isplitr; swap; (· iexact H9); ipureintro; dsimp only [dat, after1]
  isplitl [H10]; · iexists _; isplitr; swap; (· iexact H10); ipureintro; dsimp only [dat, after1]
  isplitl [H11]; · iexists _; isplitr; swap; (· iexact H11); ipureintro; dsimp only [dat, after1]
  isplitl [H12]; · iexists _; isplitr; swap; (· iexact H12); ipureintro; dsimp only [dat, after1]
  iexists _; isplitr; swap; (· iexact H13); ipureintro; dsimp only [dat, after1]

theorem arr_pred (c : Dev nD) : (dat V c).arrAt 10 cfg1.N = r_pred V c :=
  Pipeline.Dat.arrAt_eq_of_after_last (dat V c) 10 t1_0 (by decide +kernel) (r_pred V c) fun _ => rfl
theorem arr_gf (c : Dev nD) : (dat V c).arrAt 11 cfg1.N = r_gf V c :=
  Pipeline.Dat.arrAt_eq_of_after_last (dat V c) 11 t1_0 (by decide +kernel) (r_gf V c) fun _ => rfl
theorem arr_pos (c : Dev nD) : (dat V c).arrAt 12 cfg1.N = r_pos V c :=
  Pipeline.Dat.arrAt_eq_of_after_last (dat V c) 12 t1_0 (by decide +kernel) (r_pos V c) fun _ => rfl
theorem arr_man (c : Dev nD) : (dat V c).arrAt 13 cfg1.N = r_man V c :=
  Pipeline.Dat.arrAt_eq_of_after_last (dat V c) 13 t1_0 (by decide +kernel) (r_man V c) fun _ => rfl

/-! ## The region -/

/-- No pipeline has a prefetched table. -/
abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c
  | ⟨0, _⟩ => fun c => dat V c

/-- The core owing nothing, its recorded waits at levels up to the first call's last. -/
def idle (c : Dev nD) : sProp 𝕄 := iprop(∃ W, ⌜(K (F := F)).WBelow (T c) W 8⌝ ∗ owes (T c : Thread nD τ) (0 : CellTallies nD τ sig (HIx 1)) W)

variable (Vp : (c : Dev nD) → (b : Ref sig .tc) → Buf (Elt F) ((T c : Thread nD τ).loc b))

set_option backward.isDefEq.respectTransparency.types false in
/-- The region, from the unscoped buffers at `V` to those at `Vp`, which is `V` but at the four results. -/
def reg (h0 : ∀ c, Vp c main_v5_0 = r_pred V c) (h1 : ∀ c, Vp c main_v5_1 = r_gf V c) (h2 : ∀ c, Vp c main_v5_2 = r_pos V c)
    (h3 : ∀ c, Vp c main_v5_3 = r_man V c)
    (hne : ∀ c (b : Ref sig .tc), b ≠ main_v5_0 → b ≠ main_v5_1 → b ≠ main_v5_2 → b ≠ main_v5_3 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin idle
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v1 (by decide) (by decide) (by decide) (by decide)).symm
        · exact ((pdats V 0 c).arrAt_in 1 rfl _).trans (hne c main_arg0 (by decide) (by decide) (by decide) (by decide)).symm
        · exact ((pdats V 0 c).arrAt_in 2 rfl _).trans (hne c main_arg2 (by decide) (by decide) (by decide) (by decide)).symm
        · exact ((pdats V 0 c).arrAt_in 3 rfl _).trans (hne c main_arg3 (by decide) (by decide) (by decide) (by decide)).symm
        · exact ((pdats V 0 c).arrAt_in 4 rfl _).trans (hne c main_arg4 (by decide) (by decide) (by decide) (by decide)).symm
        · exact ((pdats V 0 c).arrAt_in 5 rfl _).trans (hne c main_v2 (by decide) (by decide) (by decide) (by decide)).symm
        · exact ((pdats V 0 c).arrAt_in 6 rfl _).trans (hne c main_arg6 (by decide) (by decide) (by decide) (by decide)).symm
        · exact ((pdats V 0 c).arrAt_in 7 rfl _).trans (hne c main_v3 (by decide) (by decide) (by decide) (by decide)).symm
        · exact ((pdats V 0 c).arrAt_in 8 rfl _).trans (hne c main_v4 (by decide) (by decide) (by decide) (by decide)).symm
        · exact ((pdats V 0 c).arrAt_in 9 rfl _).trans (hne c main_arg1 (by decide) (by decide) (by decide) (by decide)).symm
        · exact (arr_pred V c).trans (h0 c).symm
        · exact (arr_gf V c).trans (h1 c).symm
        · exact (arr_pos V c).trans (h2 c).symm
        · exact (arr_man V c).trans (h3 c).symm)
      (fun b hb => hne c b (fun h => hb (h ▸ Finset.mem_image.mpr ⟨10, Finset.mem_univ _, rfl⟩)) (fun h => hb (h ▸ Finset.mem_image.mpr ⟨11, Finset.mem_univ _, rfl⟩))
        (fun h => hb (h ▸ Finset.mem_image.mpr ⟨12, Finset.mem_univ _, rfl⟩)) (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin idle
    icases HO with ⟨%W, %hW, HO⟩; iexists W
    isplitr
    · ipureintro
      intro p hp
      rcases hW hp with h | ⟨w, s, rfl⟩
      · exact h
      · exact Nat.zero_le _
    iexact HO

end Region

end Cert.Proof.Edge
-- ==== Proof.Main.lean ====
/-
  @main on the TensorCore, and the program's run: the SparseCore call, the reshapes, the TensorCore call, the reshapes.
-/
module

public import proofs.«01_k».proof.Proof.Region
public import proofs.«01_k».proof.Proof.SparseLaunch
public import Idealize.ShloMosaic.Lib.Pipeline.Frame
public import Idealize.ShloMosaic.Lib.SparseCore.Quiescent

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The unscoped buffers' contents from stage to stage -/

abbrev dv (b : Ref sig .tc) : DevRef τ sig := Proc.devRef .tc b

/-- At the launch. -/
def W0 (d : Dev nD) : Valuation τ sig (Elt F) := fun b => m (d, b)
/-- After the SparseCore call: the flat array at the counts. -/
def W1 (d : Dev nD) : Valuation τ sig (Elt F) := Function.update (W0 m d) (dv main_v0) (countsOf m d)

abbrev ops1 : List (HloOp τ sig (Elt F)) :=
  [StableHlo.reshape main_v0 main_v1 (rfl : (.f32 : EltTy) = .f32) shapeCasts_S4194304_S2048x2048, StableHlo.reshape main_arg5 main_v2 (rfl : (.f32 : EltTy) = .f32) shapeCasts_S128_S1x128,
    StableHlo.reshape main_arg7 main_v3 (rfl : (.f32 : EltTy) = .f32) shapeCasts_S3_S1x3, StableHlo.reshape main_arg9 main_v4 (rfl : (.i32 : EltTy) = .i32) shapeCasts_S2048_S1x2048]
abbrev ops2 : List (HloOp τ sig (Elt F)) :=
  [StableHlo.reshape main_v5_2 main_v6 (rfl : (.f32 : EltTy) = .f32) shapeCasts_S1x1_S_, StableHlo.reshape main_v5_3 main_v7 (rfl : (.f32 : EltTy) = .f32) shapeCasts_S1x1_S_]

/-- At the TensorCore call. -/
def W2 (d : Dev nD) : Valuation τ sig (Elt F) := StableHlo.after ops1 (W1 m d)
/-- The same read at the TensorCore's references. -/
def V2 (d : Dev nD) (b : Ref sig .tc) : Buf (Elt F) ((T d : Thread nD τ).loc b) := W2 m d (dv b)
/-- After the TensorCore call: its four results. -/
def W3 (d : Dev nD) : Valuation τ sig (Elt F) :=
  Function.update (Function.update (Function.update (Function.update (W2 m d) (dv main_v5_0) (r_pred (V2 m) d)) (dv main_v5_1) (r_gf (V2 m) d)) (dv main_v5_2) (r_pos (V2 m) d))
    (dv main_v5_3) (r_man (V2 m) d)
/-- At the return. -/
def W4 (d : Dev nD) : Valuation τ sig (Elt F) := StableHlo.after ops2 (W3 m d)

theorem W3_ne (d : Dev nD) (b : Ref sig .tc) (h0 : b ≠ main_v5_0) (h1 : b ≠ main_v5_1) (h2 : b ≠ main_v5_2) (h3 : b ≠ main_v5_3) : W3 m d (dv b) = W2 m d (dv b) := by
  unfold W3
  rw [Function.update_of_ne (StableHlo.devRef_ne_of_ne h3), Function.update_of_ne (StableHlo.devRef_ne_of_ne h2), Function.update_of_ne (StableHlo.devRef_ne_of_ne h1),
    Function.update_of_ne (StableHlo.devRef_ne_of_ne h0)]
theorem W3_pred (d : Dev nD) : W3 m d (dv main_v5_0) = r_pred (V2 m) d := by
  unfold W3
  rw [Function.update_of_ne (by decide), Function.update_of_ne (by decide), Function.update_of_ne (by decide), Function.update_self]
theorem W3_gf (d : Dev nD) : W3 m d (dv main_v5_1) = r_gf (V2 m) d := by
  unfold W3
  rw [Function.update_of_ne (by decide), Function.update_of_ne (by decide), Function.update_self]
theorem W3_pos (d : Dev nD) : W3 m d (dv main_v5_2) = r_pos (V2 m) d := by
  unfold W3
  rw [Function.update_of_ne (by decide), Function.update_self]
theorem W3_man (d : Dev nD) : W3 m d (dv main_v5_3) = r_man (V2 m) d := by
  unfold W3
  rw [Function.update_self]

theorem W4_ne (d : Dev nD) (b : Ref sig .tc) (h6 : b ≠ main_v6) (h7 : b ≠ main_v7) : W4 m d (dv b) = W3 m d (dv b) := by
  unfold W4
  rw [StableHlo.after_cons, StableHlo.after_cons, StableHlo.after_nil, StableHlo.reshape_result_ne _ _ _ _ _ _ _ h7, StableHlo.reshape_result_ne _ _ _ _ _ _ _ h6]
theorem W2_ne (d : Dev nD) (b : Ref sig .tc) (h1 : b ≠ main_v1) (h2 : b ≠ main_v2) (h3 : b ≠ main_v3) (h4 : b ≠ main_v4) : W2 m d (dv b) = W1 m d (dv b) := by
  unfold W2
  rw [StableHlo.after_cons, StableHlo.after_cons, StableHlo.after_cons, StableHlo.after_cons, StableHlo.after_nil, StableHlo.reshape_result_ne _ _ _ _ _ _ _ h4,
    StableHlo.reshape_result_ne _ _ _ _ _ _ _ h3, StableHlo.reshape_result_ne _ _ _ _ _ _ _ h2, StableHlo.reshape_result_ne _ _ _ _ _ _ _ h1]
theorem W1_ne (d : Dev nD) (b : Ref sig .tc) (h : b ≠ main_v0) : W1 m d (dv b) = m ((T d : Thread nD τ).loc b) := by
  unfold W1
  rw [Function.update_of_ne (StableHlo.devRef_ne_of_ne h)]; rfl

/-- An argument is as launched at the return. -/
theorem W4_arg (d : Dev nD) (b : Ref sig .tc) (h : b ≠ main_v0 ∧ b ≠ main_v1 ∧ b ≠ main_v2 ∧ b ≠ main_v3 ∧ b ≠ main_v4 ∧ b ≠ main_v5_0 ∧ b ≠ main_v5_1 ∧ b ≠ main_v5_2
    ∧ b ≠ main_v5_3 ∧ b ≠ main_v6 ∧ b ≠ main_v7) : W4 m d (dv b) = m ((T d : Thread nD τ).loc b) := by
  obtain ⟨h0, h1, h2, h3, h4, h50, h51, h52, h53, h6, h7⟩ := h
  rw [W4_ne m d b h6 h7, W3_ne m d b h50 h51 h52 h53, W2_ne m d b h1 h2 h3 h4, W1_ne m d b h0]

theorem W2_arg (d : Dev nD) (b : Ref sig .tc) (h : b ≠ main_v0 ∧ b ≠ main_v1 ∧ b ≠ main_v2 ∧ b ≠ main_v3 ∧ b ≠ main_v4) : V2 m d b = m ((T d : Thread nD τ).loc b) := by
  obtain ⟨h0, h1, h2, h3, h4⟩ := h
  unfold V2
  rw [W2_ne m d b h1 h2 h3 h4, W1_ne m d b h0]

/-! ## The edge list and the flat array taken out of the unscoped buffers -/

abbrev uc : Finset (DevRef τ sig) := Pipeline.ucRefs τ sig
abbrev duo : Finset (DevRef τ sig) := {dv main_arg8, dv main_v0}

theorem held_duo (d : Dev nD) (W : Valuation τ sig (Elt F)) : (StableHlo.held (T d : Thread nD τ) uc W : sProp 𝕄)
    = iprop(((eLoc d ↦{fullShare} W (dv main_arg8)) ∗ oLoc d ↦{fullShare} W (dv main_v0)) ∗ StableHlo.held (T d : Thread nD τ) (uc \ duo) W) := by
  rw [StableHlo.held_sub_split (T d : Thread nD τ) (T := duo) (S := uc) (by decide) W]
  congr 1
  unfold StableHlo.held duo
  rw [SparseCore.bigSep_insert' (by decide), bigSep_singleton]

theorem held_W1 (d : Dev nD) : iprop(((eLoc d ↦{fullShare} m (eLoc d)) ∗ oLoc d ↦{fullShare} countsOf m d) ∗ StableHlo.held (T d : Thread nD τ) (uc \ duo) (W0 m d))
    = (StableHlo.held (T d : Thread nD τ) uc (W1 m d) : sProp 𝕄) := by
  rw [held_duo d (W1 m d), show W1 m d (dv main_v0) = countsOf m d from Function.update_self _ _ _, W1_ne m d main_arg8 (by decide),
    StableHlo.held_congr (T d : Thread nD τ) (S := uc \ duo) (V := W1 m d) (V' := W0 m d) fun b hb => ?_]
  unfold W1
  rw [Function.update_of_ne]
  rintro rfl
  exact (Finset.mem_sdiff.mp hb).2 (Finset.mem_insert_of_mem (Finset.mem_singleton_self _))

/-! ## @main -/

theorem lifted_entry : (Prog.lift (.customCall (SparseCore.inner (Pipeline.entry 0)) ()) :
      Prog (TpuEff nD τ sig (Elt F) (SparseCore.Sig (ΛP (F := F)) 1) .tc) PUnit)
    = SparseCore.liftProg (Q := 1) (.op (.customCall (Pipeline.entry 0) ()) fun x => .ret x) := rfl

def FIN (d : Dev nD) : sProp 𝕄 := StableHlo.held (T d : Thread nD τ) uc (W4 m d)

theorem ucHeld (d : Dev nD) (W : Valuation τ sig (Elt F)) : (unscopedBufs d (fun b => W (dv b)) : sProp 𝕄) = StableHlo.held (T d : Thread nD τ) uc W :=
  Pipeline.unscopedBufs_held d W

/-- The region as it is entered from `W2` and left at `W3`. -/
def seg : Pipeline.RegionSeg (pcfgs (F := F)) adm (pdats (V2 m)) none defs₀ 𝒱₀ (K (F := F)).L (K (F := F)).lev 0 :=
  reg (V2 m) (fun d b => W3 m d (dv b)) (W3_pred m) (W3_gf m) (W3_pos m) (W3_man m) (W3_ne m)

/-- The TensorCore call inside @main. -/
theorem wp_call [∀ e, Nonempty (Elt F e)] (d : Dev nD) (Q : PUnit → sProp 𝕄) :
    iprop(boundary (T d : Thread nD τ) ∗ StableHlo.held (T d : Thread nD τ) uc (W2 m d) ∗ idle d ∗ levAts (K (F := F)).L (K (F := F)).lev ∗ G d)
      ⊢ iprop((iprop(boundary (T d : Thread nD τ) ∗ StableHlo.held (T d : Thread nD τ) uc (W3 m d) ∗ idle d) -∗ Q ⟨⟩)
        -∗ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q) := by
  rw [lifted_entry]
  iintro ⟨Hb, Hh, HO, #Hl, HG⟩ Hk
  iapply ((K (F := F)).wp_liftProg (D (F := F)) 𝒱 (T d) Set.univ none _ Q)
  unfold G
  icases HG with ⟨Hc, Ht⟩
  iapply (Pipeline.RegionSeg.wp (pcfgs (F := F)) adm (pdats (V2 m)) none cells_inj EP defs₀ 𝒱₀ (K (F := F)).L (K (F := F)).lev (seg m) d none (fun u hu => nomatch hu) _ Q)
  isplitl [Hk]
  · iintro ⟨Hb, Hp⟩
    rw [wp_ret]; imodintro
    ihave Hp := (Entails.of_eq (show (seg m).post d = iprop(unscopedBufs d (fun b => W3 m d (dv b)) ∗ idle d) from rfl)) $$ Hp
    icases Hp with ⟨Hp, HO⟩
    iapply Hk
    isplitl [Hb]; · iexact Hb
    isplitl [Hp]; · iapply (Entails.of_eq (ucHeld d (W3 m d))); iexact Hp
    iexact HO
  isplitl [Hb]; · iexact Hb
  isplitl [Hh HO]
  · iapply (Entails.of_eq (show iprop(unscopedBufs d (fun b => W2 m d (dv b)) ∗ idle d) = (seg m).pre d from rfl))
    isplitl [Hh]; · iapply (Entails.of_eq (ucHeld d (W2 m d)).symm); iexact Hh
    iexact HO
  isplitr; · iexact Hl
  isplitl [Hc]; · iexact Hc
  iexact Ht

theorem idle_of (d : Dev nD) : (K (F := F)).tcSt EH d 1 ⊢ iprop(idle d ∗ ((idle d -∗ (K (F := F)).tcSt EH d 1 : sProp 𝕄))) := by
  unfold SparseCore.Cfg.tcSt idle
  rw [(K (F := F)).Otc_end d (Nat.le_refl 1)]
  iintro ⟨HO, Hr⟩
  isplitl [HO]; · iexact HO
  iintro HO
  isplitl [HO]; · iexact HO
  iexact Hr

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, HG⟩
  ihave Hbufs := (Entails.of_eq (show (unscopedBufs d (fun b => m ((T d : Thread nD τ).loc b)) : sProp 𝕄) = unscopedBufs d (fun b => W0 m d (dv b)) from rfl)) $$ Hbufs
  ihave Hh := (Entails.of_eq ((ucHeld d (W0 m d)).trans (held_duo d (W0 m d)))) $$ Hbufs
  icases Hh with ⟨Hduo, Hrest⟩
  iapply ((K (F := F)).wp_run (D (F := F)) 𝒱 (EH := EH) (P := P m) κ d 0) $$ [Hst Hduo Hrest Hb Hts HG]
  isplitr; · iexact Hctx
  isplitl [Hst]; · iexact Hst
  isplitl [Hduo]; · rw [st0_eq]; iexact Hduo
  iintro ⟨Hst, Hdn⟩
  ihave Hduo := (Entails.of_eq (dn0_eq m d)) $$ Hdn
  ihave Hh := (Entails.of_eq (held_W1 m d)) $$ [Hduo Hrest]
  · isplitl [Hduo] <;> iassumption
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  ihave Hst := (Entails.of_eq (show ((K (F := F)).tcSt EH d ((0 : Fin 1).val + 1) : sProp 𝕄) = (K (F := F)).tcSt EH d 1 from rfl)) $$ Hst
  ihave Hst := (idle_of d) $$ Hst
  icases Hst with ⟨HO, Hst⟩
  ihave Hl := (SparseCore.Cfg.ctx_levAts κ) $$ Hctx
  iapply (wp_call m d) $$ [Hb Hh HO Hl HG]
  · isplitl [Hb]; · iexact Hb
    isplitl [Hh]; · iexact Hh
    isplitl [HO]; · iexact HO
    isplitl [Hl]; · iexact Hl
    iexact HG
  iintro ⟨Hb, Hh, HO⟩
  ihave Hst := Hst $$ HO
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  iapply (StableHlo.wp_hlo_within 𝒱 (T d) none Set.univ (S := uc) (by rw [StableHlo.reshape_bufs]; decide)) $$ [Hb Hh]
  · isplitl [Hb] <;> iassumption
  iintro ⟨Hb, Hh⟩; rw [wp_ret]; imodintro
  imodintro
  isplitl [Hst]; · iexact Hst
  isplitl [Hh]
  · unfold FIN W4
    rw [StableHlo.after_cons, StableHlo.after_cons, StableHlo.after_nil]
    iexact Hh
  isplitl [Hb] <;> iassumption

/-! ## The run -/

/-- Every unscoped buffer of the device's TensorCore at the return. -/
def fq (d : Dev nD) (s' : Phys nD τ sig (Elt F)) : Prop := ∀ b : Ref sig .tc, dv b ∈ uc → s'.mem.mem ((T d : Thread nD τ).loc b) = W4 m d (dv b)

theorem hfin (d : Dev nD) (s' : Phys nD τ sig (Elt F)) : iprop(FIN m d ∗ SI s') ⊢ (⌜fq m d s'⌝ : sProp 𝕄) := fun x hx b hb => by
  have h1 : (FIN m d : sProp 𝕄) ⊢ iprop(((T d : Thread nD τ).loc b) ↦{fullShare} W4 m d (dv b)) := by
    unfold FIN StableHlo.held; exact bigSep_elim hb
  have h2 := (((sep_mono_left h1).trans sep_comm.1).trans (SI_pointsTo_agree (st := s') (ℓ := (T d : Thread nD τ).loc b) (I := Finset.univ) (q := fullShare) (f := W4 m d (dv b)))) x hx
  exact funext fun i => h2 i (Finset.mem_univ i)

def QC : PUnit × MemSt nD τ sig (Elt F) → Prop := fun r =>
  (∀ d : Dev nD, ∀ b : Ref sig .tc, dv b ∈ uc → r.2.mem ((T d : Thread nD τ).loc b) = W4 m d (dv b)) ∧ r.2.sem = fun _ => 0

theorem run_main [∀ e, Nonempty (Elt F e)] (hF : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hF)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Edge
-- ==== Proof.Frames.lean ====
/-
  The two frames, and the constant kept: what the one run says of the program as it runs on words and of its ideal reading.
-/
module

public import proofs.«01_k».proof.Defs
public import proofs.«01_k».proof.Proof.Main
public import proofs.«01_k».proof.Proof.Gen.Kernel
public import Idealize.ShloMosaic.Lib.ReduceAll

@[expose] public section

noncomputable section

namespace Cert.Proof.Edge

open Idealize.ShloMosaic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.KernelIdeal Cert.KernelIdeal.Gen

instance preFacts : Cert.Pre_edges_in_range.Facts where
  bcast_S_S2x32768 := by decide
  reducesTo_S2x32768_S_d0_1 := by decide
  h_S_ := by decide

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem lt_of_checks (v : BitVec 32) (e : IntOp.andi (IntOp.cmpi .sge v 0#32) (IntOp.cmpi .slt v 2048#32) = 1#1) : v.toNat < 2048 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition's one word is the conjunction of the edge words' checks. -/
theorem inRange_of_fn {F : FTy → Type} [FloatOps F] (a0 a1 a2 a3 a4 a5 a6 a7) (e : Vec F S2x32768 .i32) (a9)
    (h : Cert.Pre_edges_in_range.fn (F := F) a0 a1 a2 a3 a4 a5 a6 a7 e a9 = fun _ => 1#1) : InRange e := by
  intro p
  have h' := congrFun h (fun a => a.elim0)
  simp only [Cert.Pre_edges_in_range.fn] at h'
  haveI : Subsingleton Cert.Pre_edges_in_range.S_.Idx := ⟨fun a b => funext fun k => k.elim0⟩
  have := Host.reduce_andi_all _ _ _ _ _ h' p
  exact lt_of_checks _ this

theorem ok_ideal (m : (ℓ : Loc nD τ sig) → Buf (Elt Ideal) ℓ) (h : Cert.Pre_KernelIdeal m) : PreOK (F := Ideal) m :=
  fun d => inRange_of_fn _ _ _ _ _ _ _ _ _ _ (h d)

theorem frame_ideal : Cert.quiescent_KernelIdeal := fun m ρ hpre =>
  (θ_run Cert.KernelIdeal.defs _ _).mono (fun _ h => ⟨fun c => ⟨(h.1 c main_arg0 (by decide)).trans (W4_arg m c main_arg0 (by decide)), (h.1 c main_arg1 (by decide)).trans (W4_arg m c main_arg1 (by decide)), (h.1 c main_arg2 (by decide)).trans (W4_arg m c main_arg2 (by decide)), (h.1 c main_arg3 (by decide)).trans (W4_arg m c main_arg3 (by decide)), (h.1 c main_arg4 (by decide)).trans (W4_arg m c main_arg4 (by decide)), (h.1 c main_arg5 (by decide)).trans (W4_arg m c main_arg5 (by decide)), (h.1 c main_arg6 (by decide)).trans (W4_arg m c main_arg6 (by decide)), (h.1 c main_arg7 (by decide)).trans (W4_arg m c main_arg7 (by decide)), (h.1 c main_arg8 (by decide)).trans (W4_arg m c main_arg8 (by decide)), (h.1 c main_arg9 (by decide)).trans (W4_arg m c main_arg9 (by decide))⟩, h.2⟩)
    (run_main (F := Ideal) m ρ (ok_ideal m hpre))

/-- On words the named constant is the word the program spells. -/
instance namedBits : Named Bits where
  named _ _ {φ} bits := Scalar.ofBits φ bits

theorem ok_bits (m : (ℓ : Loc nD τ sig) → Buf (Elt Bits) ℓ) (h : Cert.Pre_Kernel m) : PreOK (F := Bits) m :=
  fun d => inRange_of_fn _ _ _ _ _ _ _ _ _ _ (h d)

/-- The two texts' kernel bodies are the same on words. -/
theorem defs0_bits : Cert.Kernel.defs₀ (F := Bits) = Cert.KernelIdeal.defs₀ (F := Bits) := by
  funext pr ℓ a
  match pr, ℓ, a with
  | .scVector c s, ⟨0, _⟩, _ => rfl
  | .scVector c s, ⟨1, _⟩, _ => rfl
  | .tc, ⟨0, _⟩, _ => rfl
  | .tc, ⟨1, _⟩, (t, s) => rfl
  | .scScalar c, ⟨0, _⟩, _ => rfl
  | .scScalar c, ⟨1, _⟩, _ => rfl

theorem defs_bits : Cert.Kernel.defs (F := Bits) = Cert.KernelIdeal.defs (F := Bits) :=
  congrArg (fun d => (Cert.KernelIdeal.sc (F := Bits)).defs (Pipeline.defs (Cert.KernelIdeal.pcfgs (F := Bits)) d)) defs0_bits

theorem run_bits (m : (ℓ : Loc nD τ sig) → Buf (Elt Bits) ℓ) (ρ : Dev nD → PrngReg) (hF : PreOK m) :
    θ_run (Cert.Kernel.defs (F := Bits)) (Cert.Kernel.threads (F := Bits)) ⟨m, fun _ => 0, ρ⟩ (QC m) := by
  rw [defs_bits]; exact run_main (F := Bits) m ρ hF

theorem frame_bits : Cert.quiescent_Kernel := fun m ρ hpre =>
  (θ_run Cert.Kernel.defs _ _).mono (fun _ h => ⟨fun c => ⟨(h.1 c main_arg0 (by decide)).trans (W4_arg (F := Bits) m c main_arg0 (by decide)), (h.1 c main_arg1 (by decide)).trans (W4_arg (F := Bits) m c main_arg1 (by decide)), (h.1 c main_arg2 (by decide)).trans (W4_arg (F := Bits) m c main_arg2 (by decide)), (h.1 c main_arg3 (by decide)).trans (W4_arg (F := Bits) m c main_arg3 (by decide)), (h.1 c main_arg4 (by decide)).trans (W4_arg (F := Bits) m c main_arg4 (by decide)), (h.1 c main_arg5 (by decide)).trans (W4_arg (F := Bits) m c main_arg5 (by decide)), (h.1 c main_arg6 (by decide)).trans (W4_arg (F := Bits) m c main_arg6 (by decide)), (h.1 c main_arg7 (by decide)).trans (W4_arg (F := Bits) m c main_arg7 (by decide)), (h.1 c main_arg8 (by decide)).trans (W4_arg (F := Bits) m c main_arg8 (by decide)), (h.1 c main_arg9 (by decide)).trans (W4_arg (F := Bits) m c main_arg9 (by decide))⟩, h.2⟩)
    (run_bits m ρ (ok_bits m hpre))

theorem preserves : Cert.preserves_Kernel_KernelIdeal := ⟨rfl, fun _ => rfl, rfl⟩

end Cert.Proof.Edge
-- ==== Proof.FrameRef.lean ====
/-
  The reference's frame: its run, as its text is read, leaves every argument as it was.
-/
module

public import proofs.«01_k».proof.Defs
public import proofs.«01_k».proof.Proof.Gen.ReferenceIdeal.Run

@[expose] public section

noncomputable section

namespace Cert.Proof.Edge

open Idealize.ShloMosaic Idealize.SL.Sem

/-- The reference ends with its arguments unchanged. -/
theorem frame_ref : Cert.quiescent_ReferenceIdeal (hReferenceIdeal := Cert.ReferenceIdeal.Gen.facts) := by
  intro m g _
  exact (θ_run Cert.ReferenceIdeal.defs _ _).mono (fun r h => ⟨fun c => (h c).2.2.2.2, sem_eq_zero_of_no_sems (by decide) r.2⟩)
    (Cert.ReferenceIdeal.Value.run m g)

end Cert.Proof.Edge

end
-- ==== Proof.Spec.lean ====
/-
  What both programs compute, in sums over edges and nodes, on the extended reals: the parts the kernel's side and the
  reference's side meet in.
-/
module

public import Idealize.ShloMosaic.Lib.Pointwise

@[expose] public section

noncomputable section

namespace Cert.Proof.Val

open Idealize.ShloMosaic

/-- A matrix of extended reals. -/
abbrev Mat (R C : Nat) : Type := (⟨2, ![R, C]⟩ : Shape).Idx → EReal

/-- An edge list: sources in row 0, destinations in row 1. -/
abbrev EdgeList : Type := (⟨2, ![2, 32768]⟩ : Shape).Idx → BitVec 32

/-- Edge `k`'s source and destination. -/
def src (e : EdgeList) (k : Fin 32768) : Fin 2048 := ⟨(e (ix2 0 k)).toNat % 2048, Nat.mod_lt _ (by decide)⟩
def dst (e : EdgeList) (k : Fin 32768) : Fin 2048 := ⟨(e (ix2 1 k)).toNat % 2048, Nat.mod_lt _ (by decide)⟩

/-- The number of edges into node `i` from node `j`. -/
def cnt (e : EdgeList) (i j : Fin 2048) : EReal := ∑ k : Fin 32768, if dst e k = i ∧ src e k = j then 1 else 0

/-- The number of edges into node `i`. -/
def deg (e : EdgeList) (i : Fin 2048) : EReal := ∑ k : Fin 32768, if dst e k = i then 1 else 0

/-- The sum of column `d` over the sources of the edges into node `i`. -/
def agg (e : EdgeList) (h : Mat 2048 128) (i : Fin 2048) (d : Fin 128) : EReal :=
  ∑ k : Fin 32768, if dst e k = i then h (ix2 (src e k) d) else 0

/-- The mean over a node and the sources of its edges. -/
def mean (e : EdgeList) (h : Mat 2048 128) : Mat 2048 128 := fun p =>
  Ideal.div (h p + agg e h (p 0) (p 1)) (deg e (p 0) + 1)

/-- Three matrices of weights. -/
abbrev Mat3 : Type := (⟨3, ![3, 128, 128]⟩ : Shape).Idx → EReal

/-- Layer `l`'s affine map of the mean. -/
def layer (e : EdgeList) (gw : Mat3) (gb : Mat 3 128) (l : Fin 3) (h : Mat 2048 128) : Mat 2048 128 := fun p =>
  (∑ k : Fin 128, mean e h (ix2 (p 0) k) * gw (ix3 l k (p 1))) + gb (ix2 l (p 1))

/-- The positive part. -/
def relu (h : Mat 2048 128) : Mat 2048 128 := fun p => max (h p) 0

/-- The last layer's features. -/
def feats (e : EdgeList) (x : Mat 2048 128) (gw : Mat3) (gb : Mat 3 128) : Mat 2048 128 :=
  layer e gw gb 2 (relu (layer e gw gb 1 (relu (layer e gw gb 0 x))))

/-- The two-layer head on the features: positions. -/
def head (h : Mat 2048 128) (w1 : Mat 128 128) (b1 : Fin 128 → EReal) (w2 : Mat 128 3) (b2 : Fin 3 → EReal) : Mat 2048 3 := fun p =>
  (∑ k : Fin 128, max ((∑ l : Fin 128, h (ix2 (p 0) l) * w1 (ix2 l k)) + b1 k) 0 * w2 (ix2 k (p 1))) + b2 (p 1)

/-- The mean square difference of the positions. -/
def posLoss (z ps : Mat 2048 3) : EReal :=
  (∑ i : Fin 2048, ∑ c : Fin 3, (z (ix2 i c) - ps (ix2 i c)) * (z (ix2 i c) - ps (ix2 i c))) * ((6144⁻¹ : ℝ) : EReal)

/-- The mean of the features over the nodes of a graph, by each node's graph. -/
def pool (h : Mat 2048 128) (bt : Fin 2048 → BitVec 32) : Mat 16 128 := fun p =>
  Ideal.div (∑ n : Fin 2048, if (bt n).toInt = ((p 0).val : Int) then h (ix2 n (p 1)) else 0)
    (max (∑ n : Fin 2048, if (bt n).toInt = ((p 0).val : Int) then 1 else 0) 1)

/-- A sum of nonnegative terms times a number is the sum of the products. -/
theorem sum_mul_of_nonneg {ι : Type} (s : Finset ι) (f : ι → EReal) (hf : ∀ k, 0 ≤ f k) (x : EReal) :
    (∑ k ∈ s, f k) * x = ∑ k ∈ s, f k * x := by
  classical
  induction s using Finset.induction_on with
  | empty => simp
  | insert a s ha ih =>
    rw [Finset.sum_insert ha, Finset.sum_insert ha, EReal.right_distrib_of_nonneg (hf a) (Finset.sum_nonneg fun k _ => hf k), ih]

/-- A row of counts times a column is the sum over the row's edges. -/
theorem cnt_dot (e : EdgeList) (h : Mat 2048 128) (i : Fin 2048) (d : Fin 128) :
    ∑ j : Fin 2048, cnt e i j * h (ix2 j d) = agg e h i d := by
  unfold cnt agg
  have h1 : ∀ j : Fin 2048, (∑ k : Fin 32768, if dst e k = i ∧ src e k = j then (1 : EReal) else 0) * h (ix2 j d)
      = ∑ k : Fin 32768, if dst e k = i ∧ src e k = j then h (ix2 j d) else 0 := fun j => by
    rw [sum_mul_of_nonneg _ _ (fun k => by split_ifs <;> simp)]
    refine Finset.sum_congr rfl fun k _ => ?_
    split_ifs <;> simp
  rw [Finset.sum_congr rfl fun j _ => h1 j, Finset.sum_comm]
  refine Finset.sum_congr rfl fun k _ => ?_
  by_cases hd : dst e k = i
  · simp [hd]
  · simp [hd]

/-- A row of counts sums to the number of the row's edges. -/
theorem cnt_sum (e : EdgeList) (i : Fin 2048) : ∑ j : Fin 2048, cnt e i j = deg e i := by
  unfold cnt deg
  rw [Finset.sum_comm]
  refine Finset.sum_congr rfl fun k _ => ?_
  by_cases hd : dst e k = i
  · simp [hd]
  · simp [hd]

/-- There is an edge from `j` into `i` exactly when the count is above zero. -/
theorem cnt_pos (e : EdgeList) (i j : Fin 2048) : 0 < cnt e i j ↔ ∃ k, dst e k = i ∧ src e k = j := by
  unfold cnt
  have h0 : ∀ k ∈ (Finset.univ : Finset (Fin 32768)), (0 : EReal) ≤ if dst e k = i ∧ src e k = j then 1 else 0 := fun k _ => by split_ifs <;> simp
  rw [lt_iff_le_and_ne]
  constructor
  · rintro ⟨_, h⟩
    by_contra hn
    refine h (Finset.sum_eq_zero fun k _ => if_neg fun q => hn ⟨k, q⟩).symm
  · rintro ⟨k, hk⟩
    refine ⟨Finset.sum_nonneg h0, fun h => ?_⟩
    have := (Finset.sum_eq_zero_iff_of_nonneg h0).mp h.symm k (Finset.mem_univ k)
    rw [if_pos hk] at this
    exact one_ne_zero this

end Cert.Proof.Val
-- ==== Proof.Counts.lean ====
/-
  The SparseCore call's counts on the extended reals: entry (i, j) is the number of edges that end in node i and start in
  node j.
-/
module

public import proofs.«01_k».proof.Proof.Tile
public import proofs.«01_k».proof.Proof.Spec

@[expose] public section

noncomputable section

namespace Cert.Proof.Val

open Cert.KernelIdeal Cert.KernelIdeal.Gen
open Idealize.ShloMosaic
open Cert.Proof.Edge (edgeIx lanes acc groupStep InRange inRows place inRows_apply place_apply chk_place flatIx counts)

/-- A fold of guarded additions, read at one element: the start plus the sum of what names that element. -/
theorem foldl_add_at {ι I : Type} (l : List ι) (hit : ι → I → Prop) [∀ k j, Decidable (hit k j)] (on : ι → Prop) [DecidablePred on]
    (v : ι → EReal) (step : (I → EReal) → ι → (I → EReal))
    (hstep : ∀ g k j, step g k j = if on k ∧ hit k j then g j + v k else g j) (f : I → EReal) (j : I) :
    l.foldl step f j = f j + (l.map fun k => if on k ∧ hit k j then v k else 0).sum := by
  induction l generalizing f with
  | nil => simp
  | cons k l ih =>
    rw [List.foldl_cons, ih, List.map_cons, List.sum_cons, hstep, ← add_assoc]
    congr 1
    split_ifs <;> simp

/-- A scatter with addition into the flat buffer, read at an element: what was there plus every set lane that names it. -/
theorem storeIdx_add_apply (g : Vec Ideal S65536 .f32) (pl : IVec S16 32) (v : Vec Ideal S16 .f32) (m : IVec S16 1)
    (h : ∀ a x, ((![pl] : Fin 1 → IVec S16 32) a x).toNat < S65536.size a) (j : S65536.Idx) :
    storeIdx (F := Ideal) (s := S65536) (e := .f32) g ![pl] v m true h j
      = (g j : EReal) + ∑ x : Fin 16, if m (Shape.ofLane x) = 1 ∧ (pl (Shape.ofLane x)).toNat = (j 0).val then (v (Shape.ofLane x) : EReal) else 0 := by
  classical
  rw [Fin.sum_univ_def]
  unfold storeIdx
  refine foldl_add_at (I := S65536.Idx) (List.finRange 16) (fun x j => (pl (Shape.ofLane x)).toNat = (j 0).val) (fun x => m (Shape.ofLane x) = 1)
    (fun x => v (Shape.ofLane x)) _ (fun g k j => ?_) g j
  by_cases hm : m (Shape.ofLane k) = 1
  · rw [if_pos hm]
    by_cases hj : (pl (Shape.ofLane k)).toNat = (j 0).val
    · rw [if_pos (show m (Shape.ofLane k) = 1 ∧ (pl (Shape.ofLane k)).toNat = (j 0).val from ⟨hm, hj⟩)]
      have hp : ∀ a, (j a).val = (idxAt ![pl] h (Shape.ofLane k) a).val := fun a => by
        obtain rfl : a = 0 := Subsingleton.elim _ _
        exact hj.symm
      have hi : idxAt ![pl] h (Shape.ofLane k) = j := funext fun a => Fin.ext (hp a).symm
      refine (if_pos hp).trans ?_
      rw [hi]; rfl
    · rw [if_neg (show ¬ (m (Shape.ofLane k) = 1 ∧ (pl (Shape.ofLane k)).toNat = (j 0).val) from fun q => hj q.2)]
      exact if_neg (show ¬ ∀ a, (j a).val = (idxAt ![pl] h (Shape.ofLane k) a).val from fun q => hj (q 0).symm)
  · rw [if_neg hm, if_neg fun q => hm q.1]

/-- Column `n` of the edge list: its source and its destination, as numbers. -/
def srcN (e : S2x32768.Idx → BitVec 32) (n : Nat) : Nat := (e (edgeIx 0 n)).toNat
def dstN (e : S2x32768.Idx → BitVec 32) (n : Nat) : Nat := (e (edgeIx 1 n)).toNat

/-- What edge `n` adds to place `q` of the rows from `b`. -/
def hitN (e : S2x32768.Idx → BitVec 32) (b q n : Nat) : EReal :=
  if (b ≤ dstN e n ∧ dstN e n < b + 32) ∧ (dstN e n - b) * 2048 + srcN e n = q then 1 else 0

theorem acc_apply (e : S2x32768.Idx → BitVec 32) (hin : InRange e) (b : BitVec 32) (hb : b.toNat ≤ 2016) (j : S65536.Idx) (n : Nat) :
    acc (F := Ideal) e b n j = ∑ k ∈ Finset.range (16 * n), hitN e b.toNat (j 0).val k := by
  induction n with
  | zero => simp only [acc, Nat.mul_zero, Finset.range_zero, Finset.sum_empty]; pointwise
  | succ n ih =>
    have hs : ∀ x, (lanes (F := Ideal) e 0 n x : BitVec 32).toNat < 2048 := fun x => hin _
    have hchk := chk_place (F := Ideal) hb hs (lanes (F := Ideal) e 1 n)
    rw [acc, groupStep, dif_pos hchk]
    refine (storeIdx_add_apply _ _ _ _ hchk j).trans ?_
    rw [ih, Nat.mul_succ, Finset.sum_range_add, ← Fin.sum_univ_eq_sum_range (fun x => hitN e b.toNat (j 0).val (16 * n + x))]
    refine congrArg _ (Finset.sum_congr rfl fun x _ => ?_)
    rw [inRows_apply hb, place_apply hb _ _ (hs _)]
    have hv : (k0_pay38 (F := Ideal) (Shape.ofLane x) : EReal) = 1 := by pointwise [k0_pay38]
    rw [hv]
    unfold hitN
    have e0 : (lanes (F := Ideal) e 0 n (Shape.ofLane x) : BitVec 32).toNat = srcN e (16 * n + x.val) := rfl
    have e1 : (lanes (F := Ideal) e 1 n (Shape.ofLane x) : BitVec 32).toNat = dstN e (16 * n + x.val) := rfl
    rw [e0, e1]
    by_cases hr : b.toNat ≤ dstN e (16 * n + x.val) ∧ dstN e (16 * n + x.val) < b.toNat + 32
    · simp [hr]
    · simp [hr]

/-- Entry (i, j) of the counts: the number of edges from node j into node i. -/
theorem counts_apply (e : S2x32768.Idx → BitVec 32) (hin : InRange e) (p : S4194304.Idx) (i j : Fin 2048) (hp : (p 0).val = i.val * 2048 + j.val) :
    counts (F := Ideal) e p = cnt e i j := by
  have hi := i.isLt
  have hj := j.isLt
  have hb : (BitVec.ofNat 32 (32 * ((p 0).val / 65536))).toNat = 32 * (i.val / 32) := by
    rw [BitVec.toNat_ofNat]; omega
  have hx : ∀ (r : Fin 2) (k : Fin 32768), edgeIx r k.val = ix2 r k := fun r k => funext fun a => match a with
    | 0 => rfl
    | 1 => Fin.ext (Nat.mod_eq_of_lt k.isLt)
  unfold counts cnt
  rw [acc_apply e hin _ (by omega), hb, show 16 * 2048 = 32768 from rfl, ← Fin.sum_univ_eq_sum_range (fun k => hitN e _ _ k)]
  refine Finset.sum_congr rfl fun k _ => ?_
  unfold hitN
  have hs : srcN e k.val < 2048 := hin _
  have hd : dstN e k.val < 2048 := hin _
  have es : (src e k).val = srcN e k.val := by
    show (e (ix2 0 k)).toNat % 2048 = _
    rw [← hx]; exact Nat.mod_eq_of_lt hs
  have ed : (dst e k).val = dstN e k.val := by
    show (e (ix2 1 k)).toNat % 2048 = _
    rw [← hx]; exact Nat.mod_eq_of_lt hd
  have hq : (flatIx (p 0).val 0).val = (p 0).val % 65536 := rfl
  rw [hq, hp]
  refine if_congr ?_ rfl rfl
  rw [Fin.ext_iff, Fin.ext_iff, es, ed]
  constructor
  · intro h; omega
  · intro h; omega

end Cert.Proof.Val
-- ==== Proof.KerConv.lean ====
/-
  The dense call's mean over a block of rows, on the extended reals.
-/
module

public import proofs.«01_k».proof.Proof.Rows
public import proofs.«01_k».proof.Proof.Spec

@[expose] public section

noncomputable section

namespace Cert.Proof.Val

open Cert.KernelIdeal Cert.KernelIdeal.Gen
open Idealize.ShloMosaic
open Cert.Proof.Edge (conv tall rows rowIx inBlk)

/-- The two spellings of a matrix's index. -/
theorem edge_ix2 {R C : Nat} (r : Fin R) (c : Fin C) : Cert.Proof.Edge.ix2 r c = ix2 r c := funext fun a => match a with
  | 0 => rfl
  | 1 => rfl

theorem pay18_apply (a : Mat 256 2048) (h : Mat 2048 128) (b : Mat 256 128) (r : Fin 256) (d : Fin 128) :
    k1_pay18 (F := Ideal) a h b (ix2 r d)
      = Ideal.div (b (ix2 r d) + ∑ j : Fin 2048, a (ix2 r j) * h (ix2 j d)) ((∑ j : Fin 2048, a (ix2 r j)) + 1) := by
  pointwise [k1_pay18]

/-- Blocks of rows put together, read at a row and a column. -/
theorem tall_apply {C : Nat} {e : EltTy} (W : Nat → (Cert.Proof.Edge.SR C).Idx → Elt Ideal e) (i : Fin 2048) (d : Fin C) :
    tall (F := Ideal) W (ix2 i d) = W (i.val / 256) (ix2 ⟨i.val % 256, Nat.mod_lt _ (by decide)⟩ d) := by
  exact congrArg (W (i.val / 256)) (edge_ix2 (⟨i.val % 256, Nat.mod_lt _ (by decide)⟩ : Fin 256) d)

/-- A row of a block of rows is a row of the whole. -/
theorem rows_apply {C : Nat} {e : EltTy} (f : (Cert.Proof.Edge.SB C).Idx → Elt Ideal e) (i : Fin 2048) (d : Fin C) :
    rows (F := Ideal) f (i.val / 256) (ix2 ⟨i.val % 256, Nat.mod_lt _ (by decide)⟩ d) = f (ix2 i d) := by
  have : (⟨(256 * (i.val / 256) + i.val % 256) % 2048, Nat.mod_lt _ (by decide)⟩ : Fin 2048) = i := Fin.ext (by have := i.isLt; show _ % 2048 = _; omega)
  exact (congrArg f (edge_ix2 (⟨(256 * (i.val / 256) + i.val % 256) % 2048, Nat.mod_lt _ (by decide)⟩ : Fin 2048) d)).trans (congrArg (fun z => f (ix2 z d)) this)

/-- The product with the counts, divided by the counts' row sum and one, is the mean over a node's edges. -/
theorem conv_eq (e : EdgeList) (mt : Mat 2048 2048) (hmt : ∀ i j, mt (ix2 i j) = cnt e i j) (h : Mat 2048 128) :
    conv (F := Ideal) mt h = mean e h := by
  funext p
  obtain ⟨i, d, rfl⟩ : ∃ i d, p = ix2 i d := ⟨p 0, p 1, (ix2_eta p).symm⟩
  have hr : ∀ j, rows (F := Ideal) (C := 2048) (e := .f32) mt (i.val / 256) (ix2 ⟨i.val % 256, Nat.mod_lt _ (by decide)⟩ j) = cnt e i j := fun j =>
    (rows_apply (e := .f32) mt i j).trans (hmt i j)
  refine (tall_apply (e := .f32) _ i d).trans ((pay18_apply _ _ _ _ _).trans ?_)
  refine congrArg₂ Ideal.div (congrArg₂ (· + ·) (rows_apply (e := .f32) h i d) ?_) (congrArg (· + 1) ?_)
  · exact (Finset.sum_congr rfl fun j _ => congrArg (· * h (ix2 j d)) (hr j)).trans (cnt_dot e h i d)
  · exact (Finset.sum_congr rfl fun j _ => hr j).trans (cnt_sum e i)

/-! ## The layers -/

theorem pay13_eq (x : Mat 2048 128) : k1_pay13 (F := Ideal) x = x := by
  funext p
  pointwise [k1_pay13]

theorem gW_apply (w : Vec Ideal S3x128x128 .f32) (l : Fin 3) (k d : Fin 128) : Cert.Proof.Edge.gW (F := Ideal) w l (ix3 0 k d) = w (ix3 l k d) :=
  congrArg w (funext fun a => match a with
    | 0 => rfl
    | 1 => rfl
    | 2 => rfl)

theorem gB_apply (b : Vec Ideal S3x128 .f32) (l : Fin 3) (d : Fin 128) : Cert.Proof.Edge.gB (F := Ideal) b l (ix2 0 d) = b (ix2 l d) :=
  congrArg b (edge_ix2 l d)

theorem pay17_apply (c : Mat 2048 128) (w : Vec Ideal S1x128x128 .f32) (b : Vec Ideal S1x128 .f32) (i : Fin 2048) (d : Fin 128) :
    k1_pay17 (F := Ideal) c w b (ix2 i d) = max ((∑ k : Fin 128, c (ix2 i k) * w (ix3 0 k d)) + b (ix2 0 d)) 0 := by
  pointwise [k1_pay17]

theorem pay20_apply (c : Mat 2048 128) (w : Vec Ideal S1x128x128 .f32) (b : Vec Ideal S1x128 .f32) (i : Fin 2048) (d : Fin 128) :
    k1_pay20 (F := Ideal) (k1_pay19 (F := Ideal) c w b) (ix2 i d) = max ((∑ k : Fin 128, c (ix2 i k) * w (ix3 0 k d)) + b (ix2 0 d)) 0 := by
  pointwise [k1_pay20, k1_pay19]

theorem pay22_apply (c : Mat 2048 128) (w : Vec Ideal S1x128x128 .f32) (b : Vec Ideal S1x128 .f32) (i : Fin 2048) (d : Fin 128) :
    k1_pay22 (F := Ideal) c w b (ix2 i d) = (∑ k : Fin 128, c (ix2 i k) * w (ix3 0 k d)) + b (ix2 0 d) := by
  pointwise [k1_pay22]

/-- A layer's affine map over its slices is the affine map by the layer's number. -/
theorem affine_slices (e : EdgeList) (gw : Vec Ideal S3x128x128 .f32) (gb : Vec Ideal S3x128 .f32) (l : Fin 3) (h : Mat 2048 128) (i : Fin 2048) (d : Fin 128) :
    (∑ k : Fin 128, mean e h (ix2 i k) * Cert.Proof.Edge.gW (F := Ideal) gw l (ix3 0 k d)) + Cert.Proof.Edge.gB (F := Ideal) gb l (ix2 0 d)
      = layer e gw gb l h (ix2 i d) :=
  congrArg₂ (· + ·) (Finset.sum_congr rfl fun k _ => congrArg (mean e h (ix2 i k) * ·) (gW_apply gw l k d)) (gB_apply gb l d)

section Layers

variable (e : EdgeList) (mt : Mat 2048 2048) (hmt : ∀ i j, mt (ix2 i j) = cnt e i j) (x : Mat 2048 128) (gw : Vec Ideal S3x128x128 .f32) (gb : Vec Ideal S3x128 .f32)
include hmt

theorem h1_eq : Cert.Proof.Edge.h1 (F := Ideal) mt x gw gb = relu (layer e gw gb 0 x) := by
  funext p
  obtain ⟨i, d, rfl⟩ : ∃ i d, p = ix2 i d := ⟨p 0, p 1, (ix2_eta p).symm⟩
  unfold Cert.Proof.Edge.h1 Cert.Proof.Edge.h0
  rw [pay13_eq, conv_eq e mt hmt]
  exact (pay17_apply _ _ _ i d).trans (congrArg (max · 0) (affine_slices e gw gb 0 x i d))

theorem h2_eq : Cert.Proof.Edge.h2 (F := Ideal) mt x gw gb = relu (layer e gw gb 1 (relu (layer e gw gb 0 x))) := by
  funext p
  obtain ⟨i, d, rfl⟩ : ∃ i d, p = ix2 i d := ⟨p 0, p 1, (ix2_eta p).symm⟩
  unfold Cert.Proof.Edge.h2
  rw [h1_eq e mt hmt, conv_eq e mt hmt]
  exact (pay20_apply _ _ _ i d).trans (congrArg (max · 0) (affine_slices e gw gb 1 _ i d))

/-- The last layer's features. -/
theorem h3_eq : Cert.Proof.Edge.h3 (F := Ideal) mt x gw gb = feats e x gw gb := by
  funext p
  obtain ⟨i, d, rfl⟩ : ∃ i d, p = ix2 i d := ⟨p 0, p 1, (ix2_eta p).symm⟩
  unfold Cert.Proof.Edge.h3
  rw [h2_eq e mt hmt, conv_eq e mt hmt]
  exact (pay22_apply _ _ _ i d).trans (affine_slices e gw gb 2 _ i d)

end Layers

end Cert.Proof.Val
-- ==== Proof.Consts.lean ====
/-
  The float patterns the two programs print, as the extended reals they denote.
-/
module

public import Idealize.ShloMosaic.Lib.Pointwise

@[expose] public section

noncomputable section

namespace Cert.Proof.Val

open Idealize.ShloMosaic

theorem bits_6144 : Ideal.ofBits .f32 0x45C00000#32 = ((6144 : ℝ) : EReal) := by
  simp [Ideal.ofBits, Ideal.ieee, -EReal.coe_mul, -EReal.coe_neg]; norm_num
theorem bits_inf : Ideal.ofBits .f32 0x7F800000#32 = ⊤ := by
  simp [Ideal.ofBits, Ideal.ieee]
theorem bits_bf_inf : Ideal.ofBits .bf16 0x7F80#16 = ⊤ := by
  simp [Ideal.ofBits, Ideal.ieee]
theorem bits_2 : Ideal.ofBits .f32 0x40000000#32 = ((2 : ℝ) : EReal) := by
  simp [Ideal.ofBits, Ideal.ieee, -EReal.coe_mul, -EReal.coe_neg]; norm_num
theorem bits_3 : Ideal.ofBits .f32 0x40400000#32 = ((3 : ℝ) : EReal) := by
  simp [Ideal.ofBits, Ideal.ieee, -EReal.coe_mul, -EReal.coe_neg]; norm_num
theorem bits_4 : Ideal.ofBits .f32 0x40800000#32 = ((4 : ℝ) : EReal) := by
  simp [Ideal.ofBits, Ideal.ieee, -EReal.coe_mul, -EReal.coe_neg]; norm_num
theorem bits_5 : Ideal.ofBits .f32 0x40A00000#32 = ((5 : ℝ) : EReal) := by
  simp [Ideal.ofBits, Ideal.ieee, -EReal.coe_mul, -EReal.coe_neg]; norm_num
theorem bits_6 : Ideal.ofBits .f32 0x40C00000#32 = ((6 : ℝ) : EReal) := by
  simp [Ideal.ofBits, Ideal.ieee, -EReal.coe_mul, -EReal.coe_neg]; norm_num
theorem bits_bf_2 : Ideal.ofBits .bf16 0x4000#16 = ((2 : ℝ) : EReal) := by
  simp [Ideal.ofBits, Ideal.ieee, -EReal.coe_mul, -EReal.coe_neg]; norm_num
theorem bits_bf_3 : Ideal.ofBits .bf16 0x4040#16 = ((3 : ℝ) : EReal) := by
  simp [Ideal.ofBits, Ideal.ieee, -EReal.coe_mul, -EReal.coe_neg]; norm_num
theorem bits_bf_4 : Ideal.ofBits .bf16 0x4080#16 = ((4 : ℝ) : EReal) := by
  simp [Ideal.ofBits, Ideal.ieee, -EReal.coe_mul, -EReal.coe_neg]; norm_num
theorem bits_bf_5 : Ideal.ofBits .bf16 0x40A0#16 = ((5 : ℝ) : EReal) := by
  simp [Ideal.ofBits, Ideal.ieee, -EReal.coe_mul, -EReal.coe_neg]; norm_num
theorem bits_bf_6 : Ideal.ofBits .bf16 0x40C0#16 = ((6 : ℝ) : EReal) := by
  simp [Ideal.ofBits, Ideal.ieee, -EReal.coe_mul, -EReal.coe_neg]; norm_num
theorem bits_neg_half : Ideal.ofBits .f32 0xBF000000#32 = ((-(1/2) : ℝ) : EReal) := by
  simp [Ideal.ofBits, Ideal.ieee, -EReal.coe_mul, -EReal.coe_neg]; norm_num

end Cert.Proof.Val
-- ==== Proof.KerHead.lean ====
/-
  The dense call's pooled features, predicted positions and position loss, on the extended reals.
-/
module

public import proofs.«01_k».proof.Proof.KerConv
public import proofs.«01_k».proof.Proof.Consts
public import Idealize.ShloMosaic.Lib.WordCmp

@[expose] public section

noncomputable section

namespace Cert.Proof.Val

open Cert.KernelIdeal Cert.KernelIdeal.Gen
open Idealize.ShloMosaic

/-! ## The head -/

theorem pay24_apply (h : Mat 2048 128) (w1 : Mat 128 128) (b1 : Mat 1 128) (w2 : Mat 128 3) (b2 : Mat 1 3) (i : Fin 2048) (c : Fin 3) :
    k1_pay24 (F := Ideal) h w1 b1 w2 b2 (ix2 i c) = head h w1 (fun k => b1 (ix2 0 k)) w2 (fun k => b2 (ix2 0 k)) (ix2 i c) := by
  pointwise [k1_pay24, head]

theorem pay24_eq (h : Mat 2048 128) (w1 : Mat 128 128) (b1 : Mat 1 128) (w2 : Mat 128 3) (b2 : Mat 1 3) :
    k1_pay24 (F := Ideal) h w1 b1 w2 b2 = head h w1 (fun k => b1 (ix2 0 k)) w2 (fun k => b2 (ix2 0 k)) := by
  funext p
  obtain ⟨i, d, rfl⟩ : ∃ i d, p = ix2 i d := ⟨p 0, p 1, (ix2_eta p).symm⟩
  exact pay24_apply h w1 b1 w2 b2 i d

/-! ## The position loss -/

theorem pay25_apply (h : Mat 2048 128) (w1 : Mat 128 128) (b1 : Mat 1 128) (w2 : Mat 128 3) (b2 : Mat 1 3) (ps : Mat 2048 3) :
    k1_pay25 (F := Ideal) h w1 b1 w2 b2 ps (ix2 0 0) = posLoss (k1_pay24 (F := Ideal) h w1 b1 w2 b2) ps := by
  generalize hz : k1_pay24 (F := Ideal) h w1 b1 w2 b2 = z
  have : k1_pay25 (F := Ideal) h w1 b1 w2 b2 ps (ix2 0 0) = (∑ i : Fin 2048, ∑ c : Fin 3, (z (ix2 i c) - ps (ix2 i c)) * (z (ix2 i c) - ps (ix2 i c)))
      * (Named.named (F := Ideal) κ "inv_6144" (φ := .f32) 0x392AAAAB#32 : EReal) := by
    pointwise [k1_pay25, hz]
  rw [this]
  rfl

/-! ## The pooled features -/

/-- The word of a comparison for equality with a small number, as a number. -/
theorem onehot (b : BitVec 32) (g : Nat) (hg : g < 2048) :
    (FloatOps.sitofp (F := Ideal) .f32 (BitVec.setWidth 32 (IntOp.cmpi .eq b (BitVec.ofNat 32 g))) : EReal) = if b.toInt = (g : Int) then 1 else 0 := by
  have hb : b = BitVec.ofNat 32 g ↔ b.toInt = (g : Int) := by
    rw [← BitVec.toInt_inj, WordCmp.toInt_ofNat_of_lt (by omega)]
  by_cases h : b = BitVec.ofNat 32 g
  · rw [if_pos (hb.mp h)]
    have : IntOp.cmpi .eq b (BitVec.ofNat 32 g) = 1#1 := by rw [h]; exact IntOp.cmpi_eq_self _
    rw [this]
    show (((BitVec.setWidth 32 1#1).toInt : ℝ) : EReal) = 1
    simp
  · rw [if_neg fun q => h (hb.mpr q)]
    have : IntOp.cmpi .eq b (BitVec.ofNat 32 g) = 0#1 := by
      show BitVec.ofBool (b == BitVec.ofNat 32 g) = _
      rw [beq_eq_false_iff_ne.mpr h]; rfl
    rw [this]
    show (((BitVec.setWidth 32 0#1).toInt : ℝ) : EReal) = 0
    simp

theorem pay23_apply (h : Mat 2048 128) (bt : Vec Ideal S1x2048 .i32) (g : Fin 16) (d : Fin 128) :
    k1_pay23 (F := Ideal) h bt (ix2 g d) = pool h (fun n => bt (ix2 0 n)) (ix2 g d) := by
  have hr : k1_pay23 (F := Ideal) h bt (ix2 g d) = Ideal.div
      (∑ n : Fin 2048, (FloatOps.sitofp (F := Ideal) .f32 (BitVec.setWidth 32 (IntOp.cmpi .eq (bt (ix2 0 n)) (BitVec.ofNat 32 g.val))) : EReal) * h (ix2 n d))
      (max (∑ n : Fin 2048, (FloatOps.sitofp (F := Ideal) .f32 (BitVec.setWidth 32 (IntOp.cmpi .eq (bt (ix2 0 n)) (BitVec.ofNat 32 g.val))) : EReal)) 1) := by
    pointwise [k1_pay23]
  have hg : g.val < 2048 := by have := g.isLt; omega
  rw [hr]
  refine congrArg₂ Ideal.div (Finset.sum_congr rfl fun n _ => ?_) (congrArg (fun z : EReal => max z 1) (Finset.sum_congr rfl fun n _ => onehot _ _ hg))
  rw [onehot _ _ hg]
  show _ = if (bt (ix2 0 n) : BitVec 32).toInt = (g.val : Int) then h (ix2 n d) else 0
  split_ifs <;> simp

end Cert.Proof.Val
-- ==== Proof.Graph.lean ====
/-
  Hop counts in an undirected graph, up to six, and the loss over all pairs of nodes: what both programs' last result is, on
  the extended reals.
-/
module

public import proofs.«01_k».proof.Proof.Spec

@[expose] public section

noncomputable section

namespace Cert.Proof.Val

open Idealize.ShloMosaic

open Classical in
/-- The undirected adjacency: one where an edge joins the two nodes, either way. -/
def adjacency (e : EdgeList) : Mat 2048 2048 := fun p =>
  if ∃ k, (dst e k = p 0 ∧ src e k = p 1) ∨ (dst e k = p 1 ∧ src e k = p 0) then 1 else 0

theorem adjacency_of (e : EdgeList) (i j : Fin 2048) (h : ∃ k, (dst e k = i ∧ src e k = j) ∨ (dst e k = j ∧ src e k = i)) : adjacency e (ix2 i j) = 1 := by
  unfold adjacency
  exact if_pos h

theorem adjacency_not (e : EdgeList) (i j : Fin 2048) (h : ¬ ∃ k, (dst e k = i ∧ src e k = j) ∨ (dst e k = j ∧ src e k = i)) : adjacency e (ix2 i j) = 0 := by
  unfold adjacency
  exact if_neg h

theorem adjacency_01 (e : EdgeList) (p) : adjacency e p = 0 ∨ adjacency e p = 1 := by
  unfold adjacency
  split_ifs
  · exact Or.inr rfl
  · exact Or.inl rfl

/-- The first number on the diagonal, the second off it. -/
def onDiag (i j : Fin 2048) (a b : EReal) : EReal := if i = j then a else b

/-- Which nodes are within `n + 1` hops. -/
def reach (A : Mat 2048 2048) : Nat → Mat 2048 2048
  | 0 => fun p => onDiag (p 0) (p 1) 1 (A p)
  | n + 1 => fun p => if 0 < ∑ k : Fin 2048, reach A n (ix2 (p 0) k) * A (ix2 k (p 1)) then 1 else reach A n p

/-- The hop counts up to `n + 1`, infinite beyond. -/
def dist (A : Mat 2048 2048) : Nat → Mat 2048 2048
  | 0 => fun p => onDiag (p 0) (p 1) 0 (if 0 < A p then 1 else ⊤)
  | n + 1 => fun p => if 0 < reach A (n + 1) p ∧ dist A n p = ⊤ then (((n : ℝ) + 2 : ℝ) : EReal) else dist A n p

/-- The square of the distance of two positions. -/
def gap (z : Mat 2048 3) (i j : Fin 2048) : EReal :=
  ∑ c : Fin 3, (z (ix2 i c) - z (ix2 j c)) * (z (ix2 i c) - z (ix2 j c))

/-- One pair's difference of the two similarities. -/
def pairDiff (A : Mat 2048 2048) (z : Mat 2048 3) (i j : Fin 2048) : EReal :=
  Ideal.exp (dist A 5 (ix2 i j) * ((-(1 / 2) : ℝ) : EReal)) - Ideal.exp (-Ideal.sqrt (gap z i j + Ideal.ofBits .f32 0x2B8CBCCC#32))

/-- The loss over all pairs. -/
def manLoss (A : Mat 2048 2048) (z : Mat 2048 3) : EReal := ∑ i : Fin 2048, ∑ j : Fin 2048, pairDiff A z i j * pairDiff A z i j

theorem reach_01 (A : Mat 2048 2048) (hA : ∀ p, A p = 0 ∨ A p = 1) (n : Nat) (p) : reach A n p = 0 ∨ reach A n p = 1 := by
  induction n with
  | zero =>
    unfold reach onDiag
    split_ifs
    · exact Or.inr rfl
    · exact hA p
  | succ n ih =>
    unfold reach
    split_ifs
    · exact Or.inr rfl
    · exact ih

theorem reach_nonneg (A : Mat 2048 2048) (hA : ∀ p, A p = 0 ∨ A p = 1) (n : Nat) (p) : 0 ≤ reach A n p := by
  rcases reach_01 A hA n p with h | h <;> rw [h] <;> simp

/-- A node within reach stays within reach: adding the old reach before the test changes nothing. -/
theorem reach_add (A : Mat 2048 2048) (hA : ∀ p, A p = 0 ∨ A p = 1) (n : Nat) (i j : Fin 2048) :
    (if 0 < (∑ k : Fin 2048, reach A n (ix2 i k) * A (ix2 k j)) + reach A n (ix2 i j) then (1 : EReal) else 0) = reach A (n + 1) (ix2 i j) := by
  have hs : 0 ≤ ∑ k : Fin 2048, reach A n (ix2 i k) * A (ix2 k j) := Finset.sum_nonneg fun k _ =>
    mul_nonneg (reach_nonneg A hA n _) (by rcases hA (ix2 k j) with h | h <;> rw [h] <;> simp)
  show _ = if 0 < ∑ k : Fin 2048, reach A n (ix2 i k) * A (ix2 k j) then (1 : EReal) else reach A n (ix2 i j)
  by_cases h : 0 < ∑ k : Fin 2048, reach A n (ix2 i k) * A (ix2 k j)
  · rw [if_pos h, if_pos (lt_of_lt_of_le h (le_add_of_nonneg_right (reach_nonneg A hA n _)))]
  · have h0 : ∑ k : Fin 2048, reach A n (ix2 i k) * A (ix2 k j) = 0 := le_antisymm (not_lt.mp h) hs
    rw [if_neg h, h0, zero_add]
    rcases reach_01 A hA n (ix2 i j) with q | q <;> rw [q] <;> simp

theorem dist_nonneg (A : Mat 2048 2048) (n : Nat) (p) : 0 ≤ dist A n p := by
  induction n with
  | zero =>
    unfold dist onDiag
    split_ifs <;> simp
  | succ n ih =>
    unfold dist
    split_ifs
    · exact EReal.coe_nonneg.mpr (by positivity)
    · exact ih

/-- A number that is not negative is infinite when its magnitude is. -/
theorem abs_top (d : EReal) (hd : 0 ≤ d) : max d (-d) = ⊤ ↔ d = ⊤ := by
  rw [max_eq_left (le_trans (by simpa using EReal.neg_le_neg_iff.mpr hd) hd)]

/-- A choice by one test. -/
theorem sel_one {α : Type} (p : Prop) [Decidable p] (a b : α) : Scalar.select (BitVec.ofBool (decide p)) a b = if p then a else b := by
  by_cases hp : p <;> simp [hp, Scalar.select]

/-- A choice by two tests at once. -/
theorem sel_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

end Cert.Proof.Val
-- ==== Proof.KerMan.lean ====
/-
  The dense call's loss over all pairs, on the extended reals.
-/
module

public import proofs.«01_k».proof.Proof.KerHead
public import proofs.«01_k».proof.Proof.Graph

@[expose] public section

noncomputable section

namespace Cert.Proof.Val

open Cert.KernelIdeal Cert.KernelIdeal.Gen
open Idealize.ShloMosaic
open Cert.Proof.Edge (outPred tall rows cols colRows rowIx colIx inBlk putRows adj sym manStep manAcc outMan)

/-! ## The adjacency -/

theorem trips_eight : k1_t5_loop.trips = 8 := by decide

theorem pay15_apply (a : Mat 256 2048) (x : Fin 256) (j : Fin 2048) : k1_pay15 (F := Ideal) a (ix2 x j) = if 0 < a (ix2 x j) then 1 else 0 := by
  pointwise [k1_pay15, k1_pay14]
  by_cases h : 0 < a (ix2 x j)
  · rw [if_pos h, decide_eq_true h]
    show (((BitVec.setWidth 32 1#1).toInt : ℝ) : EReal) = 1
    simp
  · rw [if_neg h, decide_eq_false h]
    show (((BitVec.setWidth 32 0#1).toInt : ℝ) : EReal) = 0
    simp

theorem pay27_apply (c : Mat 2048 256) (r : Mat 256 2048) (x : Fin 256) (j : Fin 2048) :
    k1_pay27 (F := Ideal) c r (ix2 x j) = max (r (ix2 x j)) (c (ix2 j x)) := by
  pointwise [k1_pay27]

/-- Row `x` of block `k`, as a row of the whole. -/
abbrev rowOf (k : Fin k1_t5_loop.trips) (x : Fin 256) : Fin 2048 := ⟨256 * k.val + x.val, by have h := lt_of_lt_of_eq k.isLt trips_eight; have := x.isLt; omega⟩

theorem rows_at {C : Nat} {e : EltTy} (f : (Cert.Proof.Edge.SB C).Idx → Elt Ideal e) (k : Fin k1_t5_loop.trips) (x : Fin 256) (d : Fin C) :
    rows (F := Ideal) f k.val (ix2 x d) = f (ix2 (rowOf k x) d) := by
  have : (⟨(256 * k.val + x.val) % 2048, Nat.mod_lt _ (by decide)⟩ : Fin 2048) = rowOf k x := Fin.ext (Nat.mod_eq_of_lt (rowOf k x).isLt)
  exact (congrArg f (edge_ix2 _ d)).trans (congrArg (fun z => f (ix2 z d)) this)

theorem colRows_at (f : Mat 2048 3) (k : Fin k1_t5_loop.trips) (x : Fin 256) (c : Fin 3) :
    colRows (F := Ideal) f k.val c (ix2 x 0) = f (ix2 (rowOf k x) c) := by
  have : (⟨(256 * k.val + x.val) % 2048, Nat.mod_lt _ (by decide)⟩ : Fin 2048) = rowOf k x := Fin.ext (Nat.mod_eq_of_lt (rowOf k x).isLt)
  exact (congrArg f (edge_ix2 _ c)).trans (congrArg (fun z => f (ix2 z c)) this)

/-! ## One block's hop counts -/

section Block

variable (A : Mat 2048 2048) (k : Fin k1_t5_loop.trips) (x : Fin 256)

theorem pay3_apply (j : Fin 2048) : k1_pay3 0#32 1#32 k (ix2 x j) = BitVec.ofBool (decide (rowOf k x = j)) := by
  pointwise [k1_pay3]
  have hk := lt_of_lt_of_eq k.isLt trips_eight
  have hx := x.isLt
  have hj := j.isLt
  rw [WordCmp.cmpi_eq_eq_toNat]
  refine congrArg BitVec.ofBool (decide_eq_decide.mpr ?_)
  have hv : (IntOp.addi (BitVec.ofNat 32 x.val) (Scalar.muli (Scf.iv 0#32 1#32 k.val) 256#32)).toNat = 256 * k.val + x.val := by
    simp only [IntOp.addi, Scalar.muli, IntOp.muli, Scf.iv, BitVec.toNat_add, BitVec.toNat_mul, BitVec.toNat_ofNat]
    omega
  have hw : (BitVec.ofNat 32 j.val).toNat = j.val := by rw [BitVec.toNat_ofNat]; omega
  rw [hv, hw, Fin.ext_iff]

theorem dist_zero (j : Fin 2048) : (if rowOf k x = j then (0 : EReal) else if 0 < A (ix2 (rowOf k x) j) then 1 else ⊤) = dist A 0 (ix2 (rowOf k x) j) := rfl

/-- One step of the distances, with the step's number written as it stands in the kernel. -/
theorem dist_succ (n m : Nat) (hm : m = n + 1) (j : Fin 2048) (v : ℝ) (hv : v = (n : ℝ) + 2)
    {_ : Decidable (0 < reach A m (ix2 (rowOf k x) j) ∧ dist A n (ix2 (rowOf k x) j) = ⊤)} :
    (if 0 < reach A m (ix2 (rowOf k x) j) ∧ dist A n (ix2 (rowOf k x) j) = ⊤ then (v : EReal) else dist A n (ix2 (rowOf k x) j)) = dist A m (ix2 (rowOf k x) j) := by
  subst hm hv
  by_cases h : 0 < reach A (n + 1) (ix2 (rowOf k x) j) ∧ dist A n (ix2 (rowOf k x) j) = ⊤
  · rw [if_pos h]; conv_rhs => unfold dist
    exact (if_pos h).symm
  · rw [if_neg h]; conv_rhs => unfold dist
    exact (if_neg h).symm

theorem pay4_apply (j : Fin 2048) : k1_pay4 (F := Ideal) A (1 : EReal) 0#32 1#32 k (rows (F := Ideal) (e := .bf16) A k.val) (ix2 x j) = reach A 1 (ix2 (rowOf k x) j) := by
  pointwise [k1_pay4]
  simp only [pay3_apply, sel_one, rows_at]
  rfl

theorem pay5_apply (j : Fin 2048) : k1_pay5 (F := Ideal) A (1 : EReal) 0#32 1#32 k (rows (F := Ideal) (e := .bf16) A k.val) (ix2 x j) = reach A 2 (ix2 (rowOf k x) j) := by
  pointwise [k1_pay5]
  simp only [pay4_apply]
  rfl

theorem pay7_apply (j : Fin 2048) : k1_pay7 (F := Ideal) A (1 : EReal) 0#32 1#32 k (rows (F := Ideal) (e := .bf16) A k.val) (ix2 x j)
    = BitVec.ofBool (decide (0 < ∑ l : Fin 2048, reach A 2 (ix2 (rowOf k x) l) * A (ix2 l j))) := by
  pointwise [k1_pay7]
  simp only [pay5_apply]

theorem pay6_apply (j : Fin 2048) : k1_pay6 (F := Ideal) A (1 : EReal) (⊤ : EReal) 0#32 1#32 k (rows (F := Ideal) (e := .bf16) A k.val) (ix2 x j) = dist A 2 (ix2 (rowOf k x) j) := by
  pointwise [k1_pay6]
  simp only [pay3_apply, pay4_apply, pay5_apply, rows_at, sel_one, sel_and, bits_bf_2, bits_bf_3]
  have key : ∀ d : EReal, d = dist A 0 (ix2 (rowOf k x) j) →
      (if 0 < reach A 2 (ix2 (rowOf k x) j) ∧ (if 0 < reach A 1 (ix2 (rowOf k x) j) ∧ d = ⊤ then ((2 : ℝ) : EReal) else d) = ⊤ then ((3 : ℝ) : EReal)
        else if 0 < reach A 1 (ix2 (rowOf k x) j) ∧ d = ⊤ then ((2 : ℝ) : EReal) else d) = dist A 2 (ix2 (rowOf k x) j) := fun d hd => by
    subst hd
    rw [dist_succ A k x 0 1 rfl j 2 (by norm_num), dist_succ A k x 1 2 rfl j 3 (by norm_num)]
  exact key _ rfl

theorem pay9_apply (R S T : Mat 256 2048) (U : IVec S256x2048 1) (hR : ∀ j, R (ix2 x j) = reach A 2 (ix2 (rowOf k x) j))
    (hS : ∀ j, S (ix2 x j) = dist A 2 (ix2 (rowOf k x) j)) (hT : ∀ j, T (ix2 x j) = 1)
    (hU : ∀ j, U (ix2 x j) = BitVec.ofBool (decide (0 < ∑ l : Fin 2048, reach A 2 (ix2 (rowOf k x) l) * A (ix2 l j)))) (j : Fin 2048) :
    k1_pay9 (F := Ideal) A (1 : EReal) (⊤ : EReal) R S U T (ix2 x j) = Ideal.exp (dist A 5 (ix2 (rowOf k x) j) * ((-(1 / 2) : ℝ) : EReal)) := by
  have hr : ∀ (n : Nat) (j : Fin 2048), (if 0 < ∑ l : Fin 2048, reach A n (ix2 (rowOf k x) l) * A (ix2 l j) then (1 : EReal) else reach A n (ix2 (rowOf k x) j)) = reach A (n + 1) (ix2 (rowOf k x) j) := fun _ _ => rfl
  pointwise [k1_pay9]
  simp only [hR, hS, hT, hU, sel_one, sel_and, hr, bits_bf_4, bits_bf_5, bits_bf_6, bits_neg_half, dist_succ A k x 2 3 rfl j 4 (by norm_num), dist_succ A k x 3 4 rfl j 5 (by norm_num), dist_succ A k x 4 5 rfl j 6 (by norm_num)]

/-! ## One block's share of the loss -/

theorem pay1_apply (pt : Mat 3 2048) (s : EReal) (E D0 : Mat 256 2048) (p1 : Mat 256 1) (q1 : Mat 1 2048) (p2 : Mat 256 1) :
    k1_pay1 (F := Ideal) pt s E D0 p1 q1 p2 = s + ∑ x : Fin 256, ∑ j : Fin 2048,
      (E (ix2 x j) - Ideal.exp (-Ideal.sqrt (D0 (ix2 x j) * D0 (ix2 x j) + (p1 (ix2 x 0) - q1 (ix2 0 j)) * (p1 (ix2 x 0) - q1 (ix2 0 j))
          + (p2 (ix2 x 0) - pt (ix2 2 j)) * (p2 (ix2 x 0) - pt (ix2 2 j)) + Ideal.ofBits .f32 0x2B8CBCCC#32)))
        * (E (ix2 x j) - Ideal.exp (-Ideal.sqrt (D0 (ix2 x j) * D0 (ix2 x j) + (p1 (ix2 x 0) - q1 (ix2 0 j)) * (p1 (ix2 x 0) - q1 (ix2 0 j))
          + (p2 (ix2 x 0) - pt (ix2 2 j)) * (p2 (ix2 x 0) - pt (ix2 2 j)) + Ideal.ofBits .f32 0x2B8CBCCC#32))) := by
  pointwise [k1_pay1]
  simp only [zero_sub]

theorem pay10_apply (pt : Mat 3 2048) (p0 : Mat 256 1) (j : Fin 2048) : k1_pay10 (F := Ideal) pt p0 (ix2 x j) = p0 (ix2 x 0) - pt (ix2 0 j) := by
  pointwise [k1_pay10]

theorem pay11_apply (p0 : Mat 256 1) (j : Fin 1) : k1_pay11 (F := Ideal) p0 (ix2 x j) = p0 (ix2 x j) := by
  pointwise [k1_pay11]

theorem pay12_apply (pt : Mat 3 2048) (j : Fin 2048) : k1_pay12 (F := Ideal) pt (ix2 0 j) = pt (ix2 1 j) := by
  pointwise [k1_pay12]

end Block

theorem pay26_apply (h : Mat 2048 128) (w1 : Mat 128 128) (b1 : Mat 1 128) (w2 : Mat 128 3) (b2 : Mat 1 3) (c : Fin 3) (j : Fin 2048) :
    k1_pay26 (F := Ideal) h w1 b1 w2 b2 (ix2 c j) = k1_pay24 (F := Ideal) h w1 b1 w2 b2 (ix2 j c) := by
  pointwise [k1_pay26]

theorem pay2_apply (s : EReal) : k1_pay2 (F := Ideal) s (ix2 0 0) = s := by
  pointwise [k1_pay2]

theorem manStep_eq (A : Mat 2048 2048) (z : Mat 2048 3) (pt : Mat 3 2048) (hpt : ∀ c j, pt (ix2 c j) = z (ix2 j c)) (k : Fin k1_t5_loop.trips) (s : EReal) :
    manStep (F := Ideal) A pt z k s = s + ∑ x : Fin 256, ∑ j : Fin 2048, pairDiff A z (rowOf k x) j * pairDiff A z (rowOf k x) j := by
  have h1 : (Scalar.ofBits .bf16 0x3F80#16 : Ideal .bf16) = (1 : EReal) := Ideal.ofBits_one_bf16
  have h2 : (Scalar.ofBits .bf16 0x7F80#16 : Ideal .bf16) = (⊤ : EReal) := bits_bf_inf
  unfold manStep
  rw [h1, h2]
  refine (pay1_apply ..).trans (congrArg (fun t : EReal => s + t) (Finset.sum_congr rfl fun x _ => Finset.sum_congr rfl fun j _ => ?_))
  rw [pay9_apply A k x _ _ _ _ (pay5_apply A k x) (pay6_apply A k x) (fun _ => rfl) (pay7_apply A k x) j, pay10_apply, pay11_apply, pay12_apply, hpt, hpt, hpt,
    colRows_at, colRows_at, colRows_at]
  unfold pairDiff gap
  rw [Fin.sum_univ_three]

/-- The running sum after `n` blocks. -/
theorem manAcc_eq (A : Mat 2048 2048) (z : Mat 2048 3) (pt : Mat 3 2048) (hpt : ∀ c j, pt (ix2 c j) = z (ix2 j c)) (n : Nat) (hn : n ≤ 8) :
    manAcc (F := Ideal) A pt z n = ∑ k : Fin n, ∑ x : Fin 256, ∑ j : Fin 2048,
      pairDiff A z ⟨256 * k.val + x.val, by have := k.isLt; have := x.isLt; omega⟩ j * pairDiff A z ⟨256 * k.val + x.val, by have := k.isLt; have := x.isLt; omega⟩ j := by
  induction n with
  | zero => exact Ideal.ofBits_zero_f32
  | succ n ih =>
    unfold manAcc
    rw [dif_pos (lt_of_lt_of_eq (Nat.lt_of_succ_le hn) trips_eight.symm), manStep_eq A z pt hpt, ih (by omega)]
    exact (Fin.sum_univ_castSucc (n := n) fun k : Fin (n + 1) => ∑ x : Fin 256, ∑ j : Fin 2048,
      pairDiff A z ⟨256 * k.val + x.val, by have := k.isLt; have := x.isLt; omega⟩ j * pairDiff A z ⟨256 * k.val + x.val, by have := k.isLt; have := x.isLt; omega⟩ j).symm

/-- The sum over all pairs. -/
theorem manAcc_all (A : Mat 2048 2048) (z : Mat 2048 3) (pt : Mat 3 2048) (hpt : ∀ c j, pt (ix2 c j) = z (ix2 j c)) :
    manAcc (F := Ideal) A pt z 8 = manLoss A z := by
  rw [manAcc_eq A z pt hpt 8 le_rfl]
  unfold manLoss
  refine Eq.trans ?_ (Fin.sum_univ_tiles 8 256 (by norm_num) fun i : Fin 2048 => ∑ j : Fin 2048, pairDiff A z i j * pairDiff A z i j).symm
  refine Finset.sum_congr rfl fun k _ => Finset.sum_congr rfl fun x _ => ?_
  have : ∀ h h', (⟨256 * k.val + x.val, h⟩ : Fin 2048) = ⟨k.val * 256 + x.val, h'⟩ := fun _ _ => Fin.ext (by show 256 * k.val + x.val = k.val * 256 + x.val; omega)
  rw [this]

/-! ## The adjacency made undirected -/

theorem sym_apply (a : Mat 2048 2048) (n : Nat) (hn : n ≤ 8) (i j : Fin 2048) :
    sym (F := Ideal) a n (ix2 i j) = if i.val / 256 < n then max (a (ix2 i j)) (a (ix2 j i)) else a (ix2 i j) := by
  induction n generalizing i j with
  | zero => rfl
  | succ n ih =>
    show (if i.val / 256 = n then _ else _) = _
    by_cases h : i.val / 256 = n
    · have hi : (⟨(256 * n + i.val % 256) % 2048, Nat.mod_lt _ (by decide)⟩ : Fin 2048) = i := Fin.ext (by show (256 * n + i.val % 256) % 2048 = i.val; omega)
      rw [if_pos h, if_pos (by omega)]
      refine (congrArg (k1_pay27 (F := Ideal) _ _) (edge_ix2 (⟨i.val % 256, Nat.mod_lt _ (by decide)⟩ : Fin 256) j)).trans ((pay27_apply ..).trans ?_)
      have e1 : rows (F := Ideal) (e := .bf16) (sym (F := Ideal) a n) n (ix2 ⟨i.val % 256, Nat.mod_lt _ (by decide)⟩ j) = sym (F := Ideal) a n (ix2 i j) :=
        (congrArg _ (edge_ix2 _ j)).trans (congrArg (fun z => sym (F := Ideal) a n (ix2 z j)) hi)
      have e2 : cols (F := Ideal) (e := .bf16) (sym (F := Ideal) a n) n (ix2 j ⟨i.val % 256, Nat.mod_lt _ (by decide)⟩) = sym (F := Ideal) a n (ix2 j i) :=
        (congrArg _ (edge_ix2 j _)).trans (congrArg (fun z => sym (F := Ideal) a n (ix2 j z)) hi)
      rw [e1, e2, ih (by omega), ih (by omega), if_neg (by omega)]
      split_ifs
      · rw [max_comm (a (ix2 j i)), ← max_assoc, max_self]
      · rfl
    · rw [if_neg h, ih (by omega)]
      by_cases h2 : i.val / 256 < n
      · rw [if_pos h2, if_pos (by omega)]
      · rw [if_neg h2, if_neg (by omega)]

/-- The undirected adjacency the dense call works with. -/
theorem sym_adj (e : EdgeList) (mt : Mat 2048 2048) (hmt : ∀ i j, mt (ix2 i j) = cnt e i j) : sym (F := Ideal) (adj (F := Ideal) mt) 8 = adjacency e := by
  have ha : ∀ i j, adj (F := Ideal) mt (ix2 i j) = if 0 < cnt e i j then (1 : EReal) else 0 := fun i j => by
    refine (tall_apply _ i j).trans ((pay15_apply ..).trans ?_)
    rw [rows_apply, hmt]
  have hp : ∀ i j : Fin 2048, sym (F := Ideal) (adj (F := Ideal) mt) 8 (ix2 i j) = adjacency e (ix2 i j) := fun i j => by
    rw [sym_apply _ 8 le_rfl, if_pos (by omega), ha, ha]
    by_cases h1 : 0 < cnt e i j
    · obtain ⟨k, hk⟩ := (cnt_pos e i j).mp h1
      rw [if_pos h1, adjacency_of e i j ⟨k, Or.inl hk⟩]
      exact max_eq_left (by split_ifs <;> simp)
    · by_cases h2 : 0 < cnt e j i
      · obtain ⟨k, hk⟩ := (cnt_pos e j i).mp h2
        rw [if_neg h1, if_pos h2, adjacency_of e i j ⟨k, Or.inr hk⟩]
        exact max_eq_right (by simp)
      · rw [if_neg h1, if_neg h2, max_self]
        refine (adjacency_not e i j ?_).symm
        rintro ⟨k, hk | hk⟩
        · exact h1 ((cnt_pos e i j).mpr ⟨k, hk⟩)
        · exact h2 ((cnt_pos e j i).mpr ⟨k, hk⟩)
  funext p
  exact (congrArg _ (ix2_eta p).symm).trans ((hp _ _).trans (congrArg _ (ix2_eta p)))

/-- The dense call's loss over all pairs. -/
theorem outMan_eq (e : EdgeList) (mt : Mat 2048 2048) (hmt : ∀ i j, mt (ix2 i j) = cnt e i j) (x : Mat 2048 128) (gw : Vec Ideal S3x128x128 .f32) (gb : Mat 3 128)
    (w1 : Mat 128 128) (b1 : Mat 1 128) (w2 : Mat 128 3) (b2 : Mat 1 3) :
    outMan (F := Ideal) mt x gw gb w1 b1 w2 b2 (ix2 0 0) = manLoss (adjacency e) (outPred (F := Ideal) mt x gw gb w1 b1 w2 b2) := by
  refine (pay2_apply _).trans ?_
  rw [sym_adj e mt hmt]
  exact manAcc_all _ _ _ fun c j => pay26_apply ..

end Cert.Proof.Val
-- ==== Proof.KerVals.lean ====
/-
  What the program's four results hold at the return, on the extended reals, as functions of its arguments.
-/
module

public import proofs.«01_k».proof.Proof.Main
public import proofs.«01_k».proof.Proof.Counts
public import proofs.«01_k».proof.Proof.KerMan

@[expose] public section

noncomputable section

namespace Cert.Proof.Val

open Cert.KernelIdeal Cert.KernelIdeal.Gen
open Idealize.ShloMosaic
open Idealize.ShloMosaic.SparseCore (T)
open Cert.Proof.Edge hiding ix2 ix2_eta

variable (m : (ℓ : Loc nD τ sig) → Buf (Elt Ideal) ℓ) (d : Dev nD)

/-! ## The reshapes at the TensorCore call's entry -/

theorem V2_v1 : V2 (F := Ideal) m d main_v1 = shapeCast S2048x2048 (countsOf m d) shapeCasts_S4194304_S2048x2048 := by
  unfold V2 W2
  rw [StableHlo.after_cons, StableHlo.after_cons, StableHlo.after_cons, StableHlo.after_cons, StableHlo.after_nil, StableHlo.reshape_result_ne _ _ _ _ _ _ _ (by decide),
    StableHlo.reshape_result_ne _ _ _ _ _ _ _ (by decide), StableHlo.reshape_result_ne _ _ _ _ _ _ _ (by decide)]
  refine (StableHlo.reshape_result _ _ _ _ _ _ _).trans ?_
  unfold W1
  exact congrArg (fun z => shapeCast S2048x2048 z shapeCasts_S4194304_S2048x2048) (Function.update_self (dv main_v0) (countsOf m d) (W0 m d))

theorem V2_v2 : V2 (F := Ideal) m d main_v2 = shapeCast S1x128 (m ((T d : Thread nD τ).loc main_arg5)) shapeCasts_S128_S1x128 := by
  unfold V2 W2
  rw [StableHlo.after_cons, StableHlo.after_cons, StableHlo.after_cons, StableHlo.after_cons, StableHlo.after_nil, StableHlo.reshape_result_ne _ _ _ _ _ _ _ (by decide),
    StableHlo.reshape_result_ne _ _ _ _ _ _ _ (by decide)]
  refine (StableHlo.reshape_result _ _ _ _ _ _ _).trans ?_
  rw [StableHlo.reshape_result_ne _ _ _ _ _ _ _ (by decide)]
  exact congrArg (fun z => shapeCast S1x128 z shapeCasts_S128_S1x128) (W1_ne m d main_arg5 (by decide))

theorem V2_v3 : V2 (F := Ideal) m d main_v3 = shapeCast S1x3 (m ((T d : Thread nD τ).loc main_arg7)) shapeCasts_S3_S1x3 := by
  unfold V2 W2
  rw [StableHlo.after_cons, StableHlo.after_cons, StableHlo.after_cons, StableHlo.after_cons, StableHlo.after_nil, StableHlo.reshape_result_ne _ _ _ _ _ _ _ (by decide)]
  refine (StableHlo.reshape_result _ _ _ _ _ _ _).trans ?_
  rw [StableHlo.reshape_result_ne _ _ _ _ _ _ _ (by decide), StableHlo.reshape_result_ne _ _ _ _ _ _ _ (by decide)]
  exact congrArg (fun z => shapeCast S1x3 z shapeCasts_S3_S1x3) (W1_ne m d main_arg7 (by decide))

theorem V2_v4 : V2 (F := Ideal) m d main_v4 = shapeCast S1x2048 (m ((T d : Thread nD τ).loc main_arg9)) shapeCasts_S2048_S1x2048 := by
  unfold V2 W2
  rw [StableHlo.after_cons, StableHlo.after_cons, StableHlo.after_cons, StableHlo.after_cons, StableHlo.after_nil]
  refine (StableHlo.reshape_result _ _ _ _ _ _ _).trans ?_
  rw [StableHlo.reshape_result_ne _ _ _ _ _ _ _ (by decide), StableHlo.reshape_result_ne _ _ _ _ _ _ _ (by decide), StableHlo.reshape_result_ne _ _ _ _ _ _ _ (by decide)]
  exact congrArg (fun z => shapeCast S1x2048 z shapeCasts_S2048_S1x2048) (W1_ne m d main_arg9 (by decide))

theorem square_apply (f : Vec Ideal S4194304 .f32) (i j : Fin 2048) :
    shapeCast S2048x2048 f shapeCasts_S4194304_S2048x2048 (ix2 i j) = f (ix1 ⟨i.val * 2048 + j.val, by have := i.isLt; have := j.isLt; omega⟩) := by
  pointwise

theorem mt_apply (hin : InRange (edges m d)) (i j : Fin 2048) : v_mt (V2 (F := Ideal) m) d (ix2 i j) = cnt (edges m d) i j := by
  refine (congrFun (V2_v1 m d) _).trans ((square_apply _ i j).trans ?_)
  exact counts_apply (edges m d) hin _ i j rfl

theorem b1_apply (k : Fin 128) : v_b1 (V2 (F := Ideal) m) d (ix2 0 k) = m ((T d : Thread nD τ).loc main_arg5) (ix1 k) := by
  refine (congrFun (V2_v2 m d) _).trans ?_
  generalize m ((T d : Thread nD τ).loc main_arg5) = f
  change Vec Ideal S128 .f32 at f
  change shapeCast S1x128 f shapeCasts_S128_S1x128 (ix2 0 k) = f (ix1 k)
  pointwise

theorem b2_apply (k : Fin 3) : v_b2 (V2 (F := Ideal) m) d (ix2 0 k) = m ((T d : Thread nD τ).loc main_arg7) (ix1 k) := by
  refine (congrFun (V2_v3 m d) _).trans ?_
  generalize m ((T d : Thread nD τ).loc main_arg7) = f
  change Vec Ideal S3 .f32 at f
  change shapeCast S1x3 f shapeCasts_S3_S1x3 (ix2 0 k) = f (ix1 k)
  pointwise

theorem bt_apply (k : Fin 2048) : v_bt (V2 (F := Ideal) m) d (ix2 0 k) = m ((T d : Thread nD τ).loc main_arg9) (ix1 k) := by
  refine (congrFun (V2_v4 m d) _).trans ?_
  generalize m ((T d : Thread nD τ).loc main_arg9) = f
  change Vec Ideal S2048 .i32 at f
  change shapeCast S1x2048 f shapeCasts_S2048_S1x2048 (ix2 0 k) = f (ix1 k)
  pointwise

/-! ## The results as functions of the arguments -/

/-- The features after the three layers. -/
def featsOf : Mat 2048 128 :=
  feats (edges m d) (m ((T d : Thread nD τ).loc main_arg0)) (m ((T d : Thread nD τ).loc main_arg2)) (m ((T d : Thread nD τ).loc main_arg3))

/-- The predicted positions. -/
def predOf : Mat 2048 3 :=
  head (featsOf m d) (m ((T d : Thread nD τ).loc main_arg4)) (fun k => m ((T d : Thread nD τ).loc main_arg5) (ix1 k))
    (m ((T d : Thread nD τ).loc main_arg6)) (fun k => m ((T d : Thread nD τ).loc main_arg7) (ix1 k))

variable (hin : InRange (edges m d))
include hin

theorem h3_featsOf : Edge.h3 (F := Ideal) (v_mt (V2 m) d) (v_x (V2 m) d) (v_gw (V2 m) d) (v_gb (V2 m) d) = featsOf m d := by
  have h := h3_eq (edges m d) (v_mt (V2 m) d) (mt_apply m d hin) (v_x (V2 m) d) (v_gw (V2 m) d) (v_gb (V2 m) d)
  have hx : v_x (V2 (F := Ideal) m) d = m ((T d : Thread nD τ).loc main_arg0) := W2_arg m d main_arg0 (by decide)
  have hw : v_gw (V2 (F := Ideal) m) d = m ((T d : Thread nD τ).loc main_arg2) := W2_arg m d main_arg2 (by decide)
  have hb : v_gb (V2 (F := Ideal) m) d = m ((T d : Thread nD τ).loc main_arg3) := W2_arg m d main_arg3 (by decide)
  refine h.trans ?_
  unfold featsOf
  rw [hx, hw, hb]

theorem outPred_predOf : r_pred (V2 (F := Ideal) m) d = predOf m d := by
  unfold r_pred outPred
  rw [h3_featsOf m d hin]
  refine (pay24_eq ..).trans ?_
  have h1 : v_w1 (V2 (F := Ideal) m) d = m ((T d : Thread nD τ).loc main_arg4) := W2_arg m d main_arg4 (by decide)
  have h2 : v_w2 (V2 (F := Ideal) m) d = m ((T d : Thread nD τ).loc main_arg6) := W2_arg m d main_arg6 (by decide)
  unfold predOf
  rw [h1, h2, funext (b1_apply m d), funext (b2_apply m d)]

theorem pred_at_end : W4 (F := Ideal) m d (dv main_v5_0) = predOf m d := by
  rw [W4_ne m d main_v5_0 (by decide) (by decide)]
  exact (W3_pred m d).trans (outPred_predOf m d hin)

theorem gf_at_end : W4 (F := Ideal) m d (dv main_v5_1) = pool (featsOf m d) (fun n => m ((T d : Thread nD τ).loc main_arg9) (ix1 n)) := by
  rw [W4_ne m d main_v5_1 (by decide) (by decide)]
  refine (W3_gf m d).trans ?_
  unfold r_gf outGf
  rw [h3_featsOf m d hin]
  funext p
  obtain ⟨g, c, rfl⟩ : ∃ g c, p = ix2 g c := ⟨p 0, p 1, (ix2_eta p).symm⟩
  refine (pay23_apply (featsOf m d) (v_bt (V2 m) d) g c).trans ?_
  rw [funext (bt_apply m d)]

theorem pos_at_end (p : S_.Idx) : W4 (F := Ideal) m d (dv main_v6) p = posLoss (predOf m d) (m ((T d : Thread nD τ).loc main_arg1)) := by
  have h : W4 (F := Ideal) m d (dv main_v6) = shapeCast S_ (r_pos (V2 (F := Ideal) m) d) shapeCasts_S1x1_S_ := by
    unfold W4
    rw [StableHlo.after_cons, StableHlo.after_cons, StableHlo.after_nil, StableHlo.reshape_result_ne _ _ _ _ _ _ _ (by decide)]
    refine (StableHlo.reshape_result _ _ _ _ _ _ _).trans ?_
    exact congrArg (fun z => shapeCast S_ z shapeCasts_S1x1_S_) (W3_pos m d)
  have hs : ∀ f : Vec Ideal S1x1 .f32, shapeCast S_ f shapeCasts_S1x1_S_ p = f (ix2 0 0) := fun f => by pointwise
  refine (congrFun h p).trans ((hs _).trans ?_)
  unfold r_pos outPos
  refine (pay25_apply ..).trans ?_
  refine congrArg₂ posLoss (outPred_predOf m d hin) ?_
  exact W2_arg m d main_arg1 (by decide)

theorem man_at_end (p : S_.Idx) : W4 (F := Ideal) m d (dv main_v7) p = manLoss (adjacency (edges m d)) (predOf m d) := by
  have h : W4 (F := Ideal) m d (dv main_v7) = shapeCast S_ (r_man (V2 (F := Ideal) m) d) shapeCasts_S1x1_S_ := by
    unfold W4
    rw [StableHlo.after_cons, StableHlo.after_cons, StableHlo.after_nil]
    refine (StableHlo.reshape_result _ _ _ _ _ _ _).trans ?_
    rw [StableHlo.reshape_result_ne _ _ _ _ _ _ _ (by decide)]
    exact congrArg (fun z => shapeCast S_ z shapeCasts_S1x1_S_) (W3_man m d)
  have hs : ∀ f : Vec Ideal S1x1 .f32, shapeCast S_ f shapeCasts_S1x1_S_ p = f (ix2 0 0) := fun f => by pointwise
  refine (congrFun h p).trans ((hs _).trans ?_)
  refine (outMan_eq (edges m d) (v_mt (V2 m) d) (mt_apply m d hin) (v_x (V2 m) d) (v_gw (V2 m) d) (v_gb (V2 m) d) (v_w1 (V2 m) d) (v_b1 (V2 m) d) (v_w2 (V2 m) d)
    (v_b2 (V2 m) d)).trans ?_
  exact congrArg (manLoss _) (outPred_predOf m d hin)

end Cert.Proof.Val
-- ==== Proof.RefOps.lean ====
/-
  The reference's scatters and gathers over the edge list, read at an element on the extended reals.
-/
module

public import proofs.«01_k».proof.Defs
public import proofs.«01_k».proof.Proof.Gen.ReferenceIdeal
public import proofs.«01_k».proof.Proof.Spec
public import Idealize.ShloMosaic.Lib.Routing.OpsPair
public import Idealize.ShloMosaic.Lib.Routing.OpsSet

@[expose] public section

noncomputable section

namespace Cert.Proof.Val

open Cert.ReferenceIdeal Cert.ReferenceIdeal.Gen
open Idealize.ShloMosaic

/-- A sum over a part of an index set, with the part's condition inside. -/
theorem scatterAdd_apply {s si u : Shape} (d : ScatterDims s si u) (x : FVec Ideal s .f32) (idx : IVec si 32) (upd : FVec Ideal u .f32) (i : s.Idx) :
    Host.scatterAdd d x idx upd i = (x i : EReal) + ∑ k : u.Idx, if d.resultIdx? k idx = some i then (upd k : EReal) else 0 := by
  show Ideal.hostScatterAdd d x idx upd i = _
  unfold Ideal.hostScatterAdd
  rw [Finset.sum_filter]

/-! ## A vector's scatter: one index word, one element -/

theorem lands_deg (k : Fin 32768) (idx : IVec S32768x1 32) (i : Fin 2048) :
    scatter_S2048_S32768x1_S32768_n_0_0_1.resultIdx? (ix1 k) idx = some (ix1 i) ↔ (idx (ix2 k 0)).toInt = (i.val : Int) := by
  have hs : scatter_S2048_S32768x1_S32768_n_0_0_1.siIdx (ix1 k) ⟨0, by decide⟩ = ix2 k 0 := funext fun a => match a with
    | 0 => rfl
    | 1 => rfl
  have h0 : scatter_S2048_S32768x1_S32768_n_0_0_1.start (ix1 k) idx 0 = (idx (ix2 k 0)).toInt := congrArg (fun z => (idx z).toInt) hs
  have hw : scatter_S2048_S32768x1_S32768_n_0_0_1.window (ix1 k) 0 = 0 := rfl
  rw [ix1_eq_valueIdx i, Routing.resultIdx?_ix1, h0, hw]; simp

theorem lands_num (k : Fin 2048) (idx : IVec S2048x1 32) (i : Fin 16) :
    scatter_S16_S2048x1_S2048_n_0_0_1.resultIdx? (ix1 k) idx = some (ix1 i) ↔ (idx (ix2 k 0)).toInt = (i.val : Int) := by
  have hs : scatter_S16_S2048x1_S2048_n_0_0_1.siIdx (ix1 k) ⟨0, by decide⟩ = ix2 k 0 := funext fun a => match a with
    | 0 => rfl
    | 1 => rfl
  have h0 : scatter_S16_S2048x1_S2048_n_0_0_1.start (ix1 k) idx 0 = (idx (ix2 k 0)).toInt := congrArg (fun z => (idx z).toInt) hs
  have hw : scatter_S16_S2048x1_S2048_n_0_0_1.window (ix1 k) 0 = 0 := rfl
  rw [ix1_eq_valueIdx i, Routing.resultIdx?_ix1, h0, hw]; simp

/-! ## A matrix's scatter: one index word, one row -/

theorem lands_agg (k : Fin 32768) (c : Fin 128) (idx : IVec S32768x1 32) (i : Fin 2048) (d : Fin 128) :
    scatter_S2048x128_S32768x1_S32768x128_1_0_0_1.resultIdx? (ix2 k c) idx = some (ix2 i d) ↔ (idx (ix2 k 0)).toInt = (i.val : Int) ∧ c = d := by
  have hs : scatter_S2048x128_S32768x1_S32768x128_1_0_0_1.siIdx (ix2 k c) ⟨0, by decide⟩ = ix2 k 0 := funext fun a => match a with
    | 0 => rfl
    | 1 => rfl
  have h0 : scatter_S2048x128_S32768x1_S32768x128_1_0_0_1.start (ix2 k c) idx 0 = (idx (ix2 k 0)).toInt := congrArg (fun z => (idx z).toInt) hs
  have h1 : scatter_S2048x128_S32768x1_S32768x128_1_0_0_1.start (ix2 k c) idx 1 = 0 := rfl
  have w0 : scatter_S2048x128_S32768x1_S32768x128_1_0_0_1.window (ix2 k c) 0 = 0 := rfl
  have w1 : scatter_S2048x128_S32768x1_S32768x128_1_0_0_1.window (ix2 k c) 1 = c.val := rfl
  rw [ix2_eq_valueIdx i d, Routing.resultIdx?_ix2, h0, h1, w0, w1, Fin.ext_iff]
  constructor <;> intro h <;> omega

theorem lands_pool (k : Fin 2048) (c : Fin 128) (idx : IVec S2048x1 32) (i : Fin 16) (d : Fin 128) :
    scatter_S16x128_S2048x1_S2048x128_1_0_0_1.resultIdx? (ix2 k c) idx = some (ix2 i d) ↔ (idx (ix2 k 0)).toInt = (i.val : Int) ∧ c = d := by
  have hs : scatter_S16x128_S2048x1_S2048x128_1_0_0_1.siIdx (ix2 k c) ⟨0, by decide⟩ = ix2 k 0 := funext fun a => match a with
    | 0 => rfl
    | 1 => rfl
  have h0 : scatter_S16x128_S2048x1_S2048x128_1_0_0_1.start (ix2 k c) idx 0 = (idx (ix2 k 0)).toInt := congrArg (fun z => (idx z).toInt) hs
  have h1 : scatter_S16x128_S2048x1_S2048x128_1_0_0_1.start (ix2 k c) idx 1 = 0 := rfl
  have w0 : scatter_S16x128_S2048x1_S2048x128_1_0_0_1.window (ix2 k c) 0 = 0 := rfl
  have w1 : scatter_S16x128_S2048x1_S2048x128_1_0_0_1.window (ix2 k c) 1 = c.val := rfl
  rw [ix2_eq_valueIdx i d, Routing.resultIdx?_ix2, h0, h1, w0, w1, Fin.ext_iff]
  constructor <;> intro h <;> omega

/-! ## The adjacency's scatter: two index words, one element -/

theorem lands_adj (k : Fin 32768) (idx : IVec S32768x2 32) (i j : Fin 2048) :
    scatter_S2048x2048_S32768x2_S32768_n_01_01_1.resultIdx? (ix1 k) idx = some (ix2 i j)
      ↔ (idx (ix2 k 0)).toInt = (i.val : Int) ∧ (idx (ix2 k 1)).toInt = (j.val : Int) := by
  have hs : scatter_S2048x2048_S32768x2_S32768_n_01_01_1.siIdx (ix1 k) ⟨0, by decide⟩ = ix2 k 0 := funext fun a => match a with
    | 0 => rfl
    | 1 => rfl
  have ht : scatter_S2048x2048_S32768x2_S32768_n_01_01_1.siIdx (ix1 k) ⟨1, by decide⟩ = ix2 k 1 := funext fun a => match a with
    | 0 => rfl
    | 1 => rfl
  have h0 : scatter_S2048x2048_S32768x2_S32768_n_01_01_1.start (ix1 k) idx 0 = (idx (ix2 k 0)).toInt := congrArg (fun z => (idx z).toInt) hs
  have h1 : scatter_S2048x2048_S32768x2_S32768_n_01_01_1.start (ix1 k) idx 1 = (idx (ix2 k 1)).toInt := congrArg (fun z => (idx z).toInt) ht
  have w0 : scatter_S2048x2048_S32768x2_S32768_n_01_01_1.window (ix1 k) 0 = 0 := rfl
  have w1 : scatter_S2048x2048_S32768x2_S32768_n_01_01_1.window (ix1 k) 1 = 0 := rfl
  rw [ix2_eq_valueIdx i j, Routing.resultIdx?_ix2, h0, h1, w0, w1]; simp

end Cert.Proof.Val
-- ==== Proof.RefConv.lean ====
/-
  The reference's mean over a node and its edges, and its layers, on the extended reals.
-/
module

public import proofs.«01_k».proof.Proof.RefOps
public import proofs.«01_k».proof.Proof.Gen.ReferenceIdeal.Run

@[expose] public section

noncomputable section

namespace Cert.Proof.Val

open Cert.ReferenceIdeal Cert.ReferenceIdeal.Gen
open Cert.ReferenceIdeal.Value
open Idealize.ShloMosaic

/-- Index words as a column, negative ones counted from the end. -/
def wrapCol (v : IVec S32768 32) : IVec S32768x1 32 :=
  broadcastInDim S32768x1 ![0] bcast_S32768_S32768x1_0 (select (cmpi .slt v (broadcastInDim S32768 ![] bcast_S_S32768 (constantI S_ 32 0#32)))
    (addi v (broadcastInDim S32768 ![] bcast_S_S32768 (constantI S_ 32 2048#32))) v)

theorem wrapCol_apply (v : IVec S32768 32) (k : Fin 32768) (h : (v (ix1 k)).toNat < 2048) : wrapCol v (ix2 k 0) = v (ix1 k) := by
  have hr : wrapCol v (ix2 k 0) = Scalar.select (IntOp.cmpi .slt (v (ix1 k)) 0#32) (IntOp.addi (v (ix1 k)) 2048#32) (v (ix1 k)) := by
    pointwise [wrapCol]
  rw [hr]
  exact Routing.wrap_of_lt _ _ (by omega)

variable (V : Valuation τ sig (Elt Ideal))

/-- The edge list among the arguments. -/
abbrev edgesOf : EdgeList := V (Proc.devRef .tc main_arg8)

theorem v1_apply (k : Fin 32768) : res_main_v1 V (ix1 k) = edgesOf V (ix2 0 k) := by
  pointwise [res_main_v1]

theorem v3_apply (k : Fin 32768) : res_main_v3 V (ix1 k) = edgesOf V (ix2 1 k) := by
  pointwise [res_main_v3]

section Mean

variable (hin : ∀ p, (edgesOf V p).toNat < 2048)
include hin

theorem src_word (k : Fin 32768) : wrapCol (res_main_v1 V) (ix2 k 0) = BitVec.ofNat 32 (src (edgesOf V) k).val := by
  have hk : (res_main_v1 V (ix1 k) : BitVec 32).toNat < 2048 := by rw [v1_apply]; exact hin _
  rw [wrapCol_apply _ _ hk]
  refine BitVec.eq_of_toNat_eq ?_
  have h1 := hin (ix2 0 k)
  rw [v1_apply, BitVec.toNat_ofNat]
  show _ = ((edgesOf V (ix2 0 k)).toNat % 2048) % 2 ^ 32
  omega

theorem dst_word (k : Fin 32768) : (wrapCol (res_main_v3 V) (ix2 k 0)).toInt = ((dst (edgesOf V) k).val : Int) := by
  have hk : (res_main_v3 V (ix1 k) : BitVec 32).toNat < 2048 := by rw [v3_apply]; exact hin _
  have h1 := hin (ix2 1 k)
  rw [wrapCol_apply _ _ hk, v3_apply, BitVec.toInt_eq_toNat_of_lt (by omega)]
  show _ = (((edgesOf V (ix2 1 k)).toNat % 2048 : Nat) : Int)
  omega

theorem v14_apply (i : Fin 2048) : res_main_v14 V (ix1 i) = deg (edgesOf V) i + 1 := by
  have h : res_main_v14 V (ix1 i) = (Host.scatterAdd scatter_S2048_S32768x1_S32768_n_0_0_1 (broadcastInDim S2048 ![] bcast_S_S2048 (constant (F := Ideal) S_ .f32 0x00000000#32))
      (wrapCol (res_main_v3 V)) (broadcastInDim S32768 ![] bcast_S_S32768 (constant (F := Ideal) S_ .f32 0x3F800000#32)) (ix1 i) : EReal) + 1 := by
    pointwise [res_main_v14, wrapCol]
  rw [h, scatterAdd_apply, sum_idx1]
  have h0 : (broadcastInDim S2048 ![] bcast_S_S2048 (constant (F := Ideal) S_ .f32 0x00000000#32) (ix1 i) : EReal) = 0 := by pointwise
  have h1 : ∀ k : Fin 32768, (broadcastInDim S32768 ![] bcast_S_S32768 (constant (F := Ideal) S_ .f32 0x3F800000#32) (ix1 k) : EReal) = 1 := fun k => by pointwise
  rw [h0, zero_add]
  unfold deg
  refine congrArg (fun z : EReal => z + 1) (Finset.sum_congr rfl fun k _ => ?_)
  rw [h1]
  refine if_congr ?_ rfl rfl
  rw [lands_deg, dst_word V hin, Fin.ext_iff]; omega

/-- The rows of a matrix that the sources name. -/
theorem gather_apply (h : Mat 2048 128) (k : Fin 32768) (d : Fin 128) :
    Host.gather gather_S2048x128_S32768x1_S32768x128_1_0_n_n_0_1_1128 h (wrapCol (res_main_v1 V)) (ix2 k d) = h (ix2 (src (edgesOf V) k) d) := by
  rw [ix2_eq_valueIdx, ix2_eq_valueIdx]
  exact Routing.gather_row gather_S2048x128_S32768x1_S32768x128_1_0_n_n_0_1_1128 rfl rfl rfl rfl rfl h _ k d _ (src_word V hin k) (by decide)

theorem agg_apply (h : Mat 2048 128) (i : Fin 2048) (d : Fin 128) :
    (Host.scatterAdd scatter_S2048x128_S32768x1_S32768x128_1_0_0_1 (broadcastInDim S2048x128 ![] bcast_S_S2048x128 (constant (F := Ideal) S_ .f32 0x00000000#32))
      (wrapCol (res_main_v3 V)) (Host.gather gather_S2048x128_S32768x1_S32768x128_1_0_n_n_0_1_1128 h (wrapCol (res_main_v1 V)) : FVec Ideal S32768x128 .f32) (ix2 i d) : EReal) = agg (edgesOf V) h i d := by
  have h0 : (broadcastInDim S2048x128 ![] bcast_S_S2048x128 (constant (F := Ideal) S_ .f32 0x00000000#32) (ix2 i d) : EReal) = 0 := by pointwise
  rw [scatterAdd_apply, h0, zero_add, sum_idx2]
  unfold agg
  refine Finset.sum_congr rfl fun k _ => ?_
  have hk : ∀ c : Fin 128, (if scatter_S2048x128_S32768x1_S32768x128_1_0_0_1.resultIdx? (ix2 k c) (wrapCol (res_main_v3 V)) = some (ix2 i d)
        then (Host.gather gather_S2048x128_S32768x1_S32768x128_1_0_n_n_0_1_1128 h (wrapCol (res_main_v1 V)) (ix2 k c) : EReal) else 0)
      = if c = d then (if dst (edgesOf V) k = i then h (ix2 (src (edgesOf V) k) d) else 0) else 0 := fun c => by
    rw [gather_apply V hin]
    by_cases hc : c = d
    · subst hc
      rw [if_pos rfl]
      refine if_congr ?_ rfl rfl
      rw [lands_agg, dst_word V hin, Fin.ext_iff]; omega
    · rw [if_neg hc, if_neg]
      rw [lands_agg]; exact fun q => hc q.2
  refine (Finset.sum_congr rfl fun c _ => hk c).trans ?_
  rw [Finset.sum_ite_eq' Finset.univ d, if_pos (Finset.mem_univ _)]

/-- The reference's mean over a node and its edges. -/
def refMean (h : Vec Ideal S2048x128 .f32) : Vec Ideal S2048x128 .f32 :=
  Host.divf (addf h (Host.scatterAdd scatter_S2048x128_S32768x1_S32768x128_1_0_0_1 (broadcastInDim S2048x128 ![] bcast_S_S2048x128 (constant S_ .f32 0x00000000#32))
      (wrapCol (res_main_v3 V)) (Host.gather gather_S2048x128_S32768x1_S32768x128_1_0_n_n_0_1_1128 h (wrapCol (res_main_v1 V)))))
    (broadcastInDim S2048x128 ![0, 1] bcast_S2048x1_S2048x128_0_1 (broadcastInDim S2048x1 ![0] bcast_S2048_S2048x1_0 (res_main_v14 V)))

theorem refMean_eq (h : Mat 2048 128) : refMean V h = mean (edgesOf V) h := by
  funext p
  obtain ⟨i, d, rfl⟩ : ∃ i d, p = ix2 i d := ⟨p 0, p 1, (ix2_eta p).symm⟩
  have hr : refMean V h (ix2 i d) = Ideal.div (h (ix2 i d) + (Host.scatterAdd scatter_S2048x128_S32768x1_S32768x128_1_0_0_1 (broadcastInDim S2048x128 ![] bcast_S_S2048x128 (constant (F := Ideal) S_ .f32 0x00000000#32))
      (wrapCol (res_main_v3 V)) (Host.gather gather_S2048x128_S32768x1_S32768x128_1_0_n_n_0_1_1128 h (wrapCol (res_main_v1 V)) : FVec Ideal S32768x128 .f32) (ix2 i d) : EReal)) (res_main_v14 V (ix1 i)) := by
    pointwise [refMean]
  rw [hr, agg_apply V hin, v14_apply V hin]; rfl

/-! ## The layers -/

theorem v42_eq : res_main_v42 V = relu (layer (edgesOf V) (V (Proc.devRef .tc main_arg2)) (V (Proc.devRef .tc main_arg3)) 0 (V (Proc.devRef .tc main_arg0))) := by
  funext p
  obtain ⟨i, d, rfl⟩ : ∃ i d, p = ix2 i d := ⟨p 0, p 1, (ix2_eta p).symm⟩
  have hr : res_main_v42 V (ix2 i d) = max ((∑ k : Fin 128, refMean V (V (Proc.devRef .tc main_arg0)) (ix2 i k) * V (Proc.devRef .tc main_arg2) (ix3 0 k d)) + V (Proc.devRef .tc main_arg3) (ix2 0 d)) 0 := by
    change (maximumf (addf (Host.dotGeneral (F := Ideal) dot_S2048x128_S128x128_S2048x128_1_0_0_1_n_n none (refMean V (V (Proc.devRef .tc main_arg0))) _) _) _ : FVec Ideal S2048x128 .f32) (ix2 i d) = _
    pointwise
  rw [hr, refMean_eq V hin]; rfl

theorem v70_eq : res_main_v70 V = relu (layer (edgesOf V) (V (Proc.devRef .tc main_arg2)) (V (Proc.devRef .tc main_arg3)) 1 (res_main_v42 V)) := by
  funext p
  obtain ⟨i, d, rfl⟩ : ∃ i d, p = ix2 i d := ⟨p 0, p 1, (ix2_eta p).symm⟩
  have hr : res_main_v70 V (ix2 i d) = max ((∑ k : Fin 128, refMean V (res_main_v42 V) (ix2 i k) * V (Proc.devRef .tc main_arg2) (ix3 1 k d)) + V (Proc.devRef .tc main_arg3) (ix2 1 d)) 0 := by
    change (maximumf (addf (Host.dotGeneral (F := Ideal) dot_S2048x128_S128x128_S2048x128_1_0_0_1_n_n none (refMean V (res_main_v42 V)) _) _) _ : FVec Ideal S2048x128 .f32) (ix2 i d) = _
    pointwise
  rw [hr, refMean_eq V hin]; rfl

theorem v97_eq : res_main_v97 V = feats (edgesOf V) (V (Proc.devRef .tc main_arg0)) (V (Proc.devRef .tc main_arg2)) (V (Proc.devRef .tc main_arg3)) := by
  unfold feats
  rw [← v42_eq V hin, ← v70_eq V hin]
  funext p
  obtain ⟨i, d, rfl⟩ : ∃ i d, p = ix2 i d := ⟨p 0, p 1, (ix2_eta p).symm⟩
  have hr : res_main_v97 V (ix2 i d) = (∑ k : Fin 128, refMean V (res_main_v70 V) (ix2 i k) * V (Proc.devRef .tc main_arg2) (ix3 2 k d)) + V (Proc.devRef .tc main_arg3) (ix2 2 d) := by
    change (addf (Host.dotGeneral (F := Ideal) dot_S2048x128_S128x128_S2048x128_1_0_0_1_n_n none (refMean V (res_main_v70 V)) _) _ : FVec Ideal S2048x128 .f32) (ix2 i d) = _
    pointwise
  rw [hr, refMean_eq V hin]; rfl

end Mean

end Cert.Proof.Val
-- ==== Proof.RefHead.lean ====
/-
  The reference's pooled features, predicted positions and position loss, on the extended reals.
-/
module

public import proofs.«01_k».proof.Proof.RefConv
public import proofs.«01_k».proof.Proof.Consts

@[expose] public section

noncomputable section

namespace Cert.Proof.Val

open Cert.ReferenceIdeal Cert.ReferenceIdeal.Gen
open Cert.ReferenceIdeal.Value
open Idealize.ShloMosaic

variable (V : Valuation τ sig (Elt Ideal))

/-- The positions the reference predicts. -/
theorem v207_eq : res_main_v207 V = head (res_main_v97 V) (V (Proc.devRef .tc main_arg4)) (fun k => V (Proc.devRef .tc main_arg5) (ix1 k))
    (V (Proc.devRef .tc main_arg6)) (fun k => V (Proc.devRef .tc main_arg7) (ix1 k)) := by
  funext p
  obtain ⟨i, d, rfl⟩ : ∃ i d, p = ix2 i d := ⟨p 0, p 1, (ix2_eta p).symm⟩
  pointwise [res_main_v207, head]

/-- The reference's position loss. -/
theorem v225_eq (j : S_.Idx) : Host.divf (F := Ideal) (Host.reduceAdd (mulf (res_main_v222 V) (res_main_v222 V)) (constant S_ .f32 0x00000000#32) reducesTo_S2048x3_S_d0_1 h_S_)
      (constant S_ .f32 0x45C00000#32) j = posLoss (res_main_v207 V) (V (Proc.devRef .tc main_arg1)) := by
  unfold res_main_v222
  generalize res_main_v207 V = z
  generalize V (Proc.devRef .tc main_arg1) = ps
  change Mat 2048 3 at z
  change Mat 2048 3 at ps
  have hr : Host.divf (F := Ideal) (Host.reduceAdd (mulf (subf z ps) (subf z ps)) (constant S_ .f32 0x00000000#32) reducesTo_S2048x3_S_d0_1 h_S_)
      (constant S_ .f32 0x45C00000#32) j = Ideal.div (∑ i : Fin 2048, ∑ c : Fin 3, (z (ix2 i c) - ps (ix2 i c)) * (z (ix2 i c) - ps (ix2 i c))) (Ideal.ofBits .f32 0x45C00000#32) := by
    pointwise
  refine hr.trans ?_
  rw [bits_6144]
  unfold posLoss Ideal.div
  rw [if_neg (by simp), ← EReal.coe_inv]

/-- The graph numbers as a column of index words. -/
def graphCol (bt : IVec S2048 32) : IVec S2048x1 32 := broadcastInDim S2048x1 ![0] bcast_S2048_S2048x1_0 bt

theorem graphCol_apply (bt : IVec S2048 32) (n : Fin 2048) : graphCol bt (ix2 n 0) = bt (ix1 n) := by
  pointwise [graphCol]

theorem pool_sum (z : Mat 2048 128) (bt : IVec S2048 32) (g : Fin 16) (d : Fin 128) :
    (Host.scatterAdd (F := Ideal) scatter_S16x128_S2048x1_S2048x128_1_0_0_1 (broadcastInDim S16x128 ![] bcast_S_S16x128 (constant S_ .f32 0x00000000#32)) (graphCol bt) z (ix2 g d) : EReal)
      = ∑ n : Fin 2048, if (bt (ix1 n)).toInt = (g.val : Int) then z (ix2 n d) else 0 := by
  have h0 : (broadcastInDim S16x128 ![] bcast_S_S16x128 (constant (F := Ideal) S_ .f32 0x00000000#32) (ix2 g d) : EReal) = 0 := by pointwise
  rw [scatterAdd_apply, h0, zero_add, sum_idx2]
  refine Finset.sum_congr rfl fun n _ => ?_
  refine (Finset.sum_congr rfl fun c _ => if_congr (lands_pool n c _ g d) rfl rfl).trans ?_
  rw [graphCol_apply]
  by_cases hn : (bt (ix1 n)).toInt = (g.val : Int)
  · simp [hn]
  · simp [hn]

theorem pool_num (bt : IVec S2048 32) (g : Fin 16) :
    (Host.scatterAdd (F := Ideal) scatter_S16_S2048x1_S2048_n_0_0_1 (broadcastInDim S16 ![] bcast_S_S16 (constant S_ .f32 0x00000000#32)) (graphCol bt)
      (broadcastInDim S2048 ![] bcast_S_S2048 (constant S_ .f32 0x3F800000#32)) (ix1 g) : EReal)
      = ∑ n : Fin 2048, if (bt (ix1 n)).toInt = (g.val : Int) then 1 else 0 := by
  have h0 : (broadcastInDim S16 ![] bcast_S_S16 (constant (F := Ideal) S_ .f32 0x00000000#32) (ix1 g) : EReal) = 0 := by pointwise
  have h1 : ∀ k : Fin 2048, (broadcastInDim S2048 ![] bcast_S_S2048 (constant (F := Ideal) S_ .f32 0x3F800000#32) (ix1 k) : EReal) = 1 := fun k => by pointwise
  rw [scatterAdd_apply, h0, zero_add, sum_idx1]
  refine Finset.sum_congr rfl fun n _ => ?_
  rw [h1]
  refine if_congr ?_ rfl rfl
  rw [lands_num, graphCol_apply]

/-- The reference's pooled features. -/
theorem pool_eq (z : Vec Ideal S2048x128 .f32) (bt : IVec S2048 32) :
    Host.divf (F := Ideal) (Host.scatterAdd scatter_S16x128_S2048x1_S2048x128_1_0_0_1 (broadcastInDim S16x128 ![] bcast_S_S16x128 (constant S_ .f32 0x00000000#32))
      (broadcastInDim S2048x1 ![0] bcast_S2048_S2048x1_0 bt) z)
      (broadcastInDim S16x128 ![0, 1] bcast_S16x1_S16x128_0_1 (broadcastInDim S16x1 ![0] bcast_S16_S16x1_0 (maximumf (Host.scatterAdd scatter_S16_S2048x1_S2048_n_0_0_1
        (broadcastInDim S16 ![] bcast_S_S16 (constant S_ .f32 0x00000000#32)) (broadcastInDim S2048x1 ![0] bcast_S2048_S2048x1_0 bt)
        (broadcastInDim S2048 ![] bcast_S_S2048 (constant S_ .f32 0x3F800000#32))) (broadcastInDim S16 ![] bcast_S_S16 (constant S_ .f32 0x3F800000#32)))))
      = pool z (fun n => bt (ix1 n)) := by
  funext p
  obtain ⟨g, d, rfl⟩ : ∃ i d, p = ix2 i d := ⟨p 0, p 1, (ix2_eta p).symm⟩
  refine Eq.trans (b := Ideal.div (Host.scatterAdd (F := Ideal) scatter_S16x128_S2048x1_S2048x128_1_0_0_1 (broadcastInDim S16x128 ![] bcast_S_S16x128 (constant S_ .f32 0x00000000#32)) (graphCol bt) z (ix2 g d) : EReal)
    (max (Host.scatterAdd (F := Ideal) scatter_S16_S2048x1_S2048_n_0_0_1 (broadcastInDim S16 ![] bcast_S_S16 (constant S_ .f32 0x00000000#32)) (graphCol bt)
      (broadcastInDim S2048 ![] bcast_S_S2048 (constant S_ .f32 0x3F800000#32)) (ix1 g) : EReal) 1)) ?_ ?_
  · pointwise [graphCol]
  · rw [pool_num]
    refine (congrArg (fun w : EReal => Ideal.div w _) (pool_sum z bt g d)).trans ?_
    rfl

end Cert.Proof.Val
-- ==== Proof.RefMan.lean ====
/-
  The reference's loss over all pairs, on the extended reals.
-/
module

public import proofs.«01_k».proof.Proof.RefHead
public import proofs.«01_k».proof.Proof.Graph
public import Idealize.ShloMosaic.Lib.WordCmp

@[expose] public section

noncomputable section

namespace Cert.Proof.Val

open Cert.ReferenceIdeal Cert.ReferenceIdeal.Gen
open Cert.ReferenceIdeal.Value
open Idealize.ShloMosaic

variable (V : Valuation τ sig (Elt Ideal))

/-! ## The adjacency -/

/-- Two columns of index words side by side. -/
def twoCols (a b : IVec S32768x1 32) : IVec S32768x2 32 :=
  concatenate S32768x2 1 [⟨S32768x1, a⟩, ⟨S32768x1, b⟩] concatenates_S32768x1_S32768x1_S32768x2_d1

theorem twoCols_left (a b : IVec S32768x1 32) (k : Fin 32768) : twoCols a b (ix2 k 0) = a (ix2 k 0) := by
  pointwise [twoCols]

theorem twoCols_right (a b : IVec S32768x1 32) (k : Fin 32768) : twoCols a b (ix2 k 1) = b (ix2 k 0) := by
  pointwise [twoCols]

/-- The directed adjacency: ones written at the edges. -/
def ones (idx : IVec S32768x2 32) : Mat 2048 2048 :=
  Host.scatter scatter_S2048x2048_S32768x2_S32768_n_01_01_1 (fun _ b => b) (broadcastInDim S2048x2048 ![] bcast_S_S2048x2048 (constant (F := Ideal) S_ .f32 0x00000000#32)) idx
    (broadcastInDim S32768 ![] bcast_S_S32768 (constant (F := Ideal) S_ .f32 0x3F800000#32))

theorem ones_hit (idx : IVec S32768x2 32) (i j : Fin 2048) (k : Fin 32768) (h : (idx (ix2 k 0)).toInt = (i.val : Int) ∧ (idx (ix2 k 1)).toInt = (j.val : Int)) :
    ones idx (ix2 i j) = 1 := by
  refine Routing.scatter_set_hit _ _ _ _ _ (1 : EReal) (fun q _ => ?_) (ix1 k) ((lands_adj k idx i j).mpr h)
  pointwise

theorem ones_miss (idx : IVec S32768x2 32) (i j : Fin 2048) (h : ∀ k : Fin 32768, ¬ ((idx (ix2 k 0)).toInt = (i.val : Int) ∧ (idx (ix2 k 1)).toInt = (j.val : Int))) :
    ones idx (ix2 i j) = 0 := by
  refine (Routing.scatter_set_miss _ _ _ _ _ fun q hq => ?_).trans ?_
  · obtain ⟨k, rfl⟩ : ∃ k, q = ix1 k := ⟨q 0, funext fun a => match a with | 0 => rfl⟩
    exact h k ((lands_adj k idx i j).mp hq)
  · pointwise

/-- The reference's directed adjacency. -/
def dirAdj : Mat 2048 2048 := ones (twoCols (wrapCol (res_main_v111 V)) (wrapCol (res_main_v113 V)))

section Adj

variable (hin : ∀ p, (edgesOf V p).toNat < 2048)
include hin

theorem src_word' (k : Fin 32768) : (wrapCol (res_main_v111 V) (ix2 k 0)).toInt = ((src (edgesOf V) k).val : Int) := by
  have h1 := hin (ix2 0 k)
  refine (congrArg BitVec.toInt (src_word V hin k)).trans (WordCmp.toInt_ofNat_of_lt ?_)
  have := (src (edgesOf V) k).isLt
  omega

theorem dst_word' (k : Fin 32768) : (wrapCol (res_main_v113 V) (ix2 k 0)).toInt = ((dst (edgesOf V) k).val : Int) := dst_word V hin k

theorem v131_eq : res_main_v131 V = adjacency (edgesOf V) := by
  have hh : ∀ i j k, src (edgesOf V) k = i ∧ dst (edgesOf V) k = j → dirAdj V (ix2 i j) = 1 := fun i j k h => by
    refine ones_hit _ i j k ?_
    rw [twoCols_left, twoCols_right, src_word' V hin, dst_word' V hin, h.1, h.2]
    exact ⟨rfl, rfl⟩
  have hm : ∀ i j, (∀ k, ¬ (src (edgesOf V) k = i ∧ dst (edgesOf V) k = j)) → dirAdj V (ix2 i j) = 0 := fun i j h => by
    refine ones_miss _ i j fun k q => h k ?_
    rw [twoCols_left, twoCols_right, src_word' V hin, dst_word' V hin] at q
    exact ⟨Fin.ext (by omega), Fin.ext (by omega)⟩
  have hr : ∀ i j, res_main_v131 V (ix2 i j) = max (dirAdj V (ix2 i j)) (dirAdj V (ix2 j i)) := fun i j => by
    change maximumf (F := Ideal) (dirAdj V) (transpose S2048x2048 [1, 0] (dirAdj V) transposes_S2048x2048_S2048x2048_1_0) (ix2 i j) = _
    generalize dirAdj V = B
    pointwise
  funext p
  obtain ⟨i, j, rfl⟩ : ∃ i j, p = ix2 i j := ⟨p 0, p 1, (ix2_eta p).symm⟩
  rw [hr]
  by_cases h1 : ∃ k, src (edgesOf V) k = i ∧ dst (edgesOf V) k = j
  · obtain ⟨k, hk⟩ := h1
    rw [hh i j k hk, adjacency_of _ i j ⟨k, Or.inr ⟨hk.2, hk.1⟩⟩]
    by_cases h2 : ∃ k, src (edgesOf V) k = j ∧ dst (edgesOf V) k = i
    · obtain ⟨l, hl⟩ := h2
      rw [hh j i l hl, max_self]
    · rw [hm j i fun l q => h2 ⟨l, q⟩]; exact max_eq_left (α := EReal) zero_le_one
  · rw [hm i j fun l q => h1 ⟨l, q⟩]
    by_cases h2 : ∃ k, src (edgesOf V) k = j ∧ dst (edgesOf V) k = i
    · obtain ⟨l, hl⟩ := h2
      rw [hh j i l hl, adjacency_of _ i j ⟨l, Or.inl ⟨hl.2, hl.1⟩⟩]; exact max_eq_right (α := EReal) zero_le_one
    · rw [hm j i fun l q => h2 ⟨l, q⟩, max_self]
      refine (adjacency_not _ i j ?_).symm
      rintro ⟨l, q | q⟩
      · exact h2 ⟨l, q.2, q.1⟩
      · exact h1 ⟨l, q.2, q.1⟩

end Adj

/-! ## One hop more -/

theorem bit_val (p : Prop) [Decidable p] : (FloatOps.uitofp (F := Ideal) .f32 (BitVec.ofBool (decide p)) : EReal) = if p then 1 else 0 := by
  by_cases h : p
  · rw [if_pos h, decide_eq_true h]
    show (((1#1).toNat : ℝ) : EReal) = 1
    simp
  · rw [if_neg h, decide_eq_false h]
    show (((0#1).toNat : ℝ) : EReal) = 0
    simp

/-- The reference's step of the reach. -/
def refReach (R A : FVec Ideal S2048x2048 .f32) : FVec Ideal S2048x2048 .f32 :=
  uitofp .f32 (cmpf .ogt (addf (Host.dotGeneral dot_S2048x2048_S2048x2048_S2048x2048_1_0_0_1_n_n none R A) R) (broadcastInDim S2048x2048 ![] bcast_S_S2048x2048 (constant S_ .f32 0x00000000#32)))

theorem refReach_eq (A : Mat 2048 2048) (hA : ∀ p, A p = 0 ∨ A p = 1) (n : Nat) : refReach (reach A n) A = reach A (n + 1) := by
  funext p
  obtain ⟨i, j, rfl⟩ : ∃ i j, p = ix2 i j := ⟨p 0, p 1, (ix2_eta p).symm⟩
  refine Eq.trans ?_ (reach_add A hA n i j)
  generalize reach A n = R
  pointwise [refReach]
  exact bit_val (0 < (∑ k, R (ix2 i k) * A (ix2 k j)) + R (ix2 i j))

/-- The reference's step of the hop counts. -/
def refDist (R D : FVec Ideal S2048x2048 .f32) (c : BitVec 32) : FVec Ideal S2048x2048 .f32 :=
  select (andi (cmpf .ogt R (broadcastInDim S2048x2048 ![] bcast_S_S2048x2048 (constant S_ .f32 0x00000000#32)))
    (cmpf .oeq (Host.absf D) (broadcastInDim S2048x2048 ![] bcast_S_S2048x2048 (constant S_ .f32 0x7F800000#32)))) (broadcastInDim S2048x2048 ![] bcast_S_S2048x2048 (constant S_ .f32 c)) D

theorem refDist_apply (R D : Mat 2048 2048) (c : BitVec 32) (i j : Fin 2048) :
    refDist R D c (ix2 i j) = if 0 < R (ix2 i j) ∧ max (D (ix2 i j)) (-D (ix2 i j)) = ⊤ then Ideal.ofBits .f32 c else D (ix2 i j) := by
  pointwise [refDist]
  rw [bits_inf]
  exact sel_and ..

theorem refDist_eq (A : Mat 2048 2048) (n : Nat) (c : BitVec 32) (v : ℝ) (hc : Ideal.ofBits .f32 c = (v : EReal)) (hv : v = (n : ℝ) + 2) :
    refDist (reach A (n + 1)) (dist A n) c = dist A (n + 1) := by
  funext p
  obtain ⟨i, j, rfl⟩ : ∃ i j, p = ix2 i j := ⟨p 0, p 1, (ix2_eta p).symm⟩
  rw [refDist_apply, hc, hv]
  conv_rhs => unfold dist
  have h : max (dist A n (ix2 i j)) (-dist A n (ix2 i j)) = ⊤ ↔ dist A n (ix2 i j) = ⊤ := abs_top _ (dist_nonneg A n _)
  exact if_congr (and_congr_right' h) rfl rfl

/-! ## No hop and one -/

theorem v137_apply (i j : Fin 2048) : res_main_v137 V (ix2 i j) = if i = j then (1 : EReal) else 0 := by
  pointwise [res_main_v137]
  have hi := i.isLt
  have hj := j.isLt
  rw [WordCmp.cmpi_eq_eq_toNat]
  refine (bit_val _).trans (if_congr ?_ rfl rfl)
  simp only [IntOp.addi, BitVec.toNat_add, BitVec.toNat_ofNat, Fin.ext_iff]
  omega

/-- The reference's nodes within one hop. -/
def refReach0 (A E : FVec Ideal S2048x2048 .f32) : FVec Ideal S2048x2048 .f32 := maximumf A E

/-- The reference's hop counts up to one. -/
def refDist0 (A E : FVec Ideal S2048x2048 .f32) : FVec Ideal S2048x2048 .f32 :=
  select (cmpf .ogt E (broadcastInDim S2048x2048 ![] bcast_S_S2048x2048 (constant S_ .f32 0x00000000#32))) (broadcastInDim S2048x2048 ![] bcast_S_S2048x2048 (constant S_ .f32 0x00000000#32)) (select (cmpf .ogt A (broadcastInDim S2048x2048 ![] bcast_S_S2048x2048 (constant S_ .f32 0x00000000#32))) (broadcastInDim S2048x2048 ![] bcast_S_S2048x2048 (constant S_ .f32 0x3F800000#32)) (broadcastInDim S2048x2048 ![] bcast_S_S2048x2048 (constant S_ .f32 0x7F800000#32)))

theorem refReach0_eq (A E : Mat 2048 2048) (hA : ∀ p, A p = 0 ∨ A p = 1) (hE : ∀ i j, E (ix2 i j) = if i = j then 1 else 0) : refReach0 A E = reach A 0 := by
  funext p
  obtain ⟨i, j, rfl⟩ : ∃ i j, p = ix2 i j := ⟨p 0, p 1, (ix2_eta p).symm⟩
  have hr : refReach0 A E (ix2 i j) = max (A (ix2 i j)) (E (ix2 i j)) := by pointwise [refReach0]
  rw [hr, hE]
  show _ = onDiag i j 1 (A (ix2 i j))
  unfold onDiag
  by_cases h : i = j
  · rw [if_pos h, if_pos h]
    rcases hA (ix2 i j) with q | q <;> rw [q] <;> simp
  · rw [if_neg h, if_neg h]
    rcases hA (ix2 i j) with q | q <;> rw [q] <;> simp

theorem refDist0_eq (A E : Mat 2048 2048) (hE : ∀ i j, E (ix2 i j) = if i = j then 1 else 0) : refDist0 A E = dist A 0 := by
  funext p
  obtain ⟨i, j, rfl⟩ : ∃ i j, p = ix2 i j := ⟨p 0, p 1, (ix2_eta p).symm⟩
  have hr : refDist0 A E (ix2 i j) = if 0 < E (ix2 i j) then 0 else if 0 < A (ix2 i j) then 1 else ⊤ := by
    pointwise [refDist0]
    rw [bits_inf]
  rw [hr, hE]
  show _ = onDiag i j 0 (if 0 < A (ix2 i j) then 1 else ⊤)
  unfold onDiag
  by_cases h : i = j
  · rw [if_pos h, if_pos h, if_pos (by simp)]
  · rw [if_neg h, if_neg h, if_neg (by simp)]

/-! ## The loss -/

/-- The reference's differences of the two similarities. -/
def refDiff (D : FVec Ideal S2048x2048 .f32) (z : FVec Ideal S2048x3 .f32) : FVec Ideal S2048x2048 .f32 :=
  let G : FVec Ideal S2048x2048x3 .f32 := subf (broadcastInDim S2048x2048x3 ![0, 1, 2] bcast_S2048x1x3_S2048x2048x3_0_1_2 (broadcastInDim S2048x1x3 ![0, 2] bcast_S2048x3_S2048x1x3_0_2 z)) (broadcastInDim S2048x2048x3 ![0, 1, 2] bcast_S1x2048x3_S2048x2048x3_0_1_2 (broadcastInDim S1x2048x3 ![1, 2] bcast_S2048x3_S1x2048x3_1_2 z))
  subf (Host.exp (Host.divf (Host.negf D) (broadcastInDim S2048x2048 ![] bcast_S_S2048x2048 (constant S_ .f32 0x40000000#32))))
    (Host.exp (Host.divf (Host.negf (Host.sqrt (addf (Host.reduceAdd (mulf G G) (constant S_ .f32 0x00000000#32) reducesTo_S2048x2048x3_S2048x2048_d2 h_S_) (broadcastInDim S2048x2048 ![] bcast_S_S2048x2048 (constant S_ .f32 0x2B8CBCCC#32))))) (broadcastInDim S2048x2048 ![] bcast_S_S2048x2048 (constant S_ .f32 0x3F800000#32))))

theorem half (d : EReal) : Ideal.div (-d) ((2 : ℝ) : EReal) = d * ((-(1 / 2) : ℝ) : EReal) := by
  unfold Ideal.div
  rw [if_neg (by simp), ← EReal.coe_inv, EReal.neg_mul, ← mul_neg, ← EReal.coe_neg]
  norm_num

theorem whole (d : EReal) : Ideal.div d 1 = d := by
  unfold Ideal.div
  rw [if_neg one_ne_zero, ← EReal.coe_one, ← EReal.coe_inv]
  simp

theorem refDiff_apply (D : Mat 2048 2048) (z : Mat 2048 3) (i j : Fin 2048) :
    refDiff D z (ix2 i j) = Ideal.exp (D (ix2 i j) * ((-(1 / 2) : ℝ) : EReal)) - Ideal.exp (-Ideal.sqrt (gap z i j + Ideal.ofBits .f32 0x2B8CBCCC#32)) := by
  pointwise [refDiff]
  rw [bits_2, half, whole]
  rfl

theorem refLoss_eq (P : Mat 2048 2048) (j : S_.Idx) :
    Host.reduceAdd (F := Ideal) (mulf P P) (constant S_ .f32 0x00000000#32) reducesTo_S2048x2048_S_d0_1 h_S_ j = ∑ i : Fin 2048, ∑ j : Fin 2048, P (ix2 i j) * P (ix2 i j) := by
  pointwise

/-- The reference's loss over all pairs. -/
theorem v229_eq (hin : ∀ p, (edgesOf V p).toNat < 2048) (j : S_.Idx) :
    Host.reduceAdd (F := Ideal) (mulf (res_main_v227 V) (res_main_v227 V)) (constant S_ .f32 0x00000000#32) reducesTo_S2048x2048_S_d0_1 h_S_ j
      = manLoss (adjacency (edgesOf V)) (res_main_v207 V) := by
  have hA := adjacency_01 (edgesOf V)
  have r0 : res_main_v144 V = reach (adjacency (edgesOf V)) 0 := by
    rw [← v131_eq V hin] at hA ⊢
    exact refReach0_eq _ _ hA (v137_apply V)
  have d0 : res_main_v143 V = dist (adjacency (edgesOf V)) 0 := by
    rw [← v131_eq V hin]
    exact refDist0_eq _ _ (v137_apply V)
  have rs : ∀ n R, R = reach (adjacency (edgesOf V)) n → refReach R (res_main_v131 V) = reach (adjacency (edgesOf V)) (n + 1) := fun n R h => by
    rw [h, v131_eq V hin]; exact refReach_eq _ hA n
  have r1 : res_main_v149 V = reach (adjacency (edgesOf V)) 1 := rs 0 _ r0
  have r2 : res_main_v159 V = reach (adjacency (edgesOf V)) 2 := rs 1 _ r1
  have r3 : res_main_v169 V = reach (adjacency (edgesOf V)) 3 := rs 2 _ r2
  have r4 : res_main_v179 V = reach (adjacency (edgesOf V)) 4 := rs 3 _ r3
  have r5 : refReach (res_main_v179 V) (res_main_v131 V) = reach (adjacency (edgesOf V)) 5 := rs 4 _ r4
  have ds : ∀ n R D (c : BitVec 32) (v : ℝ), R = reach (adjacency (edgesOf V)) (n + 1) → D = dist (adjacency (edgesOf V)) n → Ideal.ofBits .f32 c = (v : EReal) → v = (n : ℝ) + 2 →
      refDist R D c = dist (adjacency (edgesOf V)) (n + 1) := fun n R D c v h1 h2 hc hv => by
    rw [h1, h2]; exact refDist_eq _ n c v hc hv
  have d1 : res_main_v154 V = dist (adjacency (edgesOf V)) 1 := ds 0 _ _ _ 2 r1 d0 bits_2 (by norm_num)
  have d2 : res_main_v164 V = dist (adjacency (edgesOf V)) 2 := ds 1 _ _ _ 3 r2 d1 bits_3 (by norm_num)
  have d3 : res_main_v174 V = dist (adjacency (edgesOf V)) 3 := ds 2 _ _ _ 4 r3 d2 bits_4 (by norm_num)
  have d4 : res_main_v184 V = dist (adjacency (edgesOf V)) 4 := ds 3 _ _ _ 5 r4 d3 bits_5 (by norm_num)
  have d5 : refDist (refReach (res_main_v179 V) (res_main_v131 V)) (res_main_v184 V) 0x40C00000#32 = dist (adjacency (edgesOf V)) 5 := ds 4 _ _ _ 6 r5 d4 bits_6 (by norm_num)
  have h : res_main_v227 V = refDiff (dist (adjacency (edgesOf V)) 5) (res_main_v207 V) := by
    rw [← d5]; rfl
  rw [h]
  refine (refLoss_eq _ j).trans ?_
  unfold manLoss
  refine Finset.sum_congr rfl fun i _ => Finset.sum_congr rfl fun j _ => ?_
  rw [refDiff_apply]
  rfl

end Cert.Proof.Val
-- ==== Proof.Algebraic.lean ====
/-
  The program and the reference, on the extended reals: equal results from equal arguments.
-/
module

public import proofs.«01_k».proof.Defs
public import proofs.«01_k».proof.Proof.Frames
public import proofs.«01_k».proof.Proof.KerVals
public import proofs.«01_k».proof.Proof.RefMan

@[expose] public section

noncomputable section

namespace Cert.Proof.Val

open Idealize.ShloMosaic Idealize.SL.Sem
open Cert.Proof.Edge (PreOK InRange edges ok_ideal preFacts run_main W4 dv W4_arg)

/-! ## The two runs side by side -/

section Sides

/-- The reference's arguments at the launch. -/
abbrev refArgs (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := StableHlo.launchContents m' c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launches hold the same arguments. -/
structure Same : Prop where
  a0 : refArgs m' c (Proc.devRef .tc Cert.ReferenceIdeal.main_arg0) = m ((c.tc : Thread Cert.KernelIdeal.nD Cert.KernelIdeal.τ).loc Cert.KernelIdeal.main_arg0)
  a1 : refArgs m' c (Proc.devRef .tc Cert.ReferenceIdeal.main_arg1) = m ((c.tc : Thread Cert.KernelIdeal.nD Cert.KernelIdeal.τ).loc Cert.KernelIdeal.main_arg1)
  a2 : refArgs m' c (Proc.devRef .tc Cert.ReferenceIdeal.main_arg2) = m ((c.tc : Thread Cert.KernelIdeal.nD Cert.KernelIdeal.τ).loc Cert.KernelIdeal.main_arg2)
  a3 : refArgs m' c (Proc.devRef .tc Cert.ReferenceIdeal.main_arg3) = m ((c.tc : Thread Cert.KernelIdeal.nD Cert.KernelIdeal.τ).loc Cert.KernelIdeal.main_arg3)
  a4 : refArgs m' c (Proc.devRef .tc Cert.ReferenceIdeal.main_arg4) = m ((c.tc : Thread Cert.KernelIdeal.nD Cert.KernelIdeal.τ).loc Cert.KernelIdeal.main_arg4)
  a5 : refArgs m' c (Proc.devRef .tc Cert.ReferenceIdeal.main_arg5) = m ((c.tc : Thread Cert.KernelIdeal.nD Cert.KernelIdeal.τ).loc Cert.KernelIdeal.main_arg5)
  a6 : refArgs m' c (Proc.devRef .tc Cert.ReferenceIdeal.main_arg6) = m ((c.tc : Thread Cert.KernelIdeal.nD Cert.KernelIdeal.τ).loc Cert.KernelIdeal.main_arg6)
  a7 : refArgs m' c (Proc.devRef .tc Cert.ReferenceIdeal.main_arg7) = m ((c.tc : Thread Cert.KernelIdeal.nD Cert.KernelIdeal.τ).loc Cert.KernelIdeal.main_arg7)
  a8 : edgesOf (refArgs m' c) = edges m c
  a9 : refArgs m' c (Proc.devRef .tc Cert.ReferenceIdeal.main_arg9) = m ((c.tc : Thread Cert.KernelIdeal.nD Cert.KernelIdeal.τ).loc Cert.KernelIdeal.main_arg9)

variable {m m' c} (S : Same m m' c) (hin : InRange (edges m c))
include S hin

theorem ref_in : ∀ p, (edgesOf (refArgs m' c) p).toNat < 2048 := by
  rw [S.a8]; exact hin

theorem ref_feats : Cert.ReferenceIdeal.Value.res_main_v97 (refArgs m' c) = featsOf m c := by
  rw [v97_eq _ (ref_in S hin), S.a8, S.a0, S.a2, S.a3]; rfl

theorem ref_predOf : Cert.ReferenceIdeal.Value.res_main_v207 (refArgs m' c) = predOf m c := by
  rw [v207_eq, ref_feats S hin, S.a4, S.a5, S.a6, S.a7]; rfl

end Sides

/-- The reference ends with its arguments unchanged, the index range assumed. -/
theorem frame_ref_pre : Cert.quiescent_ReferenceIdeal_pre_edges_in_range (hReferenceIdeal := Cert.ReferenceIdeal.Gen.facts) := by
  intro m g _
  exact (θ_run Cert.ReferenceIdeal.defs _ _).mono (fun r h => ⟨fun c => (h c).2.2.2.2, sem_eq_zero_of_no_sems (by decide) r.2⟩)
    (Cert.ReferenceIdeal.Value.run m g)

/-- On the extended reals the program and the reference end with the same four results when they start with the same arguments. -/
theorem algebraic : Cert.algebraic_KernelIdeal_ReferenceIdeal (hReferenceIdeal := Cert.ReferenceIdeal.Gen.facts) := by
  intro m g m' g' hpre hargs
  have hok := ok_ideal m hpre
  have hS : ∀ c, Same m m' c := fun c => by
    obtain ⟨h0, h1, h2, h3, h4, h5, h6, h7, h8, h9⟩ := hargs c
    exact ⟨h0, h1, h2, h3, h4, h5, h6, h7, h8, h9⟩
  refine ⟨fun c => predOf m c, fun c => pool (featsOf m c) (fun n => m ((c.tc : Thread Cert.KernelIdeal.nD Cert.KernelIdeal.τ).loc Cert.KernelIdeal.main_arg9) (ix1 n)),
    fun c _ => posLoss (predOf m c) (m ((c.tc : Thread Cert.KernelIdeal.nD Cert.KernelIdeal.τ).loc Cert.KernelIdeal.main_arg1)),
    fun c _ => manLoss (adjacency (edges m c)) (predOf m c), ?_, ?_⟩
  · refine (θ_run Cert.KernelIdeal.defs _ _).mono (fun r h c => ?_) (run_main (F := Ideal) m g hok)
    refine ⟨(h.1 c Cert.KernelIdeal.main_v5_0 (by decide)).trans (pred_at_end m c (hok c)), (h.1 c Cert.KernelIdeal.main_v5_1 (by decide)).trans (gf_at_end m c (hok c)),
      (h.1 c Cert.KernelIdeal.main_v6 (by decide)).trans (funext (pos_at_end m c (hok c))), (h.1 c Cert.KernelIdeal.main_v7 (by decide)).trans (funext (man_at_end m c (hok c))),
      (h.1 c Cert.KernelIdeal.main_arg0 (by decide)).trans (W4_arg m c Cert.KernelIdeal.main_arg0 (by decide)),
      (h.1 c Cert.KernelIdeal.main_arg1 (by decide)).trans (W4_arg m c Cert.KernelIdeal.main_arg1 (by decide)),
      (h.1 c Cert.KernelIdeal.main_arg2 (by decide)).trans (W4_arg m c Cert.KernelIdeal.main_arg2 (by decide)),
      (h.1 c Cert.KernelIdeal.main_arg3 (by decide)).trans (W4_arg m c Cert.KernelIdeal.main_arg3 (by decide)),
      (h.1 c Cert.KernelIdeal.main_arg4 (by decide)).trans (W4_arg m c Cert.KernelIdeal.main_arg4 (by decide)),
      (h.1 c Cert.KernelIdeal.main_arg5 (by decide)).trans (W4_arg m c Cert.KernelIdeal.main_arg5 (by decide)),
      (h.1 c Cert.KernelIdeal.main_arg6 (by decide)).trans (W4_arg m c Cert.KernelIdeal.main_arg6 (by decide)),
      (h.1 c Cert.KernelIdeal.main_arg7 (by decide)).trans (W4_arg m c Cert.KernelIdeal.main_arg7 (by decide)),
      (h.1 c Cert.KernelIdeal.main_arg8 (by decide)).trans (W4_arg m c Cert.KernelIdeal.main_arg8 (by decide)),
      (h.1 c Cert.KernelIdeal.main_arg9 (by decide)).trans (W4_arg m c Cert.KernelIdeal.main_arg9 (by decide))⟩
  · refine (θ_run Cert.ReferenceIdeal.defs _ _).mono (fun r h c => ?_) (Cert.ReferenceIdeal.Value.run m' g')
    obtain ⟨h0, h1, h2, h3, hr⟩ := h c
    have S := hS c
    refine ⟨h0.trans (ref_predOf S (hok c)), h1.trans ?_, h2.trans ?_, h3.trans ?_, hr⟩
    · refine (pool_eq (Cert.ReferenceIdeal.Value.res_main_v97 (refArgs m' c)) (refArgs m' c (Proc.devRef .tc Cert.ReferenceIdeal.main_arg9))).trans ?_
      rw [ref_feats S (hok c), S.a9]
    · refine funext fun p => (v225_eq (refArgs m' c) p).trans ?_
      rw [ref_predOf S (hok c), S.a1]
    · refine funext fun p => (v229_eq (refArgs m' c) (ref_in S (hok c)) p).trans ?_
      rw [ref_predOf S (hok c), S.a8]

end Cert.Proof.Val
-- ==== Proof.lean ====
module

public import proofs.«01_k».proof.Defs
public import proofs.«01_k».proof.Proof.Frames
public import proofs.«01_k».proof.Proof.FrameRef
public import proofs.«01_k».proof.Proof.Algebraic

@[expose] public section

noncomputable section

namespace Cert.Proof

open Cert.Proof.Edge
open Cert.Proof.Val (frame_ref_pre algebraic)

theorem claim : Cert.Claim :=
  ⟨Cert.Kernel.Gen.facts, Cert.KernelIdeal.Gen.facts, Cert.ReferenceIdeal.Gen.facts, preFacts,
    frame_bits, frame_ideal, frame_ref, frame_ref_pre, preserves, algebraic⟩

end Cert.Proof

end
